-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_norms_finite [hPre_norms_finite : Cert.Pre_norms_finite.Facts] (m : (ℓ : Loc Cert.GqaIdeal.nD Cert.GqaIdeal.τ Cert.GqaIdeal.sig) → Buf (Elt Ideal) ℓ) : Prop :=
  ∀ c : Dev Cert.GqaIdeal.nD,
    (Cert.Pre_norms_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_norms_finite [hPre_norms_finite : Cert.Pre_norms_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_norms_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffRefIdeal (m : (ℓ : Loc Cert.DiffRefIdeal.nD Cert.DiffRefIdeal.τ Cert.DiffRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_norms_finite [hGqaIdeal : Cert.GqaIdeal.Facts] [hPre_norms_finite : Cert.Pre_norms_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_norms_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_norms_finite [hGqaRefIdeal : Cert.GqaRefIdeal.Facts] [hPre_norms_finite : Cert.Pre_norms_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_norms_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Gqa_GqaIdeal : Prop :=
  IdealRules.named_const.Statement Cert.GqaIdeal.κ "scale_log2e" .f32 0x3E38AA3B#32 ((8⁻¹ * (Real.log 2)⁻¹ : ℝ) : EReal)

def algebraic_GqaIdeal_GqaRefIdeal_pre_norms_finite [hGqaIdeal : Cert.GqaIdeal.Facts] [hGqaRefIdeal : Cert.GqaRefIdeal.Facts] [hPre_norms_finite : Cert.Pre_norms_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_norms_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v109)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v109) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v169) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v21)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v21) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v54) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Diff_DiffIdeal : Prop :=
  IdealRules.named_const.Statement Cert.DiffIdeal.κ "scale_log2e" .f32 0x3E8293EE#32 (((Real.sqrt 32)⁻¹ * (Real.log 2)⁻¹ : ℝ) : EReal)

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v42) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hGqa : Cert.Gqa.Facts) (hGqaIdeal : Cert.GqaIdeal.Facts) (hGqaRefIdeal : Cert.GqaRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hDiff : Cert.Diff.Facts) (hDiffIdeal : Cert.DiffIdeal.Facts) (hDiffRefIdeal : Cert.DiffRefIdeal.Facts) (hMod : Cert.Mod.Facts) (hModIdeal : Cert.ModIdeal.Facts) (hModRefIdeal : Cert.ModRefIdeal.Facts) (hPre_norms_finite : Cert.Pre_norms_finite.Facts),
    quiescent_Gqa (hGqa := hGqa)
    ∧ quiescent_GqaIdeal (hGqaIdeal := hGqaIdeal)
    ∧ quiescent_GqaIdeal_pre_norms_finite (hGqaIdeal := hGqaIdeal) (hPre_norms_finite := hPre_norms_finite)
    ∧ quiescent_GqaRefIdeal (hGqaRefIdeal := hGqaRefIdeal)
    ∧ quiescent_GqaRefIdeal_pre_norms_finite (hGqaRefIdeal := hGqaRefIdeal) (hPre_norms_finite := hPre_norms_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Diff (hDiff := hDiff)
    ∧ quiescent_DiffIdeal (hDiffIdeal := hDiffIdeal)
    ∧ quiescent_DiffRefIdeal (hDiffRefIdeal := hDiffRefIdeal)
    ∧ quiescent_Mod (hMod := hMod)
    ∧ quiescent_ModIdeal (hModIdeal := hModIdeal)
    ∧ quiescent_ModRefIdeal (hModRefIdeal := hModRefIdeal)
    ∧ preserves_Gqa_GqaIdeal
    ∧ algebraic_GqaIdeal_GqaRefIdeal_pre_norms_finite (hGqaIdeal := hGqaIdeal) (hGqaRefIdeal := hGqaRefIdeal) (hPre_norms_finite := hPre_norms_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Diff_DiffIdeal
    ∧ preserves_Mod_ModIdeal
    ∧ algebraic_ModIdeal_ModRefIdeal (hModIdeal := hModIdeal) (hModRefIdeal := hModRefIdeal)
-- ==== Pre_norms_finite.lean ====
abbrev S8x2048x3344 : Shape := ⟨3, ![8, 2048, 3344]⟩
abbrev S8x256x3344 : Shape := ⟨3, ![8, 256, 3344]⟩
abbrev S64 : Shape := ⟨1, ![64]⟩
abbrev S8x2048x384 : Shape := ⟨3, ![8, 2048, 384]⟩
abbrev S_ : Shape := ⟨0, ![]⟩
abbrev S8x256x128 : Shape := ⟨3, ![8, 256, 128]⟩

class Facts : Prop where
  slices_S8x2048x3344_S8x2048x384_0_0_1552 : S8x2048x3344.Slices ![0, 0, 1552] S8x2048x384
  bcast_S_S8x2048x384 : S_.BroadcastsInDim S8x2048x384 (![] : Fin 0 → Fin S8x2048x384.rank)
  reducesTo_S8x2048x384_S_d0_1_2 : S8x2048x384.ReducesTo [0, 1, 2] S_
  h_S_ : 0 < S_.numel
  slices_S8x256x3344_S8x256x128_0_0_1808 : S8x256x3344.Slices ![0, 0, 1808] S8x256x128
  bcast_S_S8x256x128 : S_.BroadcastsInDim S8x256x128 (![] : Fin 0 → Fin S8x256x128.rank)
  reducesTo_S8x256x128_S_d0_1_2 : S8x256x128.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  main_v20

def fn {F : FTy → Type} [FloatOps F] (main_arg0 : FVec F S8x2048x3344 .f32) (main_arg1 : FVec F S8x256x3344 .f32) (main_arg2 : FVec F S64 .f32) (main_arg3 : FVec F S64 .f32) : IVec S_ 1 :=
  let main_v0 : FVec F S8x2048x384 .f32 := (extractStridedSlice S8x2048x384 ![0, 0, 1552] · slices_S8x2048x3344_S8x2048x384_0_0_1552) main_arg0
  let main_v1 : FVec F S8x2048x384 .f32 := Host.absf main_v0
  let main_cst : FVec F S_ .f32 := constant S_ .f32 0x7F800000#32
  let main_v2 : FVec F S8x2048x384 .f32 := broadcastInDim S8x2048x384 ![] bcast_S_S8x2048x384 main_cst
  let main_v3 : IVec S8x2048x384 1 := cmpf .olt main_v1 main_v2
  let main_c : IVec S_ 1 := constantI S_ 1 1#1
  let main_v4 : IVec S_ 1 := (fun x v => Host.reduce IntOp.andi x v reducesTo_S8x2048x384_S_d0_1_2 h_S_) main_v3 main_c
  let main_v5 : FVec F S8x256x128 .f32 := (extractStridedSlice S8x256x128 ![0, 0, 1808] · slices_S8x256x3344_S8x256x128_0_0_1808) main_arg1
  let main_v6 : FVec F S8x256x128 .f32 := Host.absf main_v5
  let main_cst_0 : FVec F S_ .f32 := constant S_ .f32 0x7F800000#32
  let main_v7 : FVec F S8x256x128 .f32 := broadcastInDim S8x256x128 ![] bcast_S_S8x256x128 main_cst_0
  let main_v8 : IVec S8x256x128 1 := cmpf .olt main_v6 main_v7
  let main_c_1 : IVec S_ 1 := constantI S_ 1 1#1
  let main_v9 : IVec S_ 1 := (fun x v => Host.reduce IntOp.andi x v reducesTo_S8x256x128_S_d0_1_2 h_S_) main_v8 main_c_1
  let main_v10 : IVec S_ 1 := andi main_v4 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_v15 main_v16 main_cst_4
-- ==== Gqa.lean ====
abbrev S8x2048x3344 : Shape := ⟨3, ![8, 2048, 3344]⟩
abbrev S8x256x3344 : Shape := ⟨3, ![8, 256, 3344]⟩
abbrev S64 : Shape := ⟨1, ![64]⟩
abbrev S16384x3344 : Shape := ⟨2, ![16384, 3344]⟩
abbrev S16384x1536 : Shape := ⟨2, ![16384, 1536]⟩
abbrev S16384x64 : Shape := ⟨2, ![16384, 64]⟩
abbrev S16384x384 : Shape := ⟨2, ![16384, 384]⟩
abbrev S16384x1088 : Shape := ⟨2, ![16384, 1088]⟩
abbrev S16384x4 : Shape := ⟨2, ![16384, 4]⟩
abbrev S_ : Shape := ⟨0, ![]⟩
abbrev S16384x116 : Shape := ⟨2, ![16384, 116]⟩
abbrev S16384x3584 : Shape := ⟨2, ![16384, 3584]⟩
abbrev S2048x3344 : Shape := ⟨2, ![2048, 3344]⟩
abbrev S2048x1536 : Shape := ⟨2, ![2048, 1536]⟩
abbrev S2048x64 : Shape := ⟨2, ![2048, 64]⟩
abbrev S2048x384 : Shape := ⟨2, ![2048, 384]⟩
abbrev S2048x1088 : Shape := ⟨2, ![2048, 1088]⟩
abbrev S2048x4 : Shape := ⟨2, ![2048, 4]⟩
abbrev S2048x116 : Shape := ⟨2, ![2048, 116]⟩
abbrev S2048x3584 : Shape := ⟨2, ![2048, 3584]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S1x1x2x64 : Shape := ⟨4, ![1, 1, 2, 64]⟩
abbrev S1x128 : Shape := ⟨2, ![1, 128]⟩
abbrev S32 : Shape := ⟨1, ![32]⟩
abbrev S32x64 : Shape := ⟨2, ![32, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8 : Shape := ⟨1, ![8]⟩
abbrev S1x8 : Shape := ⟨2, ![1, 8]⟩
abbrev S2048x8 : Shape := ⟨2, ![2048, 8]⟩
abbrev S1x2048x1x32 : Shape := ⟨4, ![1, 2048, 1, 32]⟩
abbrev S1x2048x8x32 : Shape := ⟨4, ![1, 2048, 8, 32]⟩
abbrev S16384x256 : Shape := ⟨2, ![16384, 256]⟩
abbrev S1024x256 : Shape := ⟨2, ![1024, 256]⟩
abbrev S256x256 : Shape := ⟨2, ![256, 256]⟩
abbrev S2048x128 : Shape := ⟨2, ![2048, 128]⟩
abbrev S128x2304 : Shape := ⟨2, ![128, 2304]⟩
abbrev S2304x256 : Shape := ⟨2, ![2304, 256]⟩
abbrev S128x128 : Shape := ⟨2, ![128, 128]⟩
abbrev S256x128 : Shape := ⟨2, ![256, 128]⟩
abbrev S128x256 : Shape := ⟨2, ![128, 256]⟩
abbrev S128x2048 : Shape := ⟨2, ![128, 2048]⟩
abbrev S2304x128 : Shape := ⟨2, ![2304, 128]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩
abbrev S512x256 : Shape := ⟨2, ![512, 256]⟩

abbrev nBuf : Space → Nat
  | .hbm => 126
  | .vmem => 20
  | .smem => 0
  | _ => 0

abbrev bufTy : (tb : Table) → Fin (tcTables nBuf tb) → BufTy
  | .hbm, ⟨0, _⟩ => ⟨S8x2048x3344, .f32⟩
  | .hbm, ⟨1, _⟩ => ⟨S8x256x3344, .f32⟩
  | .hbm, ⟨2, _⟩ => ⟨S64, .f32⟩
  | .hbm, ⟨3, _⟩ => ⟨S64, .f32⟩
  | .hbm, ⟨4, _⟩ => ⟨S16384x3344, .f32⟩
  | .hbm, ⟨5, _⟩ => ⟨S16384x1536, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S16384x384, .f32⟩
  | .hbm, ⟨10, _⟩ => ⟨S16384x64, .f32⟩
  | .hbm, ⟨11, _⟩ => ⟨S16384x64, .f32⟩
  | .hbm, ⟨12, _⟩ => ⟨S16384x1088, .f32⟩
  | .hbm, ⟨13, _⟩ => ⟨S16384x4, .f32⟩
  | .hbm, ⟨14, _⟩ => ⟨S_, .f32⟩
  | .hbm, ⟨15, _⟩ => ⟨S16384x4, .f32⟩
  | .hbm, ⟨16, _⟩ => ⟨S16384x4, .f32⟩
  | .hbm, ⟨17, _⟩ => ⟨S_, .f32⟩
  | .hbm, ⟨18, _⟩ => ⟨S16384x116, .f32⟩
  | .hbm, ⟨19, _⟩ => ⟨S16384x4, .f32⟩
  | .hbm, ⟨20, _⟩ => ⟨S_, .f32⟩
  | .hbm, ⟨21, _⟩ => ⟨S16384x4, .f32⟩
  | .hbm, ⟨22, _⟩ => ⟨S16384x4, .f32⟩
  | .hbm, ⟨23, _⟩ => ⟨S_, .f32⟩
  | .hbm, ⟨24, _⟩ => ⟨S16384x116, .f32⟩
  | .hbm, ⟨25, _⟩ => ⟨S16384x3584, .f32⟩
  | .hbm, ⟨26, _⟩ => ⟨S2048x3344, .f32⟩
  | .hbm, ⟨27, _⟩ => ⟨S2048x1536, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x384, .f32⟩
  | .hbm, ⟨32, _⟩ => ⟨S2048x64, .f32⟩
  | .hbm, ⟨33, _⟩ => ⟨S2048x64, .f32⟩
  | .hbm, ⟨34, _⟩ => ⟨S2048x1088, .f32⟩
  | .hbm, ⟨35, _⟩ => ⟨S2048x4, .f32⟩
  | .hbm, ⟨36, _⟩ => ⟨S_, .f32⟩
  | .hbm, ⟨37, _⟩ => ⟨S2048x4, .f32⟩
  | .hbm, ⟨38, _⟩ => ⟨S2048x4, .f32⟩
  | .hbm, ⟨39, _⟩ => ⟨S_, .f32⟩
  | .hbm, ⟨40, _⟩ => ⟨S2048x116, .f32⟩
  | .hbm, ⟨41, _⟩ => ⟨S2048x4, .f32⟩
  | .hbm, ⟨42, _⟩ => ⟨S_, .f32⟩
  | .hbm, ⟨43, _⟩ => ⟨S2048x4, .f32⟩
  | .hbm, ⟨44, _⟩ => ⟨S2048x4, .f32⟩
  | .hbm, ⟨45, _⟩ => ⟨S_, .f32⟩
  | .hbm, ⟨46, _⟩ => ⟨S2048x116, .f32⟩
  | .hbm, ⟨47, _⟩ => ⟨S2048x3584, .f32⟩
  | .hbm, ⟨48, _⟩ => ⟨S1x64, .f32⟩
  | .hbm, ⟨49, _⟩ => ⟨S1x1x1x64, .f32⟩
  | .hbm, ⟨50, _⟩ => ⟨S1x1x4x64, .f32⟩
  | .hbm, ⟨51, _⟩ => ⟨S1x256, .f32⟩
  | .hbm, ⟨52, _⟩ => ⟨S1x64, .f32⟩
  | .hbm, ⟨53, _⟩ => ⟨S1x1x1x64, .f32⟩
  | .hbm, ⟨54, _⟩ => ⟨S1x1x2x64, .f32⟩
  | .hbm, ⟨55, _⟩ => ⟨S1x128, .f32⟩
  | .hbm, ⟨56, _⟩ => ⟨S32, .i32⟩
  | .hbm, ⟨57, _⟩ => ⟨S32x64, .i32⟩
  | .hbm, ⟨58, _⟩ => ⟨S2048, .i32⟩
  | .hbm, ⟨59, _⟩ => ⟨S2048, .f32⟩
  | .hbm, ⟨60, _⟩ => ⟨S64, .i32⟩
  | .hbm, ⟨61, _⟩ => ⟨S1x64, .i32⟩
  | .hbm, ⟨62, _⟩ => ⟨S32x64, .i32⟩
  | .hbm, ⟨63, _⟩ => ⟨S2048, .i32⟩
  | .hbm, ⟨64, _⟩ => ⟨S2048, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S2048x1, .f32⟩
  | .hbm, ⟨74, _⟩ => ⟨S1x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x1, .f32⟩
  | .hbm, ⟨79, _⟩ => ⟨S1x16, .f32⟩
  | .hbm, ⟨80, _⟩ => ⟨S2048x16, .f32⟩
  | .hbm, ⟨81, _⟩ => ⟨S2048x16, .f32⟩
  | .hbm, ⟨82, _⟩ => ⟨S2048x16, .f32⟩
  | .hbm, ⟨83, _⟩ => ⟨S2048x32, .f32⟩
  | .hbm, ⟨84, _⟩ => ⟨S2048x32, .f32⟩
  | .hbm, ⟨85, _⟩ => ⟨S2048x32, .f32⟩
  | .hbm, ⟨86, _⟩ => ⟨S2048x64, .f32⟩
  | .hbm, ⟨87, _⟩ => ⟨S2048x32, .f32⟩
  | .hbm, ⟨88, _⟩ => ⟨S2048x64, .f32⟩
  | .hbm, ⟨89, _⟩ => ⟨S1x2048x1x64, .f32⟩
  | .hbm, ⟨90, _⟩ => ⟨S1x2048x4x64, .f32⟩
  | .hbm, ⟨91, _⟩ => ⟨S2048x256, .f32⟩
  | .hbm, ⟨92, _⟩ => ⟨S1x2048x1x64, .f32⟩
  | .hbm, ⟨93, _⟩ => ⟨S1x2048x4x64, .f32⟩
  | .hbm, ⟨94, _⟩ => ⟨S2048x256, .f32⟩
  | .hbm, ⟨95, _⟩ => ⟨S8, .f32⟩
  | .hbm, ⟨96, _⟩ => ⟨S8, .f32⟩
  | .hbm, ⟨97, _⟩ => ⟨S_, .f32⟩
  | .hbm, ⟨98, _⟩ => ⟨S8, .f32⟩
  | .hbm, ⟨99, _⟩ => ⟨S8, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S2048x1, .f32⟩
  | .hbm, ⟨104, _⟩ => ⟨S1x8, .f32⟩
  | .hbm, ⟨105, _⟩ => ⟨S2048x8, .f32⟩
  | .hbm, ⟨106, _⟩ => ⟨S2048x8, .f32⟩
  | .hbm, ⟨107, _⟩ => ⟨S2048x8, .f32⟩
  | .hbm, ⟨108, _⟩ => ⟨S2048x1, .f32⟩
  | .hbm, ⟨109, _⟩ => ⟨S1x8, .f32⟩
  | .hbm, ⟨110, _⟩ => ⟨S2048x8, .f32⟩
  | .hbm, ⟨111, _⟩ => ⟨S2048x8, .f32⟩
  | .hbm, ⟨112, _⟩ => ⟨S2048x8, .f32⟩
  | .hbm, ⟨113, _⟩ => ⟨S2048x16, .f32⟩
  | .hbm, ⟨114, _⟩ => ⟨S2048x16, .f32⟩
  | .hbm, ⟨115, _⟩ => ⟨S2048x16, .f32⟩
  | .hbm, ⟨116, _⟩ => ⟨S2048x32, .f32⟩
  | .hbm, ⟨117, _⟩ => ⟨S2048x16, .f32⟩
  | .hbm, ⟨118, _⟩ => ⟨S2048x32, .f32⟩
  | .hbm, ⟨119, _⟩ => ⟨S1x2048x1x32, .f32⟩
  | .hbm, ⟨120, _⟩ => ⟨S1x2048x8x32, .f32⟩
  | .hbm, ⟨121, _⟩ => ⟨S2048x256, .f32⟩
  | .hbm, ⟨122, _⟩ => ⟨S1x2048x1x32, .f32⟩
  | .hbm, ⟨123, _⟩ => ⟨S1x2048x8x32, .f32⟩
  | .hbm, ⟨124, _⟩ => ⟨S2048x256, .f32⟩
  | .hbm, ⟨125, _⟩ => ⟨S16384x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S2048x128, .f32⟩
  | .local _ .vmem, ⟨13, _⟩ => ⟨S2048x128, .f32⟩
  | .local _ .vmem, ⟨14, _⟩ => ⟨S1x256, .f32⟩
  | .local _ .vmem, ⟨15, _⟩ => ⟨S1x128, .f32⟩
  | .local _ .vmem, ⟨16, _⟩ => ⟨S1024x256, .bf16⟩
  | .local _ .vmem, ⟨17, _⟩ => ⟨S1024x256, .bf16⟩
  | .local _ .vmem, ⟨18, _⟩ => ⟨S128x2304, .bf16⟩
  | .local _ .vmem, ⟨19, _⟩ => ⟨S2304x256, .bf16⟩
  | _, _ => ⟨S8x2048x3344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_cst_10 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let c0_i32 : BitVec 32 := 0#32
  ![v1.toNat, c8_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GqaIdeal.lean ====
variable {F : FTy → Type} [FloatOps F] [Named F]
def κ : String → Option EReal := fun
  | "scale_log2e" => some ((8⁻¹ * (Real.log 2)⁻¹ : ℝ) : EReal)
  | _ => none
-- ==== GqaRefIdeal.lean ====
abbrev S8x2048x3344 : Shape := ⟨3, ![8, 2048, 3344]⟩
abbrev S8x256x3344 : Shape := ⟨3, ![8, 256, 3344]⟩
abbrev S64 : Shape := ⟨1, ![64]⟩
abbrev S8x2048x1024 : Shape := ⟨3, ![8, 2048, 1024]⟩
abbrev S8x2048x512 : Shape := ⟨3, ![8, 2048, 512]⟩
abbrev S8x2048x16 : Shape := ⟨3, ![8, 2048, 16]⟩
abbrev S8x2048x256 : Shape := ⟨3, ![8, 2048, 256]⟩
abbrev S8x2048x128 : Shape := ⟨3, ![8, 2048, 128]⟩
abbrev S8x256x1024 : Shape := ⟨3, ![8, 256, 1024]⟩
abbrev S8x256x512 : Shape := ⟨3, ![8, 256, 512]⟩
abbrev S8x256x16 : Shape := ⟨3, ![8, 256, 16]⟩
abbrev S8x256x256 : Shape := ⟨3, ![8, 256, 256]⟩
abbrev S8x256x128 : Shape := ⟨3, ![8, 256, 128]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S8x256x2x64 : Shape := ⟨4, ![8, 256, 2, 64]⟩
abbrev S8x256x2 : Shape := ⟨3, ![8, 256, 2]⟩
abbrev S8x256x2x1 : Shape := ⟨4, ![8, 256, 2, 1]⟩
abbrev S8x2048x4x32 : Shape := ⟨4, ![8, 2048, 4, 32]⟩
abbrev S1x2048x1x32 : Shape := ⟨4, ![1, 2048, 1, 32]⟩
abbrev S8x2048x2x32 : Shape := ⟨4, ![8, 2048, 2, 32]⟩
abbrev S8x2304x2x64 : Shape := ⟨4, ![8, 2304, 2, 64]⟩
abbrev S8x2048x2x2x64 : Shape := ⟨5, ![8, 2048, 2, 2, 64]⟩
abbrev S8x2x2304x2048x2 : Shape := ⟨5, ![8, 2, 2304, 2048, 2]⟩
abbrev S8x2x2x2048x2304 : Shape := ⟨5, ![8, 2, 2, 2048, 2304]⟩
abbrev S8x2x2x2048 : Shape := ⟨4, ![8, 2, 2, 2048]⟩
abbrev S8x2x2x2048x1 : Shape := ⟨5, ![8, 2, 2, 2048, 1]⟩
abbrev S8x2x64x2x2048 : Shape := ⟨5, ![8, 2, 64, 2, 2048]⟩
abbrev S8x2048x64 : Shape := ⟨3, ![8, 2048, 64]⟩
abbrev S16384x256 : Shape := ⟨2, ![16384, 256]⟩

abbrev nBuf : Space → Nat
  | .hbm => 199
  | .vmem => 0
  | .smem => 0
  | _ => 0

abbrev hbmTy0_0 (i : Nat) : BufTy := match i % 128 with
  | 0 => ⟨S8x2048x3344, .f32⟩
  | 1 => ⟨S8x256x3344, .f32⟩
  | 2 => ⟨S64, .f32⟩
  | 3 => ⟨S64, .f32⟩
  | 4 => ⟨S8x2048x1024, .f32⟩
  | 5 => ⟨S8x2048x512, .f32⟩
  | 6 => ⟨S8x2048x16, .f32⟩
  | 7 => ⟨S8x2048x256, .f32⟩
  | 8 => ⟨S8x2048x128, .f32⟩
  | 9 => ⟨S8x2048x128, .f32⟩
  | 10 => ⟨S8x2048x256, .f32⟩
  | 11 => ⟨S8x2048x256, .f32⟩
  | 12 => ⟨S8x2048x256, .f32⟩
  | 13 => ⟨S8x2048x256, .f32⟩
  | 14 => ⟨S8x2048x256, .f32⟩
  | 15 => ⟨S8x256x1024, .f32⟩
  | 16 => ⟨S8x256x512, .f32⟩
  | 17 => ⟨S8x256x16, .f32⟩
  | 18 => ⟨S8x256x256, .f32⟩
  | 19 => ⟨S8x256x128, .f32⟩
  | 20 => ⟨S8x256x128, .f32⟩
  | 21 => ⟨S8x256x256, .f32⟩
  | 22 => ⟨S8x256x256, .f32⟩
  | 23 => ⟨S8x256x256, .f32⟩
  | 24 => ⟨S8x256x256, .f32⟩
  | 25 => ⟨S8x256x256, .f32⟩
  | 26 => ⟨S32, .i32⟩
  | 27 => ⟨S32x64, .i32⟩
  | 28 => ⟨S2048, .i32⟩
  | 29 => ⟨S64, .i32⟩
  | 30 => ⟨S1x64, .i32⟩
  | 31 => ⟨S32x64, .i32⟩
  | 32 => ⟨S2048, .i32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S2048, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048, .f32⟩
  | 48 => ⟨S2048x1, .f32⟩
  | 49 => ⟨S1x16, .f32⟩
  | 50 => ⟨S2048x16, .f32⟩
  | 51 => ⟨S2048x16, .f32⟩
  | 52 => ⟨S2048x16, .f32⟩
  | 53 => ⟨S2048x32, .f32⟩
  | 54 => ⟨S8x2048x4x64, .f32⟩
  | 55 => ⟨S8x2048x4x64, .f32⟩
  | 56 => ⟨S_, .f32⟩
  | 57 => ⟨S8x2048x4, .f32⟩
  | 58 => ⟨S8x2048x4x1, .f32⟩
  | 59 => ⟨S_, .f32⟩
  | 60 => ⟨S8x2048x4x1, .f32⟩
  | 61 => ⟨S8x2048x4x1, .f32⟩
  | 62 => ⟨S_, .f32⟩
  | 63 => ⟨S8x2048x4x1, .f32⟩
  | 64 => ⟨S8x2048x4x1, .f32⟩
  | 65 => ⟨S8x2048x4x1, .f32⟩
  | 66 => ⟨S8x2048x4x64, .f32⟩
  | 67 => ⟨S8x2048x4x64, .f32⟩
  | 68 => ⟨S1x1x1x64, .f32⟩
  | 69 => ⟨S8x2048x4x64, .f32⟩
  | 70 => ⟨S8x2048x4x64, .f32⟩
  | 71 => ⟨S8x2048x2x64, .f32⟩
  | 72 => ⟨S8x2048x2x64, .f32⟩
  | 73 => ⟨S_, .f32⟩
  | 74 => ⟨S8x2048x2, .f32⟩
  | 75 => ⟨S8x2048x2x1, .f32⟩
  | 76 => ⟨S_, .f32⟩
  | 77 => ⟨S8x2048x2x1, .f32⟩
  | 78 => ⟨S8x2048x2x1, .f32⟩
  | 79 => ⟨S_, .f32⟩
  | 80 => ⟨S8x2048x2x1, .f32⟩
  | 81 => ⟨S8x2048x2x1, .f32⟩
  | 82 => ⟨S8x2048x2x1, .f32⟩
  | 83 => ⟨S8x2048x2x64, .f32⟩
  | 84 => ⟨S8x2048x2x64, .f32⟩
  | 85 => ⟨S1x1x1x64, .f32⟩
  | 86 => ⟨S8x2048x2x64, .f32⟩
  | 87 => ⟨S8x2048x2x64, .f32⟩
  | 88 => ⟨S8x2048x2x64, .f32⟩
  | 89 => ⟨S8x256x4x64, .f32⟩
  | 90 => ⟨S8x256x4x64, .f32⟩
  | 91 => ⟨S_, .f32⟩
  | 92 => ⟨S8x256x4, .f32⟩
  | 93 => ⟨S8x256x4x1, .f32⟩
  | 94 => ⟨S_, .f32⟩
  | 95 => ⟨S8x256x4x1, .f32⟩
  | 96 => ⟨S8x256x4x1, .f32⟩
  | 97 => ⟨S_, .f32⟩
  | 98 => ⟨S8x256x4x1, .f32⟩
  | 99 => ⟨S8x256x4x1, .f32⟩
  | 100 => ⟨S8x256x4x1, .f32⟩
  | 101 => ⟨S8x256x4x64, .f32⟩
  | 102 => ⟨S8x256x4x64, .f32⟩
  | 103 => ⟨S1x1x1x64, .f32⟩
  | 104 => ⟨S8x256x4x64, .f32⟩
  | 105 => ⟨S8x256x4x64, .f32⟩
  | 106 => ⟨S8x256x2x64, .f32⟩
  | 107 => ⟨S8x256x2x64, .f32⟩
  | 108 => ⟨S_, .f32⟩
  | 109 => ⟨S8x256x2, .f32⟩
  | 110 => ⟨S8x256x2x1, .f32⟩
  | 111 => ⟨S_, .f32⟩
  | 112 => ⟨S8x256x2x1, .f32⟩
  | 113 => ⟨S8x256x2x1, .f32⟩
  | 114 => ⟨S_, .f32⟩
  | 115 => ⟨S8x256x2x1, .f32⟩
  | 116 => ⟨S8x256x2x1, .f32⟩
  | 117 => ⟨S8x256x2x1, .f32⟩
  | 118 => ⟨S8x256x2x64, .f32⟩
  | 119 => ⟨S8x256x2x64, .f32⟩
  | 120 => ⟨S1x1x1x64, .f32⟩
  | 121 => ⟨S8x256x2x64, .f32⟩
  | 122 => ⟨S8x256x2x64, .f32⟩
  | 123 => ⟨S8x256x2x64, .f32⟩
  | 124 => ⟨S8x2048x4x32, .f32⟩
  | 125 => ⟨S8x2048x4x32, .f32⟩
  | 126 => ⟨S2048x32, .f32⟩
  | 127 => ⟨S1x2048x1x32, .f32⟩
  | _ => ⟨S8x2048x3344, .f32⟩

abbrev hbmTy0_1 (i : Nat) : BufTy := match i % 128 with
  | 0 => ⟨S2048x32, .f32⟩
  | 1 => ⟨S1x2048x1x32, .f32⟩
  | 2 => ⟨S8x2048x4x32, .f32⟩
  | 3 => ⟨S8x2048x4x32, .f32⟩
  | 4 => ⟨S8x2048x4x32, .f32⟩
  | 5 => ⟨S8x2048x4x32, .f32⟩
  | 6 => ⟨S8x2048x4x32, .f32⟩
  | 7 => ⟨S8x2048x4x32, .f32⟩
  | 8 => ⟨S8x2048x4x32, .f32⟩
  | 9 => ⟨S8x2048x4x32, .f32⟩
  | 10 => ⟨S8x2048x4x32, .f32⟩
  | 11 => ⟨S8x2048x4x32, .f32⟩
  | 12 => ⟨S8x2048x4x64, .f32⟩
  | 13 => ⟨S8x2048x2x32, .f32⟩
  | 14 => ⟨S8x2048x2x32, .f32⟩
  | 15 => ⟨S2048x32, .f32⟩
  | 16 => ⟨S1x2048x1x32, .f32⟩
  | 17 => ⟨S2048x32, .f32⟩
  | 18 => ⟨S1x2048x1x32, .f32⟩
  | 19 => ⟨S8x2048x2x32, .f32⟩
  | 20 => ⟨S8x2048x2x32, .f32⟩
  | 21 => ⟨S8x2048x2x32, .f32⟩
  | 22 => ⟨S8x2048x2x32, .f32⟩
  | 23 => ⟨S8x2048x2x32, .f32⟩
  | 24 => ⟨S8x2048x2x32, .f32⟩
  | 25 => ⟨S8x2048x2x32, .f32⟩
  | 26 => ⟨S8x2048x2x32, .f32⟩
  | 27 => ⟨S8x2048x2x32, .f32⟩
  | 28 => ⟨S8x2048x2x32, .f32⟩
  | 29 => ⟨S8x2048x2x64, .f32⟩
  | 30 => ⟨S8x2304x2x64, .f32⟩
  | 31 => ⟨S8x2304x2x64, .f32⟩
  | 32 => ⟨S8x2048x2x2x64, .f32⟩
  | 33 => ⟨S8x2x2304x2048x2, .f32⟩
  | 34 => ⟨S8x2x2x2048x2304, .f32⟩
  | 35 => ⟨S_, .f32⟩
  | 36 => ⟨S_, .f32⟩
  | 37 => ⟨S8x2x2x2048x2304, .f32⟩
  | 38 => ⟨S8x2x2x2048x2304, .f32⟩
  | 39 => ⟨S_, .f32⟩
  | 40 => ⟨S8x2x2x2048, .f32⟩
  | 41 => ⟨S8x2x2x2048x1, .f32⟩
  | 42 => ⟨S8x2x2x2048x2304, .f32⟩
  | 43 => ⟨S8x2x2x2048x2304, .f32⟩
  | 44 => ⟨S8x2x2x2048x2304, .f32⟩
  | 45 => ⟨S_, .f32⟩
  | 46 => ⟨S8x2x2x2048, .f32⟩
  | 47 => ⟨S8x2x2x2048x1, .f32⟩
  | 48 => ⟨S8x2x2x2048x2304, .f32⟩
  | 49 => ⟨S8x2x2x2048x2304, .f32⟩
  | 50 => ⟨S8x2x64x2x2048, .f32⟩
  | 51 => ⟨S8x2048x2x2x64, .f32⟩
  | 52 => ⟨S8x2048x4x64, .f32⟩
  | 53 => ⟨S8x2048x256, .f32⟩
  | 54 => ⟨S8x2048x256, .f32⟩
  | 55 => ⟨S8x2048x256, .f32⟩
  | 56 => ⟨S_, .f32⟩
  | 57 => ⟨S8x2048x256, .f32⟩
  | 58 => ⟨S8x2048x256, .f32⟩
  | 59 => ⟨S_, .f32⟩
  | 60 => ⟨S8x2048x256, .f32⟩
  | 61 => ⟨S8x2048x256, .f32⟩
  | 62 => ⟨S8x2048x256, .f32⟩
  | 63 => ⟨S8x2048x256, .f32⟩
  | 64 => ⟨S8x2048x64, .f32⟩
  | 65 => ⟨S8x2048x64, .f32⟩
  | 66 => ⟨S8x2048x64, .f32⟩
  | 67 => ⟨S8x2048x64, .f32⟩
  | 68 => ⟨S8x2048x256, .f32⟩
  | 69 => ⟨S16384x256, .f32⟩
  | 70 => ⟨S16384x256, .bf16⟩
  | _ => ⟨S8x2048x3344, .f32⟩

abbrev hbmTy (i : Nat) : BufTy := match i / 128 with
  | 0 => hbmTy0_0 i
  | 1 => hbmTy0_1 i
  | _ => ⟨S8x2048x3344, .f32⟩

abbrev bufTy : (tb : Table) → Fin (tcTables nBuf tb) → BufTy
  | .hbm, ⟨i, _⟩ => hbmTy i
  | _, _ => ⟨S8x2048x3344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_1 : Ref sig .tc := ⟨.hbm, 56, rfl⟩
abbrev main_v50 : Ref sig .tc := ⟨.hbm, 57, rfl⟩
abbrev main_v51 : Ref sig .tc := ⟨.hbm, 58, rfl⟩
abbrev main_cst_2 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_4 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_cst_6 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_7 : Ref sig .tc := ⟨.hbm, 91, rfl⟩
abbrev main_v79 : Ref sig .tc := ⟨.hbm, 92, rfl⟩
abbrev main_v80 : Ref sig .tc := ⟨.hbm, 93, rfl⟩
abbrev main_cst_8 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_10 : Ref sig .tc := ⟨.hbm, 108, rfl⟩
abbrev main_v93 : Ref sig .tc := ⟨.hbm, 109, rfl⟩
abbrev main_v94 : Ref sig .tc := ⟨.hbm, 110, rfl⟩
abbrev main_cst_11 : Ref sig .tc := ⟨.hbm, 111, rfl⟩
abbrev main_v95 : Ref sig .tc := ⟨.hbm, 112, rfl⟩
abbrev main_v96 : Ref sig .tc := ⟨.hbm, 113, rfl⟩
abbrev main_cst_12 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_cst_13 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_cst_14 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_cst_15 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_call0_v0 : Ref sig .tc := ⟨.hbm, 182, rfl⟩
abbrev main_call0_v1 : Ref sig .tc := ⟨.hbm, 183, rfl⟩
abbrev main_call0_cst : Ref sig .tc := ⟨.hbm, 184, rfl⟩
abbrev main_call0_v2 : Ref sig .tc := ⟨.hbm, 185, rfl⟩
abbrev main_call0_v3 : Ref sig .tc := ⟨.hbm, 186, rfl⟩
abbrev main_call0_cst_0 : Ref sig .tc := ⟨.hbm, 187, rfl⟩
abbrev main_call0_v4 : Ref sig .tc := ⟨.hbm, 188, rfl⟩
abbrev main_call0_v5 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩

abbrev nD : Nat := 1
abbrev τ : Topo := Topo.v7x

variable {F : FTy → Type} [FloatOps F]
-- ==== InProj.lean ====
abbrev S8x2048x1024 : Shape := ⟨3, ![8, 2048, 1024]⟩
abbrev S16x3072 : Shape := ⟨2, ![16, 3072]⟩
abbrev S1024 : Shape := ⟨1, ![1024]⟩
abbrev S1024x3344 : Shape := ⟨2, ![1024, 3344]⟩
abbrev S1024x1536 : Shape := ⟨2, ![1024, 1536]⟩
abbrev S1024x64 : Shape := ⟨2, ![1024, 64]⟩
abbrev S1024x384 : Shape := ⟨2, ![1024, 384]⟩
abbrev S1024x1088 : Shape := ⟨2, ![1024, 1088]⟩
abbrev S1024x4 : Shape := ⟨2, ![1024, 4]⟩
abbrev S_ : Shape := ⟨0, ![]⟩
abbrev S1024x116 : Shape := ⟨2, ![1024, 116]⟩
abbrev S1024x3584 : Shape := ⟨2, ![1024, 3584]⟩
abbrev S16384x1024 : Shape := ⟨2, ![16384, 1024]⟩
abbrev S16x1x3072 : Shape := ⟨3, ![16, 1, 3072]⟩
abbrev S1x1024 : Shape := ⟨2, ![1, 1024]⟩
abbrev S16384x3584 : Shape := ⟨2, ![16384, 3584]⟩
abbrev S512x1024 : Shape := ⟨2, ![512, 1024]⟩
abbrev S1x1x3072 : Shape := ⟨3, ![1, 1, 3072]⟩
abbrev S512x3584 : Shape := ⟨2, ![512, 3584]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S512x512 : Shape := ⟨2, ![512, 512]⟩

abbrev nBuf : Space → Nat
  | .hbm => 30
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S1024, .f32⟩
  | .hbm, ⟨3, _⟩ => ⟨S1024x3344, .f32⟩
  | .hbm, ⟨4, _⟩ => ⟨S1024x1536, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x384, .f32⟩
  | .hbm, ⟨9, _⟩ => ⟨S1024x64, .f32⟩
  | .hbm, ⟨10, _⟩ => ⟨S1024x64, .f32⟩
  | .hbm, ⟨11, _⟩ => ⟨S1024x1088, .f32⟩
  | .hbm, ⟨12, _⟩ => ⟨S1024x4, .f32⟩
  | .hbm, ⟨13, _⟩ => ⟨S_, .f32⟩
  | .hbm, ⟨14, _⟩ => ⟨S1024x4, .f32⟩
  | .hbm, ⟨15, _⟩ => ⟨S1024x4, .f32⟩
  | .hbm, ⟨16, _⟩ => ⟨S_, .f32⟩
  | .hbm, ⟨17, _⟩ => ⟨S1024x116, .f32⟩
  | .hbm, ⟨18, _⟩ => ⟨S1024x4, .f32⟩
  | .hbm, ⟨19, _⟩ => ⟨S_, .f32⟩
  | .hbm, ⟨20, _⟩ => ⟨S1024x4, .f32⟩
  | .hbm, ⟨21, _⟩ => ⟨S1024x4, .f32⟩
  | .hbm, ⟨22, _⟩ => ⟨S_, .f32⟩
  | .hbm, ⟨23, _⟩ => ⟨S1024x116, .f32⟩
  | .hbm, ⟨24, _⟩ => ⟨S1024x3584, .f32⟩
  | .hbm, ⟨25, _⟩ => ⟨S1024x3584, .bf16⟩
  | .hbm, ⟨26, _⟩ => ⟨S16384x1024, .f32⟩
  | .hbm, ⟨27, _⟩ => ⟨S16x1x3072, .f32⟩
  | .hbm, ⟨28, _⟩ => ⟨S1x1024, .f32⟩
  | .hbm, ⟨29, _⟩ => ⟨S16384x3584, .f32⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x3584, .bf16⟩
  | .local _ .vmem, ⟨6, _⟩ => ⟨S512x3584, .f32⟩
  | .local _ .vmem, ⟨7, _⟩ => ⟨S512x3584, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8x2048x1024 : Shape := ⟨3, ![8, 2048, 1024]⟩
abbrev S16x3072 : Shape := ⟨2, ![16, 3072]⟩
abbrev S1024 : Shape := ⟨1, ![1024]⟩
abbrev S1024x3344 : Shape := ⟨2, ![1024, 3344]⟩
abbrev S8x3072 : Shape := ⟨2, ![8, 3072]⟩
abbrev S8x1x3072 : Shape := ⟨3, ![8, 1, 3072]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3344 : Shape := ⟨3, ![8, 2048, 3344]⟩
abbrev S16384x3344 : Shape := ⟨2, ![16384, 3344]⟩
abbrev S16384x1024 : Shape := ⟨2, ![16384, 1024]⟩
abbrev S16384x512 : Shape := ⟨2, ![16384, 512]⟩
abbrev S16384x16 : Shape := ⟨2, ![16384, 16]⟩
abbrev S16384x256 : Shape := ⟨2, ![16384, 256]⟩
abbrev S16384x128 : Shape := ⟨2, ![16384, 128]⟩
abbrev S16384x64 : Shape := ⟨2, ![16384, 64]⟩
abbrev S16384x4 : Shape := ⟨2, ![16384, 4]⟩
abbrev S16384x116 : Shape := ⟨2, ![16384, 116]⟩
abbrev S16384x3328 : Shape := ⟨2, ![16384, 3328]⟩
abbrev S16384x3584 : Shape := ⟨2, ![16384, 3584]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x3072, .f32⟩
  | .hbm, ⟨2, _⟩ => ⟨S1024, .f32⟩
  | .hbm, ⟨3, _⟩ => ⟨S1024x3344, .f32⟩
  | .hbm, ⟨4, _⟩ => ⟨S8x3072, .f32⟩
  | .hbm, ⟨5, _⟩ => ⟨S8x1x3072, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x3344, .f32⟩
  | .hbm, ⟨32, _⟩ => ⟨S16384x3344, .f32⟩
  | .hbm, ⟨33, _⟩ => ⟨S16384x1024, .f32⟩
  | .hbm, ⟨34, _⟩ => ⟨S16384x512, .f32⟩
  | .hbm, ⟨35, _⟩ => ⟨S16384x16, .f32⟩
  | .hbm, ⟨36, _⟩ => ⟨S16384x256, .f32⟩
  | .hbm, ⟨37, _⟩ => ⟨S16384x128, .f32⟩
  | .hbm, ⟨38, _⟩ => ⟨S16384x128, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x4, .f32⟩
  | .hbm, ⟨53, _⟩ => ⟨S_, .f32⟩
  | .hbm, ⟨54, _⟩ => ⟨S16384x4, .f32⟩
  | .hbm, ⟨55, _⟩ => ⟨S16384x4, .f32⟩
  | .hbm, ⟨56, _⟩ => ⟨S_, .f32⟩
  | .hbm, ⟨57, _⟩ => ⟨S16384x116, .f32⟩
  | .hbm, ⟨58, _⟩ => ⟨S16384x4, .f32⟩
  | .hbm, ⟨59, _⟩ => ⟨S_, .f32⟩
  | .hbm, ⟨60, _⟩ => ⟨S16384x4, .f32⟩
  | .hbm, ⟨61, _⟩ => ⟨S16384x4, .f32⟩
  | .hbm, ⟨62, _⟩ => ⟨S_, .f32⟩
  | .hbm, ⟨63, _⟩ => ⟨S16384x116, .f32⟩
  | .hbm, ⟨64, _⟩ => ⟨S16384x3328, .f32⟩
  | .hbm, ⟨65, _⟩ => ⟨S16384x256, .f32⟩
  | .hbm, ⟨66, _⟩ => ⟨S16384x3584, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== OutProj.lean ====
abbrev S16384x512 : Shape := ⟨2, ![16384, 512]⟩
abbrev S16384x256 : Shape := ⟨2, ![16384, 256]⟩
abbrev S8x2048x1024 : Shape := ⟨3, ![8, 2048, 1024]⟩
abbrev S16x3072 : Shape := ⟨2, ![16, 3072]⟩
abbrev S1024 : Shape := ⟨1, ![1024]⟩
abbrev S1024x1024 : Shape := ⟨2, ![1024, 1024]⟩
abbrev S576x1024 : Shape := ⟨2, ![576, 1024]⟩
abbrev S64x1024 : Shape := ⟨2, ![64, 1024]⟩
abbrev S320x1024 : Shape := ⟨2, ![320, 1024]⟩
abbrev S16384x1024 : Shape := ⟨2, ![16384, 1024]⟩
abbrev S16x1x3072 : Shape := ⟨3, ![16, 1, 3072]⟩
abbrev S1x1024 : Shape := ⟨2, ![1, 1024]⟩
abbrev S1024x512 : Shape := ⟨2, ![1024, 512]⟩
abbrev S1024x256 : Shape := ⟨2, ![1024, 256]⟩
abbrev S1x1x3072 : Shape := ⟨3, ![1, 1, 3072]⟩
abbrev S1x1x1024 : Shape := ⟨3, ![1, 1, 1024]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S8x2048x1024, .f32⟩
  | .hbm, ⟨4, _⟩ => ⟨S16x3072, .f32⟩
  | .hbm, ⟨5, _⟩ => ⟨S1024, .f32⟩
  | .hbm, ⟨6, _⟩ => ⟨S1024x1024, .f32⟩
  | .hbm, ⟨7, _⟩ => ⟨S576x1024, .f32⟩
  | .hbm, ⟨8, _⟩ => ⟨S64x1024, .f32⟩
  | .hbm, ⟨9, _⟩ => ⟨S64x1024, .f32⟩
  | .hbm, ⟨10, _⟩ => ⟨S320x1024, .f32⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S16x1x3072, .f32⟩
  | .hbm, ⟨15, _⟩ => ⟨S1x1024, .f32⟩
  | .hbm, ⟨16, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .f32⟩
  | .local _ .vmem, ⟨7, _⟩ => ⟨S1024x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S16384x512 : Shape := ⟨2, ![16384, 512]⟩
abbrev S16384x256 : Shape := ⟨2, ![16384, 256]⟩
abbrev S8x2048x1024 : Shape := ⟨3, ![8, 2048, 1024]⟩
abbrev S16x3072 : Shape := ⟨2, ![16, 3072]⟩
abbrev S1024 : Shape := ⟨1, ![1024]⟩
abbrev S1024x1024 : Shape := ⟨2, ![1024, 1024]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S8x2048x1024, .f32⟩
  | .hbm, ⟨4, _⟩ => ⟨S16x3072, .f32⟩
  | .hbm, ⟨5, _⟩ => ⟨S1024, .f32⟩
  | .hbm, ⟨6, _⟩ => ⟨S1024x1024, .f32⟩
  | .hbm, ⟨7, _⟩ => ⟨S16384x512, .f32⟩
  | .hbm, ⟨8, _⟩ => ⟨S8x2048x512, .f32⟩
  | .hbm, ⟨9, _⟩ => ⟨S16384x256, .f32⟩
  | .hbm, ⟨10, _⟩ => ⟨S8x2048x256, .f32⟩
  | .hbm, ⟨11, _⟩ => ⟨S16384x256, .f32⟩
  | .hbm, ⟨12, _⟩ => ⟨S8x2048x256, .f32⟩
  | .hbm, ⟨13, _⟩ => ⟨S8x2048x64, .f32⟩
  | .hbm, ⟨14, _⟩ => ⟨S8x2048x64, .f32⟩
  | .hbm, ⟨15, _⟩ => ⟨S8x2048x64, .f32⟩
  | .hbm, ⟨16, _⟩ => ⟨S8x2048x64, .f32⟩
  | .hbm, ⟨17, _⟩ => ⟨S8x2048x256, .f32⟩
  | .hbm, ⟨18, _⟩ => ⟨S8x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Diff.lean ====
abbrev S8x2048x3344 : Shape := ⟨3, ![8, 2048, 3344]⟩
abbrev S8x256x3344 : Shape := ⟨3, ![8, 256, 3344]⟩
abbrev S4x32 : Shape := ⟨2, ![4, 32]⟩
abbrev S64 : Shape := ⟨1, ![64]⟩
abbrev S16384x3344 : Shape := ⟨2, ![16384, 3344]⟩
abbrev S16384x1536 : Shape := ⟨2, ![16384, 1536]⟩
abbrev S16384x64 : Shape := ⟨2, ![16384, 64]⟩
abbrev S16384x384 : Shape := ⟨2, ![16384, 384]⟩
abbrev S16384x1088 : Shape := ⟨2, ![16384, 1088]⟩
abbrev S16384x4 : Shape := ⟨2, ![16384, 4]⟩
abbrev S_ : Shape := ⟨0, ![]⟩
abbrev S16384x116 : Shape := ⟨2, ![16384, 116]⟩
abbrev S16384x3584 : Shape := ⟨2, ![16384, 3584]⟩
abbrev S2048x3344 : Shape := ⟨2, ![2048, 3344]⟩
abbrev S2048x1536 : Shape := ⟨2, ![2048, 1536]⟩
abbrev S2048x64 : Shape := ⟨2, ![2048, 64]⟩
abbrev S2048x384 : Shape := ⟨2, ![2048, 384]⟩
abbrev S2048x1088 : Shape := ⟨2, ![2048, 1088]⟩
abbrev S2048x4 : Shape := ⟨2, ![2048, 4]⟩
abbrev S2048x116 : Shape := ⟨2, ![2048, 116]⟩
abbrev S2048x3584 : Shape := ⟨2, ![2048, 3584]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S32 : Shape := ⟨1, ![32]⟩
abbrev S32x64 : Shape := ⟨2, ![32, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8 : Shape := ⟨1, ![8]⟩
abbrev S1x8 : Shape := ⟨2, ![1, 8]⟩
abbrev S2048x8 : Shape := ⟨2, ![2048, 8]⟩
abbrev S1x2048x1x32 : Shape := ⟨4, ![1, 2048, 1, 32]⟩
abbrev S1x2048x8x32 : Shape := ⟨4, ![1, 2048, 8, 32]⟩
abbrev S16384x256 : Shape := ⟨2, ![16384, 256]⟩
abbrev S16x8x128 : Shape := ⟨3, ![16, 8, 128]⟩
abbrev S1024x256 : Shape := ⟨2, ![1024, 256]⟩
abbrev S256x256 : Shape := ⟨2, ![256, 256]⟩
abbrev S1x8x128 : Shape := ⟨3, ![1, 8, 128]⟩
abbrev S256x2304 : Shape := ⟨2, ![256, 2304]⟩
abbrev S2304x128 : Shape := ⟨2, ![2304, 128]⟩
abbrev S8x256 : Shape := ⟨2, ![8, 256]⟩
abbrev S256x128 : Shape := ⟨2, ![256, 128]⟩
abbrev S256 : Shape := ⟨1, ![256]⟩
abbrev S256x2048 : Shape := ⟨2, ![256, 2048]⟩
abbrev S2048x128 : Shape := ⟨2, ![2048, 128]⟩
abbrev S1x32 : Shape := ⟨2, ![1, 32]⟩
abbrev S1 : Shape := ⟨1, ![1]⟩
abbrev S1x1 : Shape := ⟨2, ![1, 1]⟩
abbrev S512x256 : Shape := ⟨2, ![512, 256]⟩
abbrev S512x128 : Shape := ⟨2, ![512, 128]⟩
abbrev S128x128 : Shape := ⟨2, ![128, 128]⟩
abbrev S512x1 : Shape := ⟨2, ![512, 1]⟩
abbrev S512x2304 : Shape := ⟨2, ![512, 2304]⟩
abbrev S512 : Shape := ⟨1, ![512]⟩
abbrev S8x128 : Shape := ⟨2, ![8, 128]⟩
abbrev S1x128 : Shape := ⟨2, ![1, 128]⟩

abbrev nBuf : Space → Nat
  | .hbm => 123
  | .vmem => 28
  | .smem => 0
  | _ => 0

abbrev bufTy : (tb : Table) → Fin (tcTables nBuf tb) → BufTy
  | .hbm, ⟨0, _⟩ => ⟨S8x2048x3344, .f32⟩
  | .hbm, ⟨1, _⟩ => ⟨S8x256x3344, .f32⟩
  | .hbm, ⟨2, _⟩ => ⟨S4x32, .f32⟩
  | .hbm, ⟨3, _⟩ => ⟨S64, .f32⟩
  | .hbm, ⟨4, _⟩ => ⟨S16384x3344, .f32⟩
  | .hbm, ⟨5, _⟩ => ⟨S16384x1536, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S16384x384, .f32⟩
  | .hbm, ⟨10, _⟩ => ⟨S16384x64, .f32⟩
  | .hbm, ⟨11, _⟩ => ⟨S16384x64, .f32⟩
  | .hbm, ⟨12, _⟩ => ⟨S16384x1088, .f32⟩
  | .hbm, ⟨13, _⟩ => ⟨S16384x4, .f32⟩
  | .hbm, ⟨14, _⟩ => ⟨S_, .f32⟩
  | .hbm, ⟨15, _⟩ => ⟨S16384x4, .f32⟩
  | .hbm, ⟨16, _⟩ => ⟨S16384x4, .f32⟩
  | .hbm, ⟨17, _⟩ => ⟨S_, .f32⟩
  | .hbm, ⟨18, _⟩ => ⟨S16384x116, .f32⟩
  | .hbm, ⟨19, _⟩ => ⟨S16384x4, .f32⟩
  | .hbm, ⟨20, _⟩ => ⟨S_, .f32⟩
  | .hbm, ⟨21, _⟩ => ⟨S16384x4, .f32⟩
  | .hbm, ⟨22, _⟩ => ⟨S16384x4, .f32⟩
  | .hbm, ⟨23, _⟩ => ⟨S_, .f32⟩
  | .hbm, ⟨24, _⟩ => ⟨S16384x116, .f32⟩
  | .hbm, ⟨25, _⟩ => ⟨S16384x3584, .f32⟩
  | .hbm, ⟨26, _⟩ => ⟨S2048x3344, .f32⟩
  | .hbm, ⟨27, _⟩ => ⟨S2048x1536, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x384, .f32⟩
  | .hbm, ⟨32, _⟩ => ⟨S2048x64, .f32⟩
  | .hbm, ⟨33, _⟩ => ⟨S2048x64, .f32⟩
  | .hbm, ⟨34, _⟩ => ⟨S2048x1088, .f32⟩
  | .hbm, ⟨35, _⟩ => ⟨S2048x4, .f32⟩
  | .hbm, ⟨36, _⟩ => ⟨S_, .f32⟩
  | .hbm, ⟨37, _⟩ => ⟨S2048x4, .f32⟩
  | .hbm, ⟨38, _⟩ => ⟨S2048x4, .f32⟩
  | .hbm, ⟨39, _⟩ => ⟨S_, .f32⟩
  | .hbm, ⟨40, _⟩ => ⟨S2048x116, .f32⟩
  | .hbm, ⟨41, _⟩ => ⟨S2048x4, .f32⟩
  | .hbm, ⟨42, _⟩ => ⟨S_, .f32⟩
  | .hbm, ⟨43, _⟩ => ⟨S2048x4, .f32⟩
  | .hbm, ⟨44, _⟩ => ⟨S2048x4, .f32⟩
  | .hbm, ⟨45, _⟩ => ⟨S_, .f32⟩
  | .hbm, ⟨46, _⟩ => ⟨S2048x116, .f32⟩
  | .hbm, ⟨47, _⟩ => ⟨S2048x3584, .f32⟩
  | .hbm, ⟨48, _⟩ => ⟨S1x64, .f32⟩
  | .hbm, ⟨49, _⟩ => ⟨S1x1x1x64, .f32⟩
  | .hbm, ⟨50, _⟩ => ⟨S1x1x4x64, .f32⟩
  | .hbm, ⟨51, _⟩ => ⟨S1x256, .f32⟩
  | .hbm, ⟨52, _⟩ => ⟨S32, .i32⟩
  | .hbm, ⟨53, _⟩ => ⟨S32x64, .i32⟩
  | .hbm, ⟨54, _⟩ => ⟨S2048, .i32⟩
  | .hbm, ⟨55, _⟩ => ⟨S2048, .f32⟩
  | .hbm, ⟨56, _⟩ => ⟨S64, .i32⟩
  | .hbm, ⟨57, _⟩ => ⟨S1x64, .i32⟩
  | .hbm, ⟨58, _⟩ => ⟨S32x64, .i32⟩
  | .hbm, ⟨59, _⟩ => ⟨S2048, .i32⟩
  | .hbm, ⟨60, _⟩ => ⟨S2048, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S2048x1, .f32⟩
  | .hbm, ⟨70, _⟩ => ⟨S1x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x1, .f32⟩
  | .hbm, ⟨75, _⟩ => ⟨S1x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x64, .f32⟩
  | .hbm, ⟨83, _⟩ => ⟨S2048x32, .f32⟩
  | .hbm, ⟨84, _⟩ => ⟨S2048x64, .f32⟩
  | .hbm, ⟨85, _⟩ => ⟨S1x2048x1x64, .f32⟩
  | .hbm, ⟨86, _⟩ => ⟨S1x2048x4x64, .f32⟩
  | .hbm, ⟨87, _⟩ => ⟨S2048x256, .f32⟩
  | .hbm, ⟨88, _⟩ => ⟨S1x2048x1x64, .f32⟩
  | .hbm, ⟨89, _⟩ => ⟨S1x2048x4x64, .f32⟩
  | .hbm, ⟨90, _⟩ => ⟨S2048x256, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S2048x1, .f32⟩
  | .hbm, ⟨100, _⟩ => ⟨S1x8, .f32⟩
  | .hbm, ⟨101, _⟩ => ⟨S2048x8, .f32⟩
  | .hbm, ⟨102, _⟩ => ⟨S2048x8, .f32⟩
  | .hbm, ⟨103, _⟩ => ⟨S2048x8, .f32⟩
  | .hbm, ⟨104, _⟩ => ⟨S2048x1, .f32⟩
  | .hbm, ⟨105, _⟩ => ⟨S1x8, .f32⟩
  | .hbm, ⟨106, _⟩ => ⟨S2048x8, .f32⟩
  | .hbm, ⟨107, _⟩ => ⟨S2048x8, .f32⟩
  | .hbm, ⟨108, _⟩ => ⟨S2048x8, .f32⟩
  | .hbm, ⟨109, _⟩ => ⟨S2048x16, .f32⟩
  | .hbm, ⟨110, _⟩ => ⟨S2048x16, .f32⟩
  | .hbm, ⟨111, _⟩ => ⟨S2048x16, .f32⟩
  | .hbm, ⟨112, _⟩ => ⟨S2048x32, .f32⟩
  | .hbm, ⟨113, _⟩ => ⟨S2048x16, .f32⟩
  | .hbm, ⟨114, _⟩ => ⟨S2048x32, .f32⟩
  | .hbm, ⟨115, _⟩ => ⟨S1x2048x1x32, .f32⟩
  | .hbm, ⟨116, _⟩ => ⟨S1x2048x8x32, .f32⟩
  | .hbm, ⟨117, _⟩ => ⟨S2048x256, .f32⟩
  | .hbm, ⟨118, _⟩ => ⟨S1x2048x1x32, .f32⟩
  | .hbm, ⟨119, _⟩ => ⟨S1x2048x8x32, .f32⟩
  | .hbm, ⟨120, _⟩ => ⟨S2048x256, .f32⟩
  | .hbm, ⟨121, _⟩ => ⟨S16384x256, .bf16⟩
  | .hbm, ⟨122, _⟩ => ⟨S16x8x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S2048x256, .f32⟩
  | .local _ .vmem, ⟨17, _⟩ => ⟨S2048x256, .f32⟩
  | .local _ .vmem, ⟨18, _⟩ => ⟨S4x32, .f32⟩
  | .local _ .vmem, ⟨19, _⟩ => ⟨S1x256, .f32⟩
  | .local _ .vmem, ⟨20, _⟩ => ⟨S1024x256, .bf16⟩
  | .local _ .vmem, ⟨21, _⟩ => ⟨S1024x256, .bf16⟩
  | .local _ .vmem, ⟨22, _⟩ => ⟨S1x8x128, .f32⟩
  | .local _ .vmem, ⟨23, _⟩ => ⟨S1x8x128, .f32⟩
  | .local _ .vmem, ⟨24, _⟩ => ⟨S256x2304, .bf16⟩
  | .local _ .vmem, ⟨25, _⟩ => ⟨S2304x128, .bf16⟩
  | .local _ .vmem, ⟨26, _⟩ => ⟨S2304x128, .bf16⟩
  | .local _ .vmem, ⟨27, _⟩ => ⟨S8x256, .f32⟩
  | _, _ => ⟨S8x2048x3344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_9 : Ref sig .tc := ⟨.hbm, 93, rfl⟩
abbrev main_v79 : Ref sig .tc := ⟨.hbm, 94, rfl⟩
abbrev main_v80 : Ref sig .tc := ⟨.hbm, 95, rfl⟩
abbrev main_cst_10 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105_0 : Ref sig .tc := ⟨.hbm, 121, rfl⟩
abbrev main_v105_1 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c12_i32 : BitVec 32 := 12#32
  let c0_i32 : BitVec 32 := 0#32
  ![v1.toNat, c12_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S2048x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DiffIdeal.lean ====
variable {F : FTy → Type} [FloatOps F] [Named F]
def κ : String → Option EReal := fun
  | "scale_log2e" => some (((Real.sqrt 32)⁻¹ * (Real.log 2)⁻¹ : ℝ) : EReal)
  | _ => none
-- ==== DiffRefIdeal.lean ====
abbrev S8x2048x3344 : Shape := ⟨3, ![8, 2048, 3344]⟩
abbrev S8x256x3344 : Shape := ⟨3, ![8, 256, 3344]⟩
abbrev S4x32 : Shape := ⟨2, ![4, 32]⟩
abbrev S64 : Shape := ⟨1, ![64]⟩
abbrev S1x32 : Shape := ⟨2, ![1, 32]⟩
abbrev S32 : Shape := ⟨1, ![32]⟩
abbrev S_ : Shape := ⟨0, ![]⟩
abbrev S8x2048x1024 : Shape := ⟨3, ![8, 2048, 1024]⟩
abbrev S8x2048x512 : Shape := ⟨3, ![8, 2048, 512]⟩
abbrev S8x2048x16 : Shape := ⟨3, ![8, 2048, 16]⟩
abbrev S8x2048x256 : Shape := ⟨3, ![8, 2048, 256]⟩
abbrev S8x2048x128 : Shape := ⟨3, ![8, 2048, 128]⟩
abbrev S8x256x1024 : Shape := ⟨3, ![8, 256, 1024]⟩
abbrev S8x256x512 : Shape := ⟨3, ![8, 256, 512]⟩
abbrev S8x256x16 : Shape := ⟨3, ![8, 256, 16]⟩
abbrev S8x256x256 : Shape := ⟨3, ![8, 256, 256]⟩
abbrev S8x256x128 : Shape := ⟨3, ![8, 256, 128]⟩
abbrev S32x64 : Shape := ⟨2, ![32, 64]⟩
abbrev S2048 : Shape := ⟨1, ![2048]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S8x2048x8x32 : Shape := ⟨4, ![8, 2048, 8, 32]⟩
abbrev S8x2048x4x64 : Shape := ⟨4, ![8, 2048, 4, 64]⟩
abbrev S8x256x8x32 : Shape := ⟨4, ![8, 256, 8, 32]⟩
abbrev S8x256x4x64 : Shape := ⟨4, ![8, 256, 4, 64]⟩
abbrev S8x2048x8x16 : Shape := ⟨4, ![8, 2048, 8, 16]⟩
abbrev S1x2048x1x16 : Shape := ⟨4, ![1, 2048, 1, 16]⟩
abbrev S8x2304x8x32 : Shape := ⟨4, ![8, 2304, 8, 32]⟩
abbrev S8x2304x4x64 : Shape := ⟨4, ![8, 2304, 4, 64]⟩
abbrev S8x2048x4x2x32 : Shape := ⟨5, ![8, 2048, 4, 2, 32]⟩
abbrev S8x2048x4x1x32 : Shape := ⟨5, ![8, 2048, 4, 1, 32]⟩
abbrev S8x2048x4x32 : Shape := ⟨4, ![8, 2048, 4, 32]⟩
abbrev S8x2304x4x2x32 : Shape := ⟨5, ![8, 2304, 4, 2, 32]⟩
abbrev S8x2304x4x1x32 : Shape := ⟨5, ![8, 2304, 4, 1, 32]⟩
abbrev S8x2304x4x32 : Shape := ⟨4, ![8, 2304, 4, 32]⟩
abbrev S8x4x2304x2048x1 : Shape := ⟨5, ![8, 4, 2304, 2048, 1]⟩
abbrev S8x4x1x2048x2304 : Shape := ⟨5, ![8, 4, 1, 2048, 2304]⟩
abbrev S8x4x1x2048 : Shape := ⟨4, ![8, 4, 1, 2048]⟩
abbrev S8x4x1x2048x1 : Shape := ⟨5, ![8, 4, 1, 2048, 1]⟩
abbrev S8x4x64x1x2048 : Shape := ⟨5, ![8, 4, 64, 1, 2048]⟩
abbrev S8x2048x4x1x64 : Shape := ⟨5, ![8, 2048, 4, 1, 64]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩
abbrev S16384x256 : Shape := ⟨2, ![16384, 256]⟩

abbrev nBuf : Space → Nat
  | .hbm => 204
  | .vmem => 0
  | .smem => 0
  | _ => 0

abbrev hbmTy0_0 (i : Nat) : BufTy := match i % 128 with
  | 0 => ⟨S8x2048x3344, .f32⟩
  | 1 => ⟨S8x256x3344, .f32⟩
  | 2 => ⟨S4x32, .f32⟩
  | 3 => ⟨S64, .f32⟩
  | 4 => ⟨S1x32, .f32⟩
  | 5 => ⟨S32, .f32⟩
  | 6 => ⟨S1x32, .f32⟩
  | 7 => ⟨S32, .f32⟩
  | 8 => ⟨S32, .f32⟩
  | 9 => ⟨S_, .f32⟩
  | 10 => ⟨S_, .f32⟩
  | 11 => ⟨S_, .f32⟩
  | 12 => ⟨S1x32, .f32⟩
  | 13 => ⟨S32, .f32⟩
  | 14 => ⟨S1x32, .f32⟩
  | 15 => ⟨S32, .f32⟩
  | 16 => ⟨S32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8x2048x1024, .f32⟩
  | 24 => ⟨S8x2048x512, .f32⟩
  | 25 => ⟨S8x2048x16, .f32⟩
  | 26 => ⟨S8x2048x256, .f32⟩
  | 27 => ⟨S8x2048x128, .f32⟩
  | 28 => ⟨S8x2048x128, .f32⟩
  | 29 => ⟨S8x2048x256, .f32⟩
  | 30 => ⟨S8x2048x256, .f32⟩
  | 31 => ⟨S8x2048x256, .f32⟩
  | 32 => ⟨S8x2048x256, .f32⟩
  | 33 => ⟨S8x2048x256, .f32⟩
  | 34 => ⟨S8x256x1024, .f32⟩
  | 35 => ⟨S8x256x512, .f32⟩
  | 36 => ⟨S8x256x16, .f32⟩
  | 37 => ⟨S8x256x256, .f32⟩
  | 38 => ⟨S8x256x128, .f32⟩
  | 39 => ⟨S8x256x128, .f32⟩
  | 40 => ⟨S8x256x256, .f32⟩
  | 41 => ⟨S8x256x256, .f32⟩
  | 42 => ⟨S8x256x256, .f32⟩
  | 43 => ⟨S8x256x256, .f32⟩
  | 44 => ⟨S8x256x256, .f32⟩
  | 45 => ⟨S32, .i32⟩
  | 46 => ⟨S32x64, .i32⟩
  | 47 => ⟨S2048, .i32⟩
  | 48 => ⟨S64, .i32⟩
  | 49 => ⟨S1x64, .i32⟩
  | 50 => ⟨S32x64, .i32⟩
  | 51 => ⟨S2048, .i32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S2048, .f32⟩
  | 61 => ⟨S2048x1, .f32⟩
  | 62 => ⟨S1x8, .f32⟩
  | 63 => ⟨S2048x8, .f32⟩
  | 64 => ⟨S2048x8, .f32⟩
  | 65 => ⟨S2048x8, .f32⟩
  | 66 => ⟨S2048, .f32⟩
  | 67 => ⟨S2048x1, .f32⟩
  | 68 => ⟨S1x8, .f32⟩
  | 69 => ⟨S2048x8, .f32⟩
  | 70 => ⟨S2048x8, .f32⟩
  | 71 => ⟨S2048x8, .f32⟩
  | 72 => ⟨S2048x16, .f32⟩
  | 73 => ⟨S8x2048x8x32, .f32⟩
  | 74 => ⟨S8x2048x8x32, .f32⟩
  | 75 => ⟨S8x2048x4x64, .f32⟩
  | 76 => ⟨S8x256x8x32, .f32⟩
  | 77 => ⟨S8x256x8x32, .f32⟩
  | 78 => ⟨S8x256x4x64, .f32⟩
  | 79 => ⟨S8x2048x8x16, .f32⟩
  | 80 => ⟨S8x2048x8x16, .f32⟩
  | 81 => ⟨S2048x16, .f32⟩
  | 82 => ⟨S1x2048x1x16, .f32⟩
  | 83 => ⟨S2048x16, .f32⟩
  | 84 => ⟨S1x2048x1x16, .f32⟩
  | 85 => ⟨S8x2048x8x16, .f32⟩
  | 86 => ⟨S8x2048x8x16, .f32⟩
  | 87 => ⟨S8x2048x8x16, .f32⟩
  | 88 => ⟨S8x2048x8x16, .f32⟩
  | 89 => ⟨S8x2048x8x16, .f32⟩
  | 90 => ⟨S8x2048x8x16, .f32⟩
  | 91 => ⟨S8x2048x8x16, .f32⟩
  | 92 => ⟨S8x2048x8x16, .f32⟩
  | 93 => ⟨S8x2048x8x16, .f32⟩
  | 94 => ⟨S8x2048x8x16, .f32⟩
  | 95 => ⟨S8x2048x8x32, .f32⟩
  | 96 => ⟨S8x2048x8x16, .f32⟩
  | 97 => ⟨S8x2048x8x16, .f32⟩
  | 98 => ⟨S2048x16, .f32⟩
  | 99 => ⟨S1x2048x1x16, .f32⟩
  | 100 => ⟨S2048x16, .f32⟩
  | 101 => ⟨S1x2048x1x16, .f32⟩
  | 102 => ⟨S8x2048x8x16, .f32⟩
  | 103 => ⟨S8x2048x8x16, .f32⟩
  | 104 => ⟨S8x2048x8x16, .f32⟩
  | 105 => ⟨S8x2048x8x16, .f32⟩
  | 106 => ⟨S8x2048x8x16, .f32⟩
  | 107 => ⟨S8x2048x8x16, .f32⟩
  | 108 => ⟨S8x2048x8x16, .f32⟩
  | 109 => ⟨S8x2048x8x16, .f32⟩
  | 110 => ⟨S8x2048x8x16, .f32⟩
  | 111 => ⟨S8x2048x8x16, .f32⟩
  | 112 => ⟨S8x2048x8x32, .f32⟩
  | 113 => ⟨S8x2304x8x32, .f32⟩
  | 114 => ⟨S8x2304x4x64, .f32⟩
  | 115 => ⟨S8x2048x4x2x32, .f32⟩
  | 116 => ⟨S8x2048x4x1x32, .f32⟩
  | 117 => ⟨S8x2048x4x32, .f32⟩
  | 118 => ⟨S8x2304x4x2x32, .f32⟩
  | 119 => ⟨S8x2304x4x1x32, .f32⟩
  | 120 => ⟨S8x2304x4x32, .f32⟩
  | 121 => ⟨S8x2048x4x1x32, .f32⟩
  | 122 => ⟨S8x4x2304x2048x1, .f32⟩
  | 123 => ⟨S8x4x1x2048x2304, .f32⟩
  | 124 => ⟨S_, .f32⟩
  | 125 => ⟨S_, .f32⟩
  | 126 => ⟨S8x4x1x2048x2304, .f32⟩
  | 127 => ⟨S8x4x1x2048x2304, .f32⟩
  | _ => ⟨S8x2048x3344, .f32⟩

abbrev hbmTy0_1 (i : Nat) : BufTy := match i % 128 with
  | 0 => ⟨S_, .f32⟩
  | 1 => ⟨S8x4x1x2048, .f32⟩
  | 2 => ⟨S8x4x1x2048x1, .f32⟩
  | 3 => ⟨S8x4x1x2048x2304, .f32⟩
  | 4 => ⟨S8x4x1x2048x2304, .f32⟩
  | 5 => ⟨S8x4x1x2048x2304, .f32⟩
  | 6 => ⟨S_, .f32⟩
  | 7 => ⟨S8x4x1x2048, .f32⟩
  | 8 => ⟨S8x4x1x2048x1, .f32⟩
  | 9 => ⟨S8x4x1x2048x2304, .f32⟩
  | 10 => ⟨S8x4x1x2048x2304, .f32⟩
  | 11 => ⟨S8x4x64x1x2048, .f32⟩
  | 12 => ⟨S8x2048x4x1x64, .f32⟩
  | 13 => ⟨S8x2048x4x64, .f32⟩
  | 14 => ⟨S8x2048x4x2x32, .f32⟩
  | 15 => ⟨S8x2048x4x1x32, .f32⟩
  | 16 => ⟨S8x2048x4x32, .f32⟩
  | 17 => ⟨S8x2304x4x2x32, .f32⟩
  | 18 => ⟨S8x2304x4x1x32, .f32⟩
  | 19 => ⟨S8x2304x4x32, .f32⟩
  | 20 => ⟨S8x2048x4x1x32, .f32⟩
  | 21 => ⟨S8x4x2304x2048x1, .f32⟩
  | 22 => ⟨S8x4x1x2048x2304, .f32⟩
  | 23 => ⟨S_, .f32⟩
  | 24 => ⟨S_, .f32⟩
  | 25 => ⟨S8x4x1x2048x2304, .f32⟩
  | 26 => ⟨S8x4x1x2048x2304, .f32⟩
  | 27 => ⟨S_, .f32⟩
  | 28 => ⟨S8x4x1x2048, .f32⟩
  | 29 => ⟨S8x4x1x2048x1, .f32⟩
  | 30 => ⟨S8x4x1x2048x2304, .f32⟩
  | 31 => ⟨S8x4x1x2048x2304, .f32⟩
  | 32 => ⟨S8x4x1x2048x2304, .f32⟩
  | 33 => ⟨S_, .f32⟩
  | 34 => ⟨S8x4x1x2048, .f32⟩
  | 35 => ⟨S8x4x1x2048x1, .f32⟩
  | 36 => ⟨S8x4x1x2048x2304, .f32⟩
  | 37 => ⟨S8x4x1x2048x2304, .f32⟩
  | 38 => ⟨S8x4x64x1x2048, .f32⟩
  | 39 => ⟨S8x2048x4x1x64, .f32⟩
  | 40 => ⟨S8x2048x4x64, .f32⟩
  | 41 => ⟨S8x2048x4x64, .f32⟩
  | 42 => ⟨S8x2048x4x64, .f32⟩
  | 43 => ⟨S8x2048x4x64, .f32⟩
  | 44 => ⟨S8x2048x4x64, .f32⟩
  | 45 => ⟨S_, .f32⟩
  | 46 => ⟨S8x2048x4, .f32⟩
  | 47 => ⟨S8x2048x4x1, .f32⟩
  | 48 => ⟨S_, .f32⟩
  | 49 => ⟨S8x2048x4x1, .f32⟩
  | 50 => ⟨S8x2048x4x1, .f32⟩
  | 51 => ⟨S_, .f32⟩
  | 52 => ⟨S8x2048x4x1, .f32⟩
  | 53 => ⟨S8x2048x4x1, .f32⟩
  | 54 => ⟨S8x2048x4x1, .f32⟩
  | 55 => ⟨S8x2048x4x64, .f32⟩
  | 56 => ⟨S8x2048x4x64, .f32⟩
  | 57 => ⟨S1x1x1x64, .f32⟩
  | 58 => ⟨S8x2048x4x64, .f32⟩
  | 59 => ⟨S8x2048x4x64, .f32⟩
  | 60 => ⟨S_, .f32⟩
  | 61 => ⟨S8x2048x4x64, .f32⟩
  | 62 => ⟨S8x2048x4x64, .f32⟩
  | 63 => ⟨S8x2048x256, .f32⟩
  | 64 => ⟨S8x2048x256, .f32⟩
  | 65 => ⟨S8x2048x256, .f32⟩
  | 66 => ⟨S_, .f32⟩
  | 67 => ⟨S8x2048x256, .f32⟩
  | 68 => ⟨S8x2048x256, .f32⟩
  | 69 => ⟨S_, .f32⟩
  | 70 => ⟨S8x2048x256, .f32⟩
  | 71 => ⟨S8x2048x256, .f32⟩
  | 72 => ⟨S8x2048x256, .f32⟩
  | 73 => ⟨S8x2048x256, .f32⟩
  | 74 => ⟨S16384x256, .f32⟩
  | 75 => ⟨S16384x256, .bf16⟩
  | _ => ⟨S8x2048x3344, .f32⟩

abbrev hbmTy (i : Nat) : BufTy := match i / 128 with
  | 0 => hbmTy0_0 i
  | 1 => hbmTy0_1 i
  | _ => ⟨S8x2048x3344, .f32⟩

abbrev bufTy : (tb : Table) → Fin (tcTables nBuf tb) → BufTy
  | .hbm, ⟨i, _⟩ => hbmTy i
  | _, _ => ⟨S8x2048x3344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_cst_4 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_cst_5 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_cst_6 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_cst_7 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_cst_8 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_cst_9 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_cst_10 : Ref sig .tc := ⟨.hbm, 173, rfl⟩
abbrev main_v158 : Ref sig .tc := ⟨.hbm, 174, rfl⟩
abbrev main_v159 : Ref sig .tc := ⟨.hbm, 175, rfl⟩
abbrev main_cst_11 : Ref sig .tc := ⟨.hbm, 176, rfl⟩
abbrev main_v160 : Ref sig .tc := ⟨.hbm, 177, rfl⟩
abbrev main_v161 : Ref sig .tc := ⟨.hbm, 178, rfl⟩
abbrev main_cst_12 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_cst_13 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_call0_v0 : Ref sig .tc := ⟨.hbm, 192, rfl⟩
abbrev main_call0_v1 : Ref sig .tc := ⟨.hbm, 193, rfl⟩
abbrev main_call0_cst : Ref sig .tc := ⟨.hbm, 194, rfl⟩
abbrev main_call0_v2 : Ref sig .tc := ⟨.hbm, 195, rfl⟩
abbrev main_call0_v3 : Ref sig .tc := ⟨.hbm, 196, rfl⟩
abbrev main_call0_cst_0 : Ref sig .tc := ⟨.hbm, 197, rfl⟩
abbrev main_call0_v4 : Ref sig .tc := ⟨.hbm, 198, rfl⟩
abbrev main_call0_v5 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x3072, .f32⟩
  | .hbm, ⟨9, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S7x3072 : Shape := ⟨2, ![7, 3072]⟩
abbrev S16x3072 : Shape := ⟨2, ![16, 3072]⟩
abbrev S1x16x3072 : Shape := ⟨3, ![1, 16, 3072]⟩
abbrev S2x16x3072 : Shape := ⟨3, ![2, 16, 3072]⟩

abbrev nBuf : Space → Nat
  | .hbm => 63
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x3072, .f32⟩
  | .hbm, ⟨23, _⟩ => ⟨S1024x3072, .f32⟩
  | .hbm, ⟨24, _⟩ => ⟨S8x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S8x3072, .f32⟩
  | .hbm, ⟨29, _⟩ => ⟨S8x3072, .f32⟩
  | .hbm, ⟨30, _⟩ => ⟨S1x1024x3072, .f32⟩
  | .hbm, ⟨31, _⟩ => ⟨S1024x3072, .f32⟩
  | .hbm, ⟨32, _⟩ => ⟨S3072, .f32⟩
  | .hbm, ⟨33, _⟩ => ⟨S1x3072, .f32⟩
  | .hbm, ⟨34, _⟩ => ⟨S3072, .f32⟩
  | .hbm, ⟨35, _⟩ => ⟨S3072, .f32⟩
  | .hbm, ⟨36, _⟩ => ⟨S1x3072, .f32⟩
  | .hbm, ⟨37, _⟩ => ⟨S3072, .f32⟩
  | .hbm, ⟨38, _⟩ => ⟨S7x3072, .f32⟩
  | .hbm, ⟨39, _⟩ => ⟨S1x3072, .f32⟩
  | .hbm, ⟨40, _⟩ => ⟨S16x3072, .f32⟩
  | .hbm, ⟨41, _⟩ => ⟨S1x1024x3072, .f32⟩
  | .hbm, ⟨42, _⟩ => ⟨S1024x3072, .f32⟩
  | .hbm, ⟨43, _⟩ => ⟨S8x3072, .f32⟩
  | .hbm, ⟨44, _⟩ => ⟨S1x3072, .f32⟩
  | .hbm, ⟨45, _⟩ => ⟨S3072, .f32⟩
  | .hbm, ⟨46, _⟩ => ⟨S1x3072, .f32⟩
  | .hbm, ⟨47, _⟩ => ⟨S8x3072, .f32⟩
  | .hbm, ⟨48, _⟩ => ⟨S8x3072, .f32⟩
  | .hbm, ⟨49, _⟩ => ⟨S1x1024x3072, .f32⟩
  | .hbm, ⟨50, _⟩ => ⟨S1024x3072, .f32⟩
  | .hbm, ⟨51, _⟩ => ⟨S3072, .f32⟩
  | .hbm, ⟨52, _⟩ => ⟨S1x3072, .f32⟩
  | .hbm, ⟨53, _⟩ => ⟨S3072, .f32⟩
  | .hbm, ⟨54, _⟩ => ⟨S3072, .f32⟩
  | .hbm, ⟨55, _⟩ => ⟨S1x3072, .f32⟩
  | .hbm, ⟨56, _⟩ => ⟨S3072, .f32⟩
  | .hbm, ⟨57, _⟩ => ⟨S7x3072, .f32⟩
  | .hbm, ⟨58, _⟩ => ⟨S1x3072, .f32⟩
  | .hbm, ⟨59, _⟩ => ⟨S16x3072, .f32⟩
  | .hbm, ⟨60, _⟩ => ⟨S1x16x3072, .f32⟩
  | .hbm, ⟨61, _⟩ => ⟨S1x16x3072, .f32⟩
  | .hbm, ⟨62, _⟩ => ⟨S2x16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Proof.AttnMath.lean ====
/-
Real arithmetic inside the extended reals: sums, the norm, the rotation and the softmax of an attention head.
-/
module

public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.Attn

/-- A sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A nonnegative real goes through a sum, whatever its terms. -/
theorem mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h, ← ih]
    exact EReal.left_distrib_of_nonneg_of_ne_top (by exact_mod_cast hc) (EReal.coe_ne_top c) _ _

/-- The greatest of finitely many reals is a real. -/
theorem max_real {n : ℕ} (hn : 0 < n) (f : Fin n → ℝ) :
    ∃ r : ℝ, Finset.univ.fold max (⊥ : EReal) (fun k => ((f k : ℝ) : EReal)) = (r : EReal) := by
  classical
  have h : ∀ s : Finset (Fin n), s.Nonempty → ∃ r : ℝ, s.fold max (⊥ : EReal) (fun k => ((f k : ℝ) : EReal)) = (r : EReal) := by
    intro s
    induction s using Finset.induction_on with
    | empty => intro h; exact absurd h (by simp)
    | insert a s ha ih =>
      intro _
      rw [Finset.fold_insert ha]
      rcases s.eq_empty_or_nonempty with rfl | hs
      · exact ⟨f a, by simp⟩
      · obtain ⟨r, hr⟩ := ih hs
        exact ⟨max (f a) r, by rw [hr]; exact (EReal.coe_strictMono.monotone.map_max).symm⟩
  exact h _ ⟨⟨0, hn⟩, Finset.mem_univ _⟩

/-- One weight of a softmax whose exponentials are all scaled by the same positive real. -/
theorem soft_one {ι : Type} (s : Finset ι) (hs : s.Nonempty) (a : ι → ℝ) (ha : ∀ i, 0 < a i) {c : ℝ} (hc : 0 < c) (i : ι) :
    Ideal.div ((a i * c : ℝ) : EReal) (∑ j ∈ s, ((a j * c : ℝ) : EReal)) = ((a i / ∑ j ∈ s, a j : ℝ) : EReal) := by
  have hp : 0 < ∑ j ∈ s, a j := Finset.sum_pos (fun j _ => ha j) hs
  rw [coe_sum, Ideal.div_coe (by rw [← Finset.sum_mul]; exact (mul_pos hp hc).ne'), ← EReal.coe_mul]
  congr 1
  rw [← Finset.sum_mul]
  field_simp

/-- The weighted sum divided once at the end. -/
theorem soft_sum {ι : Type} (s : Finset ι) (hs : s.Nonempty) (a : ι → ℝ) (ha : ∀ i, 0 < a i) {c : ℝ} (hc : 0 < c) (v : ι → EReal) :
    Ideal.div (∑ j ∈ s, ((a j * c : ℝ) : EReal) * v j) (∑ j ∈ s, ((a j * c : ℝ) : EReal))
      = ∑ j ∈ s, ((a j / ∑ k ∈ s, a k : ℝ) : EReal) * v j := by
  have hp : 0 < ∑ j ∈ s, a j := Finset.sum_pos (fun j _ => ha j) hs
  have hL : 0 < ∑ j ∈ s, a j * c := by rw [← Finset.sum_mul]; exact mul_pos hp hc
  rw [coe_sum, Ideal.div_coe hL.ne', mul_comm, mul_sum s (by positivity)]
  refine Finset.sum_congr rfl fun j _ => ?_
  rw [← mul_assoc, ← EReal.coe_mul]
  congr 2
  rw [← Finset.sum_mul]
  field_simp

/-- The exponential of a difference of reals. -/
theorem exp_sub_coe (x m : ℝ) : Ideal.exp ((x : EReal) - (m : EReal)) = ((Real.exp x * Real.exp (-m) : ℝ) : EReal) := by
  rw [← EReal.coe_sub, ← Real.exp_add, ← sub_eq_add_neg]
  rfl

/-- The power of two of a difference of reals, its exponent scaled by the logarithm of two. -/
theorem exp2_sub_coe (x m : ℝ) :
    Ideal.exp2 (((x * (Real.log 2)⁻¹ : ℝ) : EReal) - (m : EReal)) = ((Real.exp x * Real.exp (-(m * Real.log 2)) : ℝ) : EReal) := by
  have h2 : Real.log 2 ≠ 0 := (Real.log_pos (by norm_num)).ne'
  rw [← EReal.coe_sub, ← Real.exp_add]
  show ((Real.rpow 2 _ : ℝ) : EReal) = _
  congr 1
  rw [Real.rpow_eq_pow, Real.rpow_def_of_pos (by norm_num)]
  congr 1
  field_simp
  ring

/-- The root mean square norm of a head, its gain after it. -/
def nrm {n : ℕ} (e : ℝ) (x g : Fin n → ℝ) (d : Fin n) : ℝ := x d * (Real.sqrt ((∑ k, x k * x k) / n + e))⁻¹ * g d

/-- The reciprocal root of a positive real. -/
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (by linarith), if_neg h.ne']

/-- The rotation of a head by its angles: the first half of the columns with the second. -/
def rot {h : ℕ} (x : Fin (h + h) → ℝ) (c s : Fin h → ℝ) (d : Fin (h + h)) : ℝ :=
  if p : d.val < h then x d * c ⟨d.val, p⟩ - x ⟨d.val + h, by omega⟩ * s ⟨d.val, p⟩
  else x d * c ⟨d.val - h, by omega⟩ + x ⟨d.val - h, by omega⟩ * s ⟨d.val - h, by omega⟩

/-- The output of a head at one column: keys `K`, values `v`, scores over `r`. -/
def head {n D : ℕ} (r : ℝ) (q : Fin D → ℝ) (K : Fin n → Fin D → ℝ) (v : Fin n → EReal) : EReal :=
  ∑ j, ((Real.exp ((∑ d, q d * K j d) / r) / ∑ k, Real.exp ((∑ d, q d * K k d) / r) : ℝ) : EReal) * v j

/-- A head that divides each exponential. -/
theorem head_ref {n D : ℕ} (hn : 0 < n) (r : ℝ) (q : Fin D → ℝ) (K : Fin n → Fin D → ℝ) (v : Fin n → EReal)
    (S : Fin n → EReal) (hS : ∀ j, S j = (((∑ d, q d * K j d) / r : ℝ) : EReal)) :
    ∑ j, Ideal.div (Ideal.exp (S j - Finset.univ.fold max ⊥ S)) (∑ k, Ideal.exp (S k - Finset.univ.fold max ⊥ S)) * v j
      = head r q K v := by
  obtain rfl : S = fun j => (((∑ d, q d * K j d) / r : ℝ) : EReal) := funext hS
  obtain ⟨m, hm⟩ := max_real hn fun j => (∑ d, q d * K j d) / r
  rw [hm]
  simp only [exp_sub_coe]
  unfold head
  refine Finset.sum_congr rfl fun j _ => ?_
  rw [soft_one Finset.univ ⟨⟨0, hn⟩, Finset.mem_univ _⟩ (fun j => Real.exp ((∑ d, q d * K j d) / r)) (fun _ => Real.exp_pos _) (Real.exp_pos _)]

/-- A head by powers of two, divided once at the end. -/
theorem head_kern {n D : ℕ} (hn : 0 < n) (r : ℝ) (q : Fin D → ℝ) (K : Fin n → Fin D → ℝ) (v : Fin n → EReal)
    (S : Fin n → EReal) (hS : ∀ j, S j = (((∑ d, q d * K j d) / r * (Real.log 2)⁻¹ : ℝ) : EReal)) :
    Ideal.div (∑ j, Ideal.exp2 (S j - Finset.univ.fold max ⊥ S) * v j) (∑ k, Ideal.exp2 (S k - Finset.univ.fold max ⊥ S))
      = head r q K v := by
  obtain rfl : S = fun j => (((∑ d, q d * K j d) / r * (Real.log 2)⁻¹ : ℝ) : EReal) := funext hS
  obtain ⟨m, hm⟩ := max_real hn fun j => (∑ d, q d * K j d) / r * (Real.log 2)⁻¹
  rw [hm]
  simp only [exp2_sub_coe]
  exact soft_sum Finset.univ ⟨⟨0, hn⟩, Finset.mem_univ _⟩ (fun j => Real.exp ((∑ d, q d * K j d) / r)) (fun _ => Real.exp_pos _) (Real.exp_pos _) v

/-- The constant of the norms. -/
def eps : ℝ := 8796093 * 2 ^ (-43 : ℤ)

theorem eps_pos : 0 < eps := by unfold eps; positivity

theorem ofBits_eps : Ideal.ofBits .f32 0x358637BD#32 = (eps : EReal) := by
  simp [Ideal.ofBits, Ideal.ieee, eps]; try norm_num

theorem ofBits_64 : Ideal.ofBits .f32 0x42800000#32 = ((64 : ℝ) : EReal) := by
  simp [Ideal.ofBits, Ideal.ieee, -EReal.coe_mul]; try norm_num

theorem ofBits_inv64 : Ideal.ofBits .f32 0x3C800000#32 = ((1 / 64 : ℝ) : EReal) := by
  simp [Ideal.ofBits, Ideal.ieee, -EReal.coe_mul]; try norm_num

theorem ofBits_16 : Ideal.ofBits .f32 0x41800000#32 = ((16 : ℝ) : EReal) := by
  simp [Ideal.ofBits, Ideal.ieee, -EReal.coe_mul]; try norm_num

theorem ofBits_base : Ideal.ofBits .f32 0x461C4000#32 = ((10000 : ℝ) : EReal) := by
  simp [Ideal.ofBits, Ideal.ieee, -EReal.coe_mul]; try norm_num

theorem ofBits_neg_inf : Ideal.ofBits .f32 0xFF800000#32 = (⊥ : EReal) := by
  simp [Ideal.ofBits, Ideal.ieee]

theorem sitofp_coe (w : BitVec 32) : ∃ r : ℝ, FloatOps.sitofp (F := Ideal) .f32 w = (r : EReal) := ⟨_, rfl⟩

/-- A frequency of the rotation is a real. -/
theorem freq_coe (w : BitVec 32) {n : ℝ} (hn : n ≠ 0) :
    ∃ r : ℝ, Ideal.pow ((10000 : ℝ) : EReal) (Ideal.div (-FloatOps.sitofp (F := Ideal) .f32 w) (n : EReal)) = (r : EReal) := by
  obtain ⟨x, hx⟩ := sitofp_coe w
  rw [hx, Ideal.div_coe hn, ← EReal.coe_neg, ← EReal.coe_mul]
  exact ⟨_, Ideal.pow_coe_coe _ _⟩

theorem sqrt_coe {r : ℝ} (h : 0 ≤ r) : Ideal.sqrt (r : EReal) = ((Real.sqrt r : ℝ) : EReal) := by
  show (if r < 0 then ⊥ else ((Real.sqrt r : ℝ) : EReal)) = _
  rw [if_neg (by linarith)]

/-- The norm of a head of reals, its mean by division. -/
theorem nrm_div {n : ℕ} (hn : 0 < n) (x g : Fin n → ℝ) (d : Fin n) :
    (x d : EReal) * Ideal.rsqrt (Ideal.div (∑ k, (x k : EReal) * (x k : EReal)) ((n : ℝ) : EReal) + (eps : EReal)) * (g d : EReal)
      = ((nrm eps x g d : ℝ) : EReal) := by
  have hp : (0 : ℝ) < n := by exact_mod_cast hn
  simp only [← EReal.coe_mul]
  rw [coe_sum, Ideal.div_coe hp.ne', ← EReal.coe_mul, ← EReal.coe_add, rsqrt_coe, ← EReal.coe_mul, ← EReal.coe_mul]
  · unfold nrm
    rw [mul_one_div]
  · have := eps_pos
    have : 0 ≤ ∑ k, x k * x k := Finset.sum_nonneg fun k _ => mul_self_nonneg _
    positivity

/-- The same with the mean by multiplication. -/
theorem nrm_mul {n : ℕ} (hn : 0 < n) (x g : Fin n → ℝ) (d : Fin n) :
    (x d : EReal) * Ideal.rsqrt (((∑ k, x k * x k : ℝ) : EReal) * ((1 / n : ℝ) : EReal) + (eps : EReal)) * (g d : EReal)
      = ((nrm eps x g d : ℝ) : EReal) := by
  have hp : (0 : ℝ) < n := by exact_mod_cast hn
  rw [← nrm_div hn, Ideal.div_coe hp.ne']
  simp only [← EReal.coe_mul]
  rw [coe_sum]
  simp only [← EReal.coe_mul]

end Cert.Attn

end
-- ==== Proof.GqaRef.lean ====
/-
The grouped-query reference, its result written over named parts.
-/
module

public import Idealize.ShloMosaic.Lib.Pipeline.ValueKit
public import Idealize.ShloMosaic.Lib.Pointwise
public import proofs.«01_k».proof.Proof.Gen.GqaRefIdeal
public import proofs.«01_k».proof.Proof.Gen.GqaRefIdeal.Run
public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.GqaRefIdeal.Parts

open Cert.GqaRefIdeal Cert.GqaRefIdeal.Gen

/-- A value of the reference that is read more than once. -/
def r_v6 (arg0 : FVec Ideal S8x2048x3344 .f32) : FVec Ideal S8x2048x256 .f32 :=
  extractStridedSlice S8x2048x256 ![0, 0, 2064] arg0 slices_S8x2048x3344_S8x2048x256_0_0_2064

/-- The frequencies. -/
def r_v34  : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The angles. -/
def r_v47  : FVec Ideal S2048x32 .f32 :=
  concatenate S2048x32 1 [⟨S2048x16, (mulf (broadcastInDim S2048x16 ![0, 1] bcast_S2048x1_S2048x16_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x16 ![0, 1] bcast_S1x16_S2048x16_0_1 (broadcastInDim S1x16 ![1] bcast_S16_S1x16_1 r_v34)))⟩, ⟨S2048x16, (mulf (broadcastInDim S2048x16 ![0, 1] bcast_S2048x1_S2048x16_0_1 (broadcastInDim S2048x1 ![0] bcast_S2048_S2048x1_0 (sitofp .f32 (shapeCast _ (broadcastInDim S32x64 ![0, 1] bcast_S1x64_S32x64_0_1 (shapeCast _ (iotaInDim S64 32 0) shapeCasts_S64_S1x64)) shapeCasts_S32x64_S2048)))) (broadcastInDim S2048x16 ![0, 1] bcast_S1x16_S2048x16_0_1 (broadcastInDim S1x16 ![1] bcast_S16_S1x16_1 r_v34)))⟩] concatenates_S2048x16_S2048x16_S2048x32_d1

/-- The queries by head. -/
def r_v48 (arg0 : FVec Ideal S8x2048x3344 .f32) : FVec Ideal S8x2048x4x64 .f32 :=
  shapeCast _ (extractStridedSlice S8x2048x256 ![0, 0, 1552] arg0 slices_S8x2048x3344_S8x2048x256_0_0_1552) shapeCasts_S8x2048x256_S8x2048x4x64

/-- The normalised queries. -/
def r_v61 (arg0 : FVec Ideal S8x2048x3344 .f32) (arg2 : FVec Ideal S64 .f32) : FVec Ideal S8x2048x4x64 .f32 :=
  mulf (mulf (r_v48 arg0) (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf (r_v48 arg0) (r_v48 arg0)) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32)))))) (broadcastInDim S8x2048x4x64 ![0, 1, 2, 3] bcast_S1x1x1x64_S8x2048x4x64_0_1_2_3 (broadcastInDim S1x1x1x64 ![3] bcast_S64_S1x1x1x64_3 arg2))

/-- The latent keys by head. -/
def r_v62 (arg0 : FVec Ideal S8x2048x3344 .f32) : FVec Ideal S8x2048x2x64 .f32 :=
  shapeCast _ (extractStridedSlice S8x2048x128 ![0, 0, 1808] arg0 slices_S8x2048x3344_S8x2048x128_0_0_1808) shapeCasts_S8x2048x128_S8x2048x2x64

/-- The normalised latent keys. -/
def r_v75 (arg0 : FVec Ideal S8x2048x3344 .f32) (arg3 : FVec Ideal S64 .f32) : FVec Ideal S8x2048x2x64 .f32 :=
  mulf (mulf (r_v62 arg0) (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf (r_v62 arg0) (r_v62 arg0)) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32)))))) (broadcastInDim S8x2048x2x64 ![0, 1, 2, 3] bcast_S1x1x1x64_S8x2048x2x64_0_1_2_3 (broadcastInDim S1x1x1x64 ![3] bcast_S64_S1x1x1x64_3 arg3))

/-- A value of the reference that is read more than once. -/
def r_v77 (arg1 : FVec Ideal S8x256x3344 .f32) : FVec Ideal S8x256x4x64 .f32 :=
  shapeCast _ (extractStridedSlice S8x256x256 ![0, 0, 1552] arg1 slices_S8x256x3344_S8x256x256_0_0_1552) shapeCasts_S8x256x256_S8x256x4x64

/-- The context keys by head. -/
def r_v91 (arg1 : FVec Ideal S8x256x3344 .f32) : FVec Ideal S8x256x2x64 .f32 :=
  shapeCast _ (extractStridedSlice S8x256x128 ![0, 0, 1808] arg1 slices_S8x256x3344_S8x256x128_0_0_1808) shapeCasts_S8x256x128_S8x256x2x64

/-- A value of the reference that is read more than once. -/
def r_v106 (arg0 : FVec Ideal S8x2048x3344 .f32) (arg2 : FVec Ideal S64 .f32) : FVec Ideal S8x2048x4x32 .f32 :=
  extractStridedSlice S8x2048x4x32 ![0, 0, 0, 0] (r_v61 arg0 arg2) slices_S8x2048x4x64_S8x2048x4x32_0_0_0_0

/-- A value of the reference that is read more than once. -/
def r_v107 (arg0 : FVec Ideal S8x2048x3344 .f32) (arg2 : FVec Ideal S64 .f32) : FVec Ideal S8x2048x4x32 .f32 :=
  extractStridedSlice S8x2048x4x32 ![0, 0, 0, 32] (r_v61 arg0 arg2) slices_S8x2048x4x64_S8x2048x4x32_0_0_0_32

/-- A value of the reference that is read more than once. -/
def r_v109  : FVec Ideal S1x2048x1x32 .f32 :=
  broadcastInDim S1x2048x1x32 ![1, 3] bcast_S2048x32_S1x2048x1x32_1_3 (Host.cos r_v47)

/-- A value of the reference that is read more than once. -/
def r_v111  : FVec Ideal S1x2048x1x32 .f32 :=
  broadcastInDim S1x2048x1x32 ![1, 3] bcast_S2048x32_S1x2048x1x32_1_3 (Host.sin r_v47)

/-- A value of the reference that is read more than once. -/
def r_v123 (arg0 : FVec Ideal S8x2048x3344 .f32) (arg3 : FVec Ideal S64 .f32) : FVec Ideal S8x2048x2x32 .f32 :=
  extractStridedSlice S8x2048x2x32 ![0, 0, 0, 0] (r_v75 arg0 arg3) slices_S8x2048x2x64_S8x2048x2x32_0_0_0_0

/-- A value of the reference that is read more than once. -/
def r_v124 (arg0 : FVec Ideal S8x2048x3344 .f32) (arg3 : FVec Ideal S64 .f32) : FVec Ideal S8x2048x2x32 .f32 :=
  extractStridedSlice S8x2048x2x32 ![0, 0, 0, 32] (r_v75 arg0 arg3) slices_S8x2048x2x64_S8x2048x2x32_0_0_0_32

/-- A value of the reference that is read more than once. -/
def r_v126  : FVec Ideal S1x2048x1x32 .f32 :=
  broadcastInDim S1x2048x1x32 ![1, 3] bcast_S2048x32_S1x2048x1x32_1_3 (Host.cos r_v47)

/-- A value of the reference that is read more than once. -/
def r_v128  : FVec Ideal S1x2048x1x32 .f32 :=
  broadcastInDim S1x2048x1x32 ![1, 3] bcast_S2048x32_S1x2048x1x32_1_3 (Host.sin r_v47)

/-- The normalised context keys. -/
def r_kc (arg1 : FVec Ideal S8x256x3344 .f32) (arg3 : FVec Ideal S64 .f32) : FVec Ideal S8x256x2x64 .f32 :=
  (mulf (mulf (r_v91 arg1) (broadcastInDim S8x256x2x64 ![0, 1, 2, 3] bcast_S8x256x2x1_S8x256x2x64_0_1_2_3 (Host.rsqrt (addf (Host.divf (broadcastInDim S8x256x2x1 ![0, 1, 2] bcast_S8x256x2_S8x256x2x1_0_1_2 (Host.reduceAdd (mulf (r_v91 arg1) (r_v91 arg1)) (constant S_ .f32 0x00000000#32) reducesTo_S8x256x2x64_S8x256x2_d3 h_S_)) (broadcastInDim S8x256x2x1 ![] bcast_S_S8x256x2x1 (constant S_ .f32 0x42800000#32))) (broadcastInDim S8x256x2x1 ![] bcast_S_S8x256x2x1 (constant S_ .f32 0x358637BD#32)))))) (broadcastInDim S8x256x2x64 ![0, 1, 2, 3] bcast_S1x1x1x64_S8x256x2x64_0_1_2_3 (broadcastInDim S1x1x1x64 ![3] bcast_S64_S1x1x1x64_3 arg3)))

/-- The latent keys, rotated. -/
def r_kl (arg0 : FVec Ideal S8x2048x3344 .f32) (arg3 : FVec Ideal S64 .f32) : FVec Ideal S8x2048x2x64 .f32 :=
  (concatenate S8x2048x2x64 3 [⟨S8x2048x2x32, (subf (mulf (r_v123 arg0 arg3) (broadcastInDim S8x2048x2x32 ![0, 1, 2, 3] bcast_S1x2048x1x32_S8x2048x2x32_0_1_2_3 r_v126)) (mulf (r_v124 arg0 arg3) (broadcastInDim S8x2048x2x32 ![0, 1, 2, 3] bcast_S1x2048x1x32_S8x2048x2x32_0_1_2_3 r_v128)))⟩, ⟨S8x2048x2x32, (addf (mulf (r_v124 arg0 arg3) (broadcastInDim S8x2048x2x32 ![0, 1, 2, 3] bcast_S1x2048x1x32_S8x2048x2x32_0_1_2_3 r_v126)) (mulf (r_v123 arg0 arg3) (broadcastInDim S8x2048x2x32 ![0, 1, 2, 3] bcast_S1x2048x1x32_S8x2048x2x32_0_1_2_3 r_v128)))⟩] concatenates_S8x2048x2x32_S8x2048x2x32_S8x2048x2x64_d3)

/-- All the keys. -/
def r_k (arg0 : FVec Ideal S8x2048x3344 .f32) (arg1 : FVec Ideal S8x256x3344 .f32) (arg3 : FVec Ideal S64 .f32) : FVec Ideal S8x2304x2x64 .f32 :=
  (concatenate S8x2304x2x64 1 [⟨S8x256x2x64, (r_kc arg1 arg3)⟩, ⟨S8x2048x2x64, (r_kl arg0 arg3)⟩] concatenates_S8x256x2x64_S8x2048x2x64_S8x2304x2x64_d1)

/-- The queries, rotated. -/
def r_q (arg0 : FVec Ideal S8x2048x3344 .f32) (arg2 : FVec Ideal S64 .f32) : FVec Ideal S8x2048x4x64 .f32 :=
  (concatenate S8x2048x4x64 3 [⟨S8x2048x4x32, (subf (mulf (r_v106 arg0 arg2) (broadcastInDim S8x2048x4x32 ![0, 1, 2, 3] bcast_S1x2048x1x32_S8x2048x4x32_0_1_2_3 r_v109)) (mulf (r_v107 arg0 arg2) (broadcastInDim S8x2048x4x32 ![0, 1, 2, 3] bcast_S1x2048x1x32_S8x2048x4x32_0_1_2_3 r_v111)))⟩, ⟨S8x2048x4x32, (addf (mulf (r_v107 arg0 arg2) (broadcastInDim S8x2048x4x32 ![0, 1, 2, 3] bcast_S1x2048x1x32_S8x2048x4x32_0_1_2_3 r_v109)) (mulf (r_v106 arg0 arg2) (broadcastInDim S8x2048x4x32 ![0, 1, 2, 3] bcast_S1x2048x1x32_S8x2048x4x32_0_1_2_3 r_v111)))⟩] concatenates_S8x2048x4x32_S8x2048x4x32_S8x2048x4x64_d3)

/-- The scores. -/
def r_v147 (arg0 : FVec Ideal S8x2048x3344 .f32) (arg1 : FVec Ideal S8x256x3344 .f32) (arg2 : FVec Ideal S64 .f32) (arg3 : FVec Ideal S64 .f32) : FVec Ideal S8x2x2x2048x2304 .f32 :=
  Host.divf (transpose S8x2x2x2048x2304 [0, 1, 4, 3, 2] (Host.dotGeneral dot_S8x2304x2x64_S8x2048x2x2x64_S8x2x2304x2048x2_3_4_1_13_02_02 none (r_k arg0 arg1 arg3) (shapeCast _ (r_q arg0 arg2) shapeCasts_S8x2048x4x64_S8x2048x2x2x64)) transposes_S8x2x2304x2048x2_S8x2x2x2048x2304_0_1_4_3_2) (broadcastInDim S8x2x2x2048x2304 ![] bcast_S_S8x2x2x2048x2304 (Host.sqrt (constant S_ .f32 0x42800000#32)))

/-- The exponentials of the scores. -/
def r_v152 (arg0 : FVec Ideal S8x2048x3344 .f32) (arg1 : FVec Ideal S8x256x3344 .f32) (arg2 : FVec Ideal S64 .f32) (arg3 : FVec Ideal S64 .f32) : FVec Ideal S8x2x2x2048x2304 .f32 :=
  Host.exp (subf (r_v147 arg0 arg1 arg2 arg3) (broadcastInDim S8x2x2x2048x2304 ![0, 1, 2, 3, 4] bcast_S8x2x2x2048x1_S8x2x2x2048x2304_0_1_2_3_4 (broadcastInDim S8x2x2x2048x1 ![0, 1, 2, 3] bcast_S8x2x2x2048_S8x2x2x2048x1_0_1_2_3 (Host.reduce FloatOps.maximumf (r_v147 arg0 arg1 arg2 arg3) (constant S_ .f32 0xFF800000#32) reducesTo_S8x2x2x2048x2304_S8x2x2x2048_d4 h_S_))))

/-- All the values. -/
def r_v (arg0 : FVec Ideal S8x2048x3344 .f32) (arg1 : FVec Ideal S8x256x3344 .f32) : FVec Ideal S8x2304x2x64 .f32 :=
  (concatenate S8x2304x2x64 1 [⟨S8x256x2x64, (shapeCast _ (extractStridedSlice S8x256x128 ![0, 0, 1936] arg1 slices_S8x256x3344_S8x256x128_0_0_1936) shapeCasts_S8x256x128_S8x256x2x64)⟩, ⟨S8x2048x2x64, (shapeCast _ (extractStridedSlice S8x2048x128 ![0, 0, 1936] arg0 slices_S8x2048x3344_S8x2048x128_0_0_1936) shapeCasts_S8x2048x128_S8x2048x2x64)⟩] concatenates_S8x256x2x64_S8x2048x2x64_S8x2304x2x64_d1)

/-- The output of the attention. -/
def r_o (arg0 : FVec Ideal S8x2048x3344 .f32) (arg1 : FVec Ideal S8x256x3344 .f32) (arg2 : FVec Ideal S64 .f32) (arg3 : FVec Ideal S64 .f32) : FVec Ideal S8x2048x2x2x64 .f32 :=
  (transpose S8x2048x2x2x64 [0, 4, 1, 3, 2] (Host.dotGeneral dot_S8x2304x2x64_S8x2x2x2048x2304_S8x2x64x2x2048_1_4_3_23_02_01 none (r_v arg0 arg1) (Host.divf (r_v152 arg0 arg1 arg2 arg3) (broadcastInDim S8x2x2x2048x2304 ![0, 1, 2, 3, 4] bcast_S8x2x2x2048x1_S8x2x2x2048x2304_0_1_2_3_4 (broadcastInDim S8x2x2x2048x1 ![0, 1, 2, 3] bcast_S8x2x2x2048_S8x2x2x2048x1_0_1_2_3 (Host.reduceAdd (r_v152 arg0 arg1 arg2 arg3) (constant S_ .f32 0x00000000#32) reducesTo_S8x2x2x2048x2304_S8x2x2x2048_d4 h_S_))))) transposes_S8x2x64x2x2048_S8x2048x2x2x64_0_4_1_3_2)

/-- The gated output. -/
def r_v162 (arg0 : FVec Ideal S8x2048x3344 .f32) (arg1 : FVec Ideal S8x256x3344 .f32) (arg2 : FVec Ideal S64 .f32) (arg3 : FVec Ideal S64 .f32) : FVec Ideal S8x2048x256 .f32 :=
  mulf (shapeCast _ (shapeCast _ (r_o arg0 arg1 arg2 arg3) shapeCasts_S8x2048x2x2x64_S8x2048x4x64) shapeCasts_S8x2048x4x64_S8x2048x256) (mulf (r_v6 arg0) (Host.divf (broadcastInDim S8x2048x256 ![] bcast_S_S8x2048x256 (constant S_ .f32 0x3F800000#32)) (addf (broadcastInDim S8x2048x256 ![] bcast_S_S8x2048x256 (constant S_ .f32 0x3F800000#32)) (Host.exp (Host.negf (r_v6 arg0))))))

/-- The reference's result. -/
def out (arg0 : FVec Ideal S8x2048x3344 .f32) (arg1 : FVec Ideal S8x256x3344 .f32) (arg2 : FVec Ideal S64 .f32) (arg3 : FVec Ideal S64 .f32) : FVec Ideal S16384x256 .bf16 :=
  truncf .bf16 (shapeCast _ ((concatenate S8x2048x256 2 [⟨S8x2048x64, ((extractStridedSlice S8x2048x64 ![0, 0, 0] (r_v162 arg0 arg1 arg2 arg3) slices_S8x2048x256_S8x2048x64_0_0_0) : FVec Ideal S8x2048x64 .f32)⟩, ⟨S8x2048x64, ((extractStridedSlice S8x2048x64 ![0, 0, 128] (r_v162 arg0 arg1 arg2 arg3) slices_S8x2048x256_S8x2048x64_0_0_128) : FVec Ideal S8x2048x64 .f32)⟩, ⟨S8x2048x64, ((extractStridedSlice S8x2048x64 ![0, 0, 64] (r_v162 arg0 arg1 arg2 arg3) slices_S8x2048x256_S8x2048x64_0_0_64) : FVec Ideal S8x2048x64 .f32)⟩, ⟨S8x2048x64, ((extractStridedSlice S8x2048x64 ![0, 0, 192] (r_v162 arg0 arg1 arg2 arg3) slices_S8x2048x256_S8x2048x64_0_0_192) : FVec Ideal S8x2048x64 .f32)⟩] concatenates_S8x2048x64_S8x2048x64_S8x2048x64_S8x2048x64_S8x2048x256_d2 : FVec Ideal S8x2048x256 .f32)) shapeCasts_S8x2048x256_S16384x256) bitsLt_bf16_f32

/-- The queries' columns, the keys' and the gains are real numbers. -/
structure Fin (a0 : FVec Ideal S8x2048x3344 .f32) (a1 : FVec Ideal S8x256x3344 .f32) (a2 a3 : FVec Ideal S64 .f32) : Prop where
  lat : ∀ (b : _root_.Fin 8) (t : _root_.Fin 2048) (j : _root_.Fin 3344), 1552 ≤ j.val → j.val < 1936 → a0 (ix3 b t j) = ((a0 (ix3 b t j)).toReal : EReal)
  ctx : ∀ (b : _root_.Fin 8) (t : _root_.Fin 256) (j : _root_.Fin 3344), 1808 ≤ j.val → j.val < 1936 → a1 (ix3 b t j) = ((a1 (ix3 b t j)).toReal : EReal)
  gq : ∀ d : _root_.Fin 64, a2 (ix1 d) = ((a2 (ix1 d)).toReal : EReal)
  gk : ∀ d : _root_.Fin 64, a3 (ix1 d) = ((a3 (ix1 d)).toReal : EReal)

/-- The angles as reals. -/
def ang (t : _root_.Fin 2048) (k : _root_.Fin 32) : ℝ := (r_v47 (ix2 t k)).toReal

theorem ang_eq (t : _root_.Fin 2048) (k : _root_.Fin 32) : r_v47 (ix2 t k) = (ang t k : EReal) := by
  have h : ∃ r : ℝ, r_v47 (ix2 t k) = (r : EReal) := by
    pointwise [r_v47, r_v34]
    rw [Cert.Attn.ofBits_base, Cert.Attn.ofBits_16]
    split_ifs
    all_goals
      obtain ⟨r, hr⟩ := Cert.Attn.freq_coe _ (n := 16) (by norm_num)
      rw [hr]
      exact ⟨_, (EReal.coe_mul _ _).symm⟩
  obtain ⟨r, hr⟩ := h
  unfold ang
  rw [hr]
  rfl

theorem cos_eq (t : _root_.Fin 2048) (k : _root_.Fin 32) : Ideal.cos (r_v47 (ix2 t k)) = ((Real.cos (ang t k) : ℝ) : EReal) := by
  rw [ang_eq]; rfl

theorem sin_eq (t : _root_.Fin 2048) (k : _root_.Fin 32) : Ideal.sin (r_v47 (ix2 t k)) = ((Real.sin (ang t k) : ℝ) : EReal) := by
  rw [ang_eq]; rfl

/-- A query's head as reals. -/
def qx (a0 : FVec Ideal S8x2048x3344 .f32) (b : _root_.Fin 8) (t : _root_.Fin 2048) (h : _root_.Fin 4) (d : _root_.Fin 64) : ℝ :=
  (a0 (ix3 b t (⟨1552 + (h.val * 64 + d.val), by omega⟩ : _root_.Fin 3344))).toReal

/-- A latent key's head as reals. -/
def klx (a0 : FVec Ideal S8x2048x3344 .f32) (b : _root_.Fin 8) (t : _root_.Fin 2048) (g : _root_.Fin 2) (d : _root_.Fin 64) : ℝ :=
  (a0 (ix3 b t (⟨1808 + (g.val * 64 + d.val), by omega⟩ : _root_.Fin 3344))).toReal

/-- A context key's head as reals. -/
def kcx (a1 : FVec Ideal S8x256x3344 .f32) (b : _root_.Fin 8) (t : _root_.Fin 256) (g : _root_.Fin 2) (d : _root_.Fin 64) : ℝ :=
  (a1 (ix3 b t (⟨1808 + (g.val * 64 + d.val), by omega⟩ : _root_.Fin 3344))).toReal

/-- A gain as reals. -/
def gx (a : FVec Ideal S64 .f32) (d : _root_.Fin 64) : ℝ := (a (ix1 d)).toReal

/-- The rotated query as reals. -/
def qr (a0 : FVec Ideal S8x2048x3344 .f32) (a2 : FVec Ideal S64 .f32) (b : _root_.Fin 8) (t : _root_.Fin 2048) (h : _root_.Fin 4) (d : _root_.Fin 64) : ℝ :=
  Cert.Attn.rot (h := 32) (Cert.Attn.nrm Cert.Attn.eps (qx a0 b t h) (gx a2)) (fun k => Real.cos (ang t k)) (fun k => Real.sin (ang t k)) d

/-- The rotated latent key as reals. -/
def klr (a0 : FVec Ideal S8x2048x3344 .f32) (a3 : FVec Ideal S64 .f32) (b : _root_.Fin 8) (t : _root_.Fin 2048) (g : _root_.Fin 2) (d : _root_.Fin 64) : ℝ :=
  Cert.Attn.rot (h := 32) (Cert.Attn.nrm Cert.Attn.eps (klx a0 b t g) (gx a3)) (fun k => Real.cos (ang t k)) (fun k => Real.sin (ang t k)) d

/-- The context key as reals. -/
def kcr (a1 : FVec Ideal S8x256x3344 .f32) (a3 : FVec Ideal S64 .f32) (b : _root_.Fin 8) (t : _root_.Fin 256) (g : _root_.Fin 2) (d : _root_.Fin 64) : ℝ :=
  Cert.Attn.nrm Cert.Attn.eps (kcx a1 b t g) (gx a3) d

/-- Every key as reals. -/
def kr (a0 : FVec Ideal S8x2048x3344 .f32) (a1 : FVec Ideal S8x256x3344 .f32) (a3 : FVec Ideal S64 .f32) (b : _root_.Fin 8) (g : _root_.Fin 2) (s : _root_.Fin 2304) (d : _root_.Fin 64) : ℝ :=
  if p : s.val < 256 then kcr a1 a3 b ⟨s.val, p⟩ g d else klr a0 a3 b ⟨s.val - 256, by omega⟩ g d

theorem gate_at {a0 : FVec Ideal S8x2048x3344 .f32} {a1 : FVec Ideal S8x256x3344 .f32} {a2 a3 : FVec Ideal S64 .f32}
    (b : _root_.Fin 8) (q : _root_.Fin 2048) (g g' r r' : _root_.Fin 2) (d d' : _root_.Fin 64) (e f : _root_.Fin 3344)
    (hg : g'.val = g.val) (hr : r'.val = r.val) (hd : d'.val = d.val) (he : f.val = e.val) :
    r_o a0 a1 a2 a3 (ix5 b q g' r' d') * (a0 (ix3 b q f) * Ideal.div 1 (1 + Ideal.exp (-a0 (ix3 b q f))))
      = r_o a0 a1 a2 a3 (ix5 b q g r d) * (a0 (ix3 b q e) * Ideal.logistic (a0 (ix3 b q e))) := by
  obtain rfl := Fin.ext hg
  obtain rfl := Fin.ext hr
  obtain rfl := Fin.ext hd
  obtain rfl := Fin.ext he
  rfl

section
variable {a0 : FVec Ideal S8x2048x3344 .f32} {a1 : FVec Ideal S8x256x3344 .f32} {a2 a3 : FVec Ideal S64 .f32} (H : Parts.Fin a0 a1 a2 a3)
include H

theorem qx_eq (b : _root_.Fin 8) (t : _root_.Fin 2048) (h : _root_.Fin 4) (d : _root_.Fin 64) :
    a0 (ix3 b t (⟨1552 + (h.val * 64 + d.val), by omega⟩ : _root_.Fin 3344)) = (qx a0 b t h d : EReal) := H.lat _ _ _ (by show 1552 ≤ 1552 + (h.val * 64 + d.val); omega) (by show 1552 + (h.val * 64 + d.val) < 1936; omega)

theorem klx_eq (b : _root_.Fin 8) (t : _root_.Fin 2048) (h : _root_.Fin 2) (d : _root_.Fin 64) :
    a0 (ix3 b t (⟨1808 + (h.val * 64 + d.val), by omega⟩ : _root_.Fin 3344)) = (klx a0 b t h d : EReal) := H.lat _ _ _ (by show 1552 ≤ 1808 + (h.val * 64 + d.val); omega) (by show 1808 + (h.val * 64 + d.val) < 1936; omega)

theorem kcx_eq (b : _root_.Fin 8) (t : _root_.Fin 256) (h : _root_.Fin 2) (d : _root_.Fin 64) :
    a1 (ix3 b t (⟨1808 + (h.val * 64 + d.val), by omega⟩ : _root_.Fin 3344)) = (kcx a1 b t h d : EReal) := H.ctx _ _ _ (by show 1808 ≤ 1808 + (h.val * 64 + d.val); omega) (by show 1808 + (h.val * 64 + d.val) < 1936; omega)

theorem r_v61_eq (b : _root_.Fin 8) (t : _root_.Fin 2048) (h : _root_.Fin 4) (d : _root_.Fin 64) :
    r_v61 a0 a2 (ix4 b t h d) = (Cert.Attn.nrm Cert.Attn.eps (qx a0 b t h) (gx a2) d : EReal) := by
  pointwise [r_v61, r_v48]
  rw [Cert.Attn.ofBits_eps, Cert.Attn.ofBits_64]
  simp only [qx_eq H]
  rw [H.gq d]
  exact Cert.Attn.nrm_div (n := 64) (by norm_num) (qx a0 b t h) (gx a2) d

theorem r_v75_eq (b : _root_.Fin 8) (t : _root_.Fin 2048) (h : _root_.Fin 2) (d : _root_.Fin 64) :
    r_v75 a0 a3 (ix4 b t h d) = (Cert.Attn.nrm Cert.Attn.eps (klx a0 b t h) (gx a3) d : EReal) := by
  pointwise [r_v75, r_v62]
  rw [Cert.Attn.ofBits_eps, Cert.Attn.ofBits_64]
  simp only [klx_eq H]
  rw [H.gk d]
  exact Cert.Attn.nrm_div (n := 64) (by norm_num) (klx a0 b t h) (gx a3) d

theorem r_kc_eq (b : _root_.Fin 8) (t : _root_.Fin 256) (h : _root_.Fin 2) (d : _root_.Fin 64) :
    r_kc a1 a3 (ix4 b t h d) = (kcr a1 a3 b t h d : EReal) := by
  pointwise [r_kc, r_v91]
  rw [Cert.Attn.ofBits_eps, Cert.Attn.ofBits_64]
  simp only [kcx_eq H]
  rw [H.gk d]
  exact Cert.Attn.nrm_div (n := 64) (by norm_num) (kcx a1 b t h) (gx a3) d

theorem r_q_eq (b : _root_.Fin 8) (t : _root_.Fin 2048) (h : _root_.Fin 4) (d : _root_.Fin 64) :
    r_q a0 a2 (ix4 b t h d) = (qr a0 a2 b t h d : EReal) := by
  pointwise [r_q, r_v106, r_v107, r_v109, r_v111]
  simp only [r_v61_eq H, cos_eq, sin_eq, ← EReal.coe_mul, ← EReal.coe_add, ← EReal.coe_sub]
  unfold qr Cert.Attn.rot
  split_ifs
  all_goals first
    | (congr 5 <;> omega)
    | (rename_i z; exact absurd rfl z)

theorem r_kl_eq (b : _root_.Fin 8) (t : _root_.Fin 2048) (h : _root_.Fin 2) (d : _root_.Fin 64) :
    r_kl a0 a3 (ix4 b t h d) = (klr a0 a3 b t h d : EReal) := by
  pointwise [r_kl, r_v123, r_v124, r_v126, r_v128]
  simp only [r_v75_eq H, cos_eq, sin_eq, ← EReal.coe_mul, ← EReal.coe_add, ← EReal.coe_sub]
  unfold klr Cert.Attn.rot
  split_ifs
  all_goals first
    | (congr 5 <;> omega)
    | (rename_i z; exact absurd rfl z)

theorem r_k_eq (b : _root_.Fin 8) (s : _root_.Fin 2304) (g : _root_.Fin 2) (d : _root_.Fin 64) :
    r_k a0 a1 a3 (ix4 b s g d) = (kr a0 a1 a3 b g s d : EReal) := by
  pointwise [r_k]
  unfold kr
  simp only [r_kc_eq H, r_kl_eq H]
  split_ifs <;> rfl

theorem sqrt64 : Ideal.sqrt (Ideal.ofBits .f32 0x42800000#32) = ((8 : ℝ) : EReal) := by
  rw [Cert.Attn.ofBits_64, Cert.Attn.sqrt_coe (by norm_num)]
  congr 1
  rw [show (64 : ℝ) = 8 ^ 2 by norm_num, Real.sqrt_sq (by norm_num)]

theorem r_v147_eq (b : _root_.Fin 8) (g r : _root_.Fin 2) (q : _root_.Fin 2048) (s : _root_.Fin 2304) :
    r_v147 a0 a1 a2 a3 (ix5 b g r q s)
      = (((∑ d, qr a0 a2 b q ⟨g.val * 2 + r.val, by omega⟩ d * kr a0 a1 a3 b g s d) / 8 : ℝ) : EReal) := by
  pointwise [r_v147]
  rw [sqrt64 H]
  simp only [r_k_eq H, r_q_eq H, ← EReal.coe_mul]
  rw [Cert.Attn.coe_sum, Ideal.div_coe (by norm_num), ← EReal.coe_mul, mul_one_div]
  simp only [mul_comm]

theorem r_o_eq (b : _root_.Fin 8) (g r : _root_.Fin 2) (q : _root_.Fin 2048) (d : _root_.Fin 64) :
    r_o a0 a1 a2 a3 (ix5 b q g r d)
      = Cert.Attn.head 8 (qr a0 a2 b q ⟨g.val * 2 + r.val, by omega⟩) (kr a0 a1 a3 b g) (fun s => r_v a0 a1 (ix4 b s g d)) := by
  pointwise [r_o, r_v152]
  rw [Cert.Attn.ofBits_neg_inf]
  rw [← Cert.Attn.head_ref (by norm_num) 8 _ _ _ (fun s => r_v147 a0 a1 a2 a3 (ix5 b g r q s)) fun s => r_v147_eq H b g r q s]
  simp only [mul_comm]

/-- The reference's result at head `2·g + r` of a row, which leaves as head `2·r + g`. -/
theorem out_eq (b : _root_.Fin 8) (q : _root_.Fin 2048) (g r : _root_.Fin 2) (d : _root_.Fin 64) :
    out a0 a1 a2 a3 (ix2 (⟨b.val * 2048 + q.val, by omega⟩ : _root_.Fin 16384) (⟨r.val * 128 + g.val * 64 + d.val, by omega⟩ : _root_.Fin 256))
      = Cert.Attn.head 8 (qr a0 a2 b q ⟨g.val * 2 + r.val, by omega⟩) (kr a0 a1 a3 b g) (fun s => r_v a0 a1 (ix4 b s g d))
        * (a0 (ix3 b q (⟨2064 + (g.val * 128 + r.val * 64 + d.val), by omega⟩ : _root_.Fin 3344))
          * Ideal.logistic (a0 (ix3 b q (⟨2064 + (g.val * 128 + r.val * 64 + d.val), by omega⟩ : _root_.Fin 3344)))) := by
  rw [← r_o_eq H]
  pointwise [out, r_v162, r_v6]
  fin_cases g <;> fin_cases r
  all_goals dsimp only
  all_goals split_ifs
  all_goals first
    | (exfalso; omega)
    | exact gate_at b q _ _ _ _ _ _ _ _ (by (try dsimp only) <;> omega) (by (try dsimp only) <;> omega) (by (try dsimp only) <;> omega) (by (try dsimp only) <;> omega)
end
end Cert.GqaRefIdeal.Parts

end
-- ==== Proof.GqaPre.lean ====
/-
The attention: what the precondition gives, and the reference's result as a function of its arguments.
-/
module

public import proofs.«01_k».proof.Proof.Gen.Pre_norms_finite
public import proofs.«01_k».proof.Proof.Gen.GqaRefIdeal.Run
public import proofs.«01_k».proof.Proof.GqaRef
public import Idealize.ShloMosaic.Lib.ReduceAll
public import Idealize.ShloMosaic.Lib.Pointwise
@[expose] public section

set_option maxRecDepth 16384

noncomputable section

open Idealize.ShloMosaic Idealize.ShloMosaic.TcCoe Idealize.SL.Sem

namespace Cert.Pre_norms_finite

/-- A value whose magnitude is below infinity is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  refine (EReal.coe_toReal hlt.1.ne fun hb => ?_).symm
  subst hb
  simp at hlt

theorem and_one (a b : BitVec 1) (h : a &&& b = 1#1) : a = 1#1 ∧ b = 1#1 := by revert h; revert a b; decide

/-- The precondition makes the queries, the keys and the gains real numbers. -/
theorem ok (a0 : FVec Ideal S8x2048x3344 .f32) (a1 : FVec Ideal S8x256x3344 .f32) (a2 a3 : FVec Ideal S64 .f32)
    (h : fn (F := Ideal) a0 a1 a2 a3 = fun _ => 1#1) : Cert.GqaRefIdeal.Parts.Fin a0 a1 a2 a3 := by
  have : Subsingleton S_.Idx := ⟨fun a b => funext fun k => k.elim0⟩
  have h0 := congrFun h (fun a => a.elim0)
  dsimp only [fn, fn_part1] at h0
  obtain ⟨h0, h4⟩ := and_one _ _ h0
  obtain ⟨h0, h3⟩ := and_one _ _ h0
  obtain ⟨h1, h2⟩ := and_one _ _ h0
  have k1 := Host.reduce_andi_all _ _ _ _ _ h1
  have k2 := Host.reduce_andi_all _ _ _ _ _ h2
  have k3 := Host.reduce_andi_all _ _ _ _ _ h3
  have k4 := Host.reduce_andi_all _ _ _ _ _ h4
  clear h h0 h1 h2 h3 h4
  refine ⟨fun b t j hj hj' => ?_, fun b t j hj hj' => ?_, fun d => real_of_lt _ (k3 (ix1 d)), fun d => real_of_lt _ (k4 (ix1 d))⟩
  · have e : a0 (ix3 b t j) = extractStridedSlice S8x2048x384 ![0, 0, 1552] a0 Facts.slices_S8x2048x3344_S8x2048x384_0_0_1552 (ix3 b t (⟨j.val - 1552, by omega⟩ : Fin 384)) := by
      refine congrArg a0 (funext fun a => Fin.ext ?_)
      match a with
      | ⟨0, _⟩ => exact (Nat.zero_add _).symm
      | ⟨1, _⟩ => exact (Nat.zero_add _).symm
      | ⟨2, _⟩ => exact (Nat.add_sub_cancel' hj).symm
    rw [e]
    exact real_of_lt _ (k1 _)
  · have e : a1 (ix3 b t j) = extractStridedSlice S8x256x128 ![0, 0, 1808] a1 Facts.slices_S8x256x3344_S8x256x128_0_0_1808 (ix3 b t (⟨j.val - 1808, by omega⟩ : Fin 128)) := by
      refine congrArg a1 (funext fun a => Fin.ext ?_)
      match a with
      | ⟨0, _⟩ => exact (Nat.zero_add _).symm
      | ⟨1, _⟩ => exact (Nat.zero_add _).symm
      | ⟨2, _⟩ => exact (Nat.add_sub_cancel' hj).symm
    rw [e]
    exact real_of_lt _ (k2 _)

end Cert.Pre_norms_finite

namespace Cert.GqaRefIdeal.Parts

/-- The reference leaves `out` of its arguments. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.GqaRefIdeal.Value.run (F := Ideal) m ρ

end Cert.GqaRefIdeal.Parts

end
-- ==== Proof.AttnBits.lean ====
/-
Facts shared by the attention kernels: lane masks, sums over a segment of lanes, rotation by lanes.
-/
module

public import Idealize.ShloMosaic.Lib.Pipeline.ValueKit
public import Idealize.ShloMosaic.Lib.Pointwise
public import proofs.«01_k».proof.Proof.AttnMath

@[expose] public section

set_option maxRecDepth 16384

noncomputable section

open Idealize.ShloMosaic Idealize.ShloMosaic.TcCoe Idealize.SL.Sem

namespace Cert.Attn

theorem sel_one {α : Type} (p : Prop) [Decidable p] (w : BitVec 1) (a b : α) (h : w = if p then 1#1 else 0#1) :
    Scalar.select w a b = if p then a else b := by
  subst h
  split_ifs <;> rfl

theorem low_bits : ∀ i : Fin 256, IntOp.cmpi .slt (IntOp.andi (BitVec.ofNat 32 i.val) 63#32) 32#32 = if i.val % 64 < 32 then 1#1 else 0#1 := by
  decide +kernel

theorem seg_bits : ∀ i j : Fin 256, IntOp.cmpi .eq (IntOp.andi (BitVec.ofNat 32 i.val) 4294967232#32) (IntOp.andi (BitVec.ofNat 32 j.val) 4294967232#32)
    = if i.val / 64 = j.val / 64 then 1#1 else 0#1 := by
  decide +kernel

theorem lo_bits : ∀ j : Fin 128, IntOp.andi (IntOp.cmpi .sge (BitVec.ofNat 32 j.val) 0#32) (IntOp.cmpi .slt (BitVec.ofNat 32 j.val) 64#32)
    = if j.val / 64 = 0 then 1#1 else 0#1 := by
  decide +kernel

theorem hi_bits : ∀ j : Fin 128, IntOp.andi (IntOp.cmpi .sge (BitVec.ofNat 32 j.val) 64#32) (IntOp.cmpi .slt (BitVec.ofNat 32 j.val) 128#32)
    = if j.val / 64 = 1 then 1#1 else 0#1 := by
  decide +kernel

theorem half_bits : ∀ j : Fin 128, IntOp.cmpi .slt (BitVec.ofNat 32 j.val) 64#32 = if j.val < 64 then 1#1 else 0#1 := by
  decide +kernel

/-- The sum over the lanes of one's own segment of 64. -/
theorem seg_sum {N : ℕ} (n : ℕ) (hN : N = 64 * n) (f : Fin N → ℝ) (p : ℕ) (hp : p < n) :
    ∑ x : Fin N, (if x.val / 64 = p then (f x : EReal) else 0) = ((∑ e : Fin 64, f ⟨64 * p + e.val, by omega⟩ : ℝ) : EReal) := by
  rw [← coe_sum, ← Finset.sum_filter]
  refine Finset.sum_bij' (fun x _ => (⟨x.val % 64, Nat.mod_lt _ (by norm_num)⟩ : Fin 64)) (fun e _ => (⟨64 * p + e.val, by omega⟩ : Fin N)) ?_ ?_ ?_ ?_ ?_
  · intro x _; exact Finset.mem_univ _
  · intro e _; rw [Finset.mem_filter]; exact ⟨Finset.mem_univ _, by show (64 * p + e.val) / 64 = p; omega⟩
  · intro x hx
    have h := (Finset.mem_filter.mp hx).2
    exact Fin.ext (by show 64 * p + x.val % 64 = x.val; omega)
  · intro e _
    exact Fin.ext (by show (64 * p + e.val) % 64 = e.val; omega)
  · intro x hx
    have h := (Finset.mem_filter.mp hx).2
    congr 1
    exact congrArg f (Fin.ext (by show x.val = 64 * p + x.val % 64; omega))

/-- A row scaled by the reciprocal root mean square of its own segment, the sum of squares
taken in three parts of which the last two vanish. -/
theorem seg_nrm {N : ℕ} (n : ℕ) (hN : N = 64 * n) (x : Fin N → ℝ) (M : Fin N → EReal) (γ : Fin 64 → ℝ) (j : Fin N)
    (hM : ∀ k : Fin N, M k = if k.val / 64 = j.val / 64 then 1 else 0) :
    (x j : EReal) * Ideal.rsqrt ((∑ k, (x k : EReal) * (x k : EReal) * M k
        + ∑ k, ((x k : EReal) * (x k : EReal) - (x k : EReal) * (x k : EReal)) * M k
        + ∑ k, ((x k : EReal) * (x k : EReal) - (x k : EReal) * (x k : EReal) - ((x k : EReal) * (x k : EReal) - (x k : EReal) * (x k : EReal))) * M k)
        * Ideal.ofBits .f32 0x3C800000#32 + Ideal.ofBits .f32 0x358637BD#32) * (γ ⟨j.val % 64, Nat.mod_lt _ (by norm_num)⟩ : EReal)
      = (nrm eps (fun e : Fin 64 => x ⟨64 * (j.val / 64) + e.val, by omega⟩) γ ⟨j.val % 64, Nat.mod_lt _ (by norm_num)⟩ : EReal) := by
  have h0 : ∀ k, (x k : EReal) * (x k : EReal) - (x k : EReal) * (x k : EReal) = 0 := fun k => by
    rw [← EReal.coe_mul, ← EReal.coe_sub, sub_self, EReal.coe_zero]
  have h1 : ∀ k, (x k : EReal) * (x k : EReal) * M k = if k.val / 64 = j.val / 64 then ((x k * x k : ℝ) : EReal) else 0 := fun k => by
    rw [hM, ← EReal.coe_mul]
    split_ifs
    · rw [mul_one]
    · rw [mul_zero]
  simp only [h1, h0, sub_zero, zero_mul, Finset.sum_const_zero, add_zero]
  rw [seg_sum n hN (fun k => x k * x k) (j.val / 64) (by omega), ofBits_inv64, ofBits_eps]
  have hj : x j = (fun e : Fin 64 => x ⟨64 * (j.val / 64) + e.val, by omega⟩) ⟨j.val % 64, Nat.mod_lt _ (by norm_num)⟩ :=
    congrArg x (Fin.ext (by show j.val = 64 * (j.val / 64) + j.val % 64; omega))
  rw [hj]
  exact nrm_mul (n := 64) (by norm_num) (fun e : Fin 64 => x ⟨64 * (j.val / 64) + e.val, by omega⟩) γ ⟨j.val % 64, Nat.mod_lt _ (by norm_num)⟩

/-- Attention of one head whose queries sit in one half of the lanes, the other half zero, with
the denominator carried by a column of ones. -/
theorem head_pad (kv : ℕ) (hkv : kv < 2) (q : Fin 64 → ℝ) (K : Fin 2304 → Fin 64 → ℝ) (Q : Fin 128 → EReal) (T : Fin 128 → Fin 2304 → EReal)
    (V W : Fin 2304 → EReal)
    (hQ : ∀ x : Fin 128, Q x = if x.val / 64 = kv then ((q ⟨x.val % 64, Nat.mod_lt _ (by norm_num)⟩ * (8⁻¹ * (Real.log 2)⁻¹) : ℝ) : EReal) else 0)
    (hT : ∀ (x : Fin 128) s, x.val / 64 = kv → T x s = (K s ⟨x.val % 64, Nat.mod_lt _ (by norm_num)⟩ : EReal))
    (hW : ∀ s, W s = 1) :
    Ideal.div (∑ s, Ideal.exp2 (∑ x, Q x * T x s - Finset.univ.fold max (Ideal.ofBits .f32 4286578688#32) fun k => ∑ x, Q x * T x k) * V s)
      (∑ s, Ideal.exp2 (∑ x, Q x * T x s - Finset.univ.fold max (Ideal.ofBits .f32 4286578688#32) fun k => ∑ x, Q x * T x k) * W s)
      = head 8 q K V := by
  have hS : ∀ s, ∑ x, Q x * T x s = (((∑ d, q d * K s d) / 8 * (Real.log 2)⁻¹ : ℝ) : EReal) := fun s => by
    have e : ∀ x : Fin 128, Q x * T x s = if x.val / 64 = kv then
        ((q ⟨x.val % 64, Nat.mod_lt _ (by norm_num)⟩ * (8⁻¹ * (Real.log 2)⁻¹) * K s ⟨x.val % 64, Nat.mod_lt _ (by norm_num)⟩ : ℝ) : EReal) else 0 := fun x => by
      rw [hQ]
      split_ifs with h
      · rw [hT x s h, ← EReal.coe_mul]
      · rw [zero_mul]
    simp only [e]
    rw [seg_sum 2 rfl (fun x : Fin 128 => q ⟨x.val % 64, Nat.mod_lt _ (by norm_num)⟩ * (8⁻¹ * (Real.log 2)⁻¹) * K s ⟨x.val % 64, Nat.mod_lt _ (by norm_num)⟩) kv hkv]
    congr 1
    rw [Finset.sum_div, Finset.sum_mul]
    refine Finset.sum_congr rfl fun d _ => ?_
    have hd : (⟨(64 * kv + d.val) % 64, Nat.mod_lt _ (by norm_num)⟩ : Fin 64) = d := Fin.ext (by show (64 * kv + d.val) % 64 = d.val; omega)
    dsimp only
    rw [hd]
    ring
  rw [ofBits_neg_inf]
  simp only [hW, mul_one]
  exact head_kern (by norm_num) 8 q K V (fun s => ∑ x, Q x * T x s) hS

end Cert.Attn

end
-- ==== Proof.GqaVal.lean ====
/-
The values the grouped-query attention kernel's launch finds, entry by entry.
-/
module

public import Idealize.ShloMosaic.Lib.Pipeline.ValueKit
public import Idealize.ShloMosaic.Lib.Pointwise
public import proofs.«01_k».proof.Proof.Gen.GqaIdeal.Value
public import proofs.«01_k».proof.Proof.AttnMath
public import proofs.«01_k».proof.Proof.AttnBits
public import proofs.«01_k».proof.Proof.GqaRef
@[expose] public section

set_option maxRecDepth 16384

noncomputable section

open Idealize.ShloMosaic Idealize.ShloMosaic.TcCoe Idealize.SL.Sem
open Idealize.ShloMosaic.Pipeline (Dat)

namespace Cert.GqaIdeal.Val

open Cert.GqaIdeal Cert.GqaIdeal.Gen
/-- A value of the kernel side before the launch. -/
def h_v0 (a0 : FVec Ideal S8x2048x3344 .f32) : FVec Ideal S16384x3344 .f32 :=
  shapeCast S16384x3344 a0 shapeCasts_S8x2048x3344_S16384x3344

/-- A value of the kernel side before the launch. -/
def h_v1 (a0 : FVec Ideal S8x2048x3344 .f32) : FVec Ideal S16384x1536 .f32 :=
  extractStridedSlice S16384x1536 ![0, 0] (h_v0 a0) slices_S16384x3344_S16384x1536_0_0

/-- A value of the kernel side before the launch. -/
def h_v2 (a0 : FVec Ideal S8x2048x3344 .f32) : FVec Ideal S16384x64 .f32 :=
  extractStridedSlice S16384x64 ![0, 1552] (h_v0 a0) slices_S16384x3344_S16384x64_0_1552

/-- A value of the kernel side before the launch. -/
def h_v3 (a0 : FVec Ideal S8x2048x3344 .f32) : FVec Ideal S16384x64 .f32 :=
  extractStridedSlice S16384x64 ![0, 1680] (h_v0 a0) slices_S16384x3344_S16384x64_0_1680

/-- A value of the kernel side before the launch. -/
def h_v4 (a0 : FVec Ideal S8x2048x3344 .f32) : FVec Ideal S16384x64 .f32 :=
  extractStridedSlice S16384x64 ![0, 1616] (h_v0 a0) slices_S16384x3344_S16384x64_0_1616

/-- A value of the kernel side before the launch. -/
def h_v5 (a0 : FVec Ideal S8x2048x3344 .f32) : FVec Ideal S16384x384 .f32 :=
  extractStridedSlice S16384x384 ![0, 1744] (h_v0 a0) slices_S16384x3344_S16384x384_0_1744

/-- A value of the kernel side before the launch. -/
def h_v6 (a0 : FVec Ideal S8x2048x3344 .f32) : FVec Ideal S16384x64 .f32 :=
  extractStridedSlice S16384x64 ![0, 2192] (h_v0 a0) slices_S16384x3344_S16384x64_0_2192

/-- A value of the kernel side before the launch. -/
def h_v7 (a0 : FVec Ideal S8x2048x3344 .f32) : FVec Ideal S16384x64 .f32 :=
  extractStridedSlice S16384x64 ![0, 2128] (h_v0 a0) slices_S16384x3344_S16384x64_0_2128

/-- A value of the kernel side before the launch. -/
def h_v8 (a0 : FVec Ideal S8x2048x3344 .f32) : FVec Ideal S16384x1088 .f32 :=
  extractStridedSlice S16384x1088 ![0, 2256] (h_v0 a0) slices_S16384x3344_S16384x1088_0_2256

/-- A value of the kernel side before the launch. -/
def h_v9 (a0 : FVec Ideal S8x2048x3344 .f32) : FVec Ideal S16384x4 .f32 :=
  extractStridedSlice S16384x4 ![0, 1536] (h_v0 a0) slices_S16384x3344_S16384x4_0_1536

/-- A value of the kernel side before the launch. -/
def h_cst  : FVec Ideal S_ .f32 :=
  (constant S_ .f32 0x00000000#32)

/-- A value of the kernel side before the launch. -/
def h_v10  : FVec Ideal S16384x4 .f32 :=
  broadcastInDim S16384x4 ![] bcast_S_S16384x4 h_cst

/-- A value of the kernel side before the launch. -/
def h_v11 (a0 : FVec Ideal S8x2048x3344 .f32) : FVec Ideal S16384x4 .f32 :=
  extractStridedSlice S16384x4 ![0, 1544] (h_v0 a0) slices_S16384x3344_S16384x4_0_1544

/-- A value of the kernel side before the launch. -/
def h_cst_0  : FVec Ideal S_ .f32 :=
  (constant S_ .f32 0x00000000#32)

/-- A value of the kernel side before the launch. -/
def h_v12  : FVec Ideal S16384x116 .f32 :=
  broadcastInDim S16384x116 ![] bcast_S_S16384x116 h_cst_0

/-- A value of the kernel side before the launch. -/
def h_v13 (a0 : FVec Ideal S8x2048x3344 .f32) : FVec Ideal S16384x4 .f32 :=
  extractStridedSlice S16384x4 ![0, 1540] (h_v0 a0) slices_S16384x3344_S16384x4_0_1540

/-- A value of the kernel side before the launch. -/
def h_cst_1  : FVec Ideal S_ .f32 :=
  (constant S_ .f32 0x00000000#32)

/-- A value of the kernel side before the launch. -/
def h_v14  : FVec Ideal S16384x4 .f32 :=
  broadcastInDim S16384x4 ![] bcast_S_S16384x4 h_cst_1

/-- A value of the kernel side before the launch. -/
def h_v15 (a0 : FVec Ideal S8x2048x3344 .f32) : FVec Ideal S16384x4 .f32 :=
  extractStridedSlice S16384x4 ![0, 1548] (h_v0 a0) slices_S16384x3344_S16384x4_0_1548

/-- A value of the kernel side before the launch. -/
def h_cst_2  : FVec Ideal S_ .f32 :=
  (constant S_ .f32 0x00000000#32)

/-- A value of the kernel side before the launch. -/
def h_v16  : FVec Ideal S16384x116 .f32 :=
  broadcastInDim S16384x116 ![] bcast_S_S16384x116 h_cst_2

/-- A value of the kernel side before the launch. -/
def h_v17 (a0 : FVec Ideal S8x2048x3344 .f32) : FVec Ideal S16384x3584 .f32 :=
  concatenate S16384x3584 1 [⟨S16384x1536, ((h_v1 a0) : FVec Ideal S16384x1536 .f32)⟩, ⟨S16384x64, ((h_v2 a0) : FVec Ideal S16384x64 .f32)⟩, ⟨S16384x64, ((h_v3 a0) : FVec Ideal S16384x64 .f32)⟩, ⟨S16384x64, ((h_v4 a0) : FVec Ideal S16384x64 .f32)⟩, ⟨S16384x384, ((h_v5 a0) : FVec Ideal S16384x384 .f32)⟩, ⟨S16384x64, ((h_v6 a0) : FVec Ideal S16384x64 .f32)⟩, ⟨S16384x64, ((h_v7 a0) : FVec Ideal S16384x64 .f32)⟩, ⟨S16384x1088, ((h_v8 a0) : FVec Ideal S16384x1088 .f32)⟩, ⟨S16384x4, ((h_v9 a0) : FVec Ideal S16384x4 .f32)⟩, ⟨S16384x4, (h_v10 : FVec Ideal S16384x4 .f32)⟩, ⟨S16384x4, ((h_v11 a0) : FVec Ideal S16384x4 .f32)⟩, ⟨S16384x116, (h_v12 : FVec Ideal S16384x116 .f32)⟩, ⟨S16384x4, ((h_v13 a0) : FVec Ideal S16384x4 .f32)⟩, ⟨S16384x4, (h_v14 : FVec Ideal S16384x4 .f32)⟩, ⟨S16384x4, ((h_v15 a0) : FVec Ideal S16384x4 .f32)⟩, ⟨S16384x116, (h_v16 : FVec Ideal S16384x116 .f32)⟩] concatenates_S16384x1536_S16384x64_S16384x64_S16384x64_S16384x384_S16384x64_S16384x64_S16384x1088_S16384x4_S16384x4_S16384x4_S16384x116_S16384x4_S16384x4_S16384x4_S16384x116_S16384x3584_d1

/-- A value of the kernel side before the launch. -/
def h_v18 (a1 : FVec Ideal S8x256x3344 .f32) : FVec Ideal S2048x3344 .f32 :=
  shapeCast S2048x3344 a1 shapeCasts_S8x256x3344_S2048x3344

/-- A value of the kernel side before the launch. -/
def h_v19 (a1 : FVec Ideal S8x256x3344 .f32) : FVec Ideal S2048x1536 .f32 :=
  extractStridedSlice S2048x1536 ![0, 0] (h_v18 a1) slices_S2048x3344_S2048x1536_0_0

/-- A value of the kernel side before the launch. -/
def h_v20 (a1 : FVec Ideal S8x256x3344 .f32) : FVec Ideal S2048x64 .f32 :=
  extractStridedSlice S2048x64 ![0, 1552] (h_v18 a1) slices_S2048x3344_S2048x64_0_1552

/-- A value of the kernel side before the launch. -/
def h_v21 (a1 : FVec Ideal S8x256x3344 .f32) : FVec Ideal S2048x64 .f32 :=
  extractStridedSlice S2048x64 ![0, 1680] (h_v18 a1) slices_S2048x3344_S2048x64_0_1680

/-- A value of the kernel side before the launch. -/
def h_v22 (a1 : FVec Ideal S8x256x3344 .f32) : FVec Ideal S2048x64 .f32 :=
  extractStridedSlice S2048x64 ![0, 1616] (h_v18 a1) slices_S2048x3344_S2048x64_0_1616

/-- A value of the kernel side before the launch. -/
def h_v23 (a1 : FVec Ideal S8x256x3344 .f32) : FVec Ideal S2048x384 .f32 :=
  extractStridedSlice S2048x384 ![0, 1744] (h_v18 a1) slices_S2048x3344_S2048x384_0_1744

/-- A value of the kernel side before the launch. -/
def h_v24 (a1 : FVec Ideal S8x256x3344 .f32) : FVec Ideal S2048x64 .f32 :=
  extractStridedSlice S2048x64 ![0, 2192] (h_v18 a1) slices_S2048x3344_S2048x64_0_2192

/-- A value of the kernel side before the launch. -/
def h_v25 (a1 : FVec Ideal S8x256x3344 .f32) : FVec Ideal S2048x64 .f32 :=
  extractStridedSlice S2048x64 ![0, 2128] (h_v18 a1) slices_S2048x3344_S2048x64_0_2128

/-- A value of the kernel side before the launch. -/
def h_v26 (a1 : FVec Ideal S8x256x3344 .f32) : FVec Ideal S2048x1088 .f32 :=
  extractStridedSlice S2048x1088 ![0, 2256] (h_v18 a1) slices_S2048x3344_S2048x1088_0_2256

/-- A value of the kernel side before the launch. -/
def h_v27 (a1 : FVec Ideal S8x256x3344 .f32) : FVec Ideal S2048x4 .f32 :=
  extractStridedSlice S2048x4 ![0, 1536] (h_v18 a1) slices_S2048x3344_S2048x4_0_1536

/-- A value of the kernel side before the launch. -/
def h_cst_3  : FVec Ideal S_ .f32 :=
  (constant S_ .f32 0x00000000#32)

/-- A value of the kernel side before the launch. -/
def h_v28  : FVec Ideal S2048x4 .f32 :=
  broadcastInDim S2048x4 ![] bcast_S_S2048x4 h_cst_3

/-- A value of the kernel side before the launch. -/
def h_v29 (a1 : FVec Ideal S8x256x3344 .f32) : FVec Ideal S2048x4 .f32 :=
  extractStridedSlice S2048x4 ![0, 1544] (h_v18 a1) slices_S2048x3344_S2048x4_0_1544

/-- A value of the kernel side before the launch. -/
def h_cst_4  : FVec Ideal S_ .f32 :=
  (constant S_ .f32 0x00000000#32)

/-- A value of the kernel side before the launch. -/
def h_v30  : FVec Ideal S2048x116 .f32 :=
  broadcastInDim S2048x116 ![] bcast_S_S2048x116 h_cst_4

/-- A value of the kernel side before the launch. -/
def h_v31 (a1 : FVec Ideal S8x256x3344 .f32) : FVec Ideal S2048x4 .f32 :=
  extractStridedSlice S2048x4 ![0, 1540] (h_v18 a1) slices_S2048x3344_S2048x4_0_1540

/-- A value of the kernel side before the launch. -/
def h_cst_5  : FVec Ideal S_ .f32 :=
  (constant S_ .f32 0x00000000#32)

/-- A value of the kernel side before the launch. -/
def h_v32  : FVec Ideal S2048x4 .f32 :=
  broadcastInDim S2048x4 ![] bcast_S_S2048x4 h_cst_5

/-- A value of the kernel side before the launch. -/
def h_v33 (a1 : FVec Ideal S8x256x3344 .f32) : FVec Ideal S2048x4 .f32 :=
  extractStridedSlice S2048x4 ![0, 1548] (h_v18 a1) slices_S2048x3344_S2048x4_0_1548

/-- A value of the kernel side before the launch. -/
def h_cst_6  : FVec Ideal S_ .f32 :=
  (constant S_ .f32 0x00000000#32)

/-- A value of the kernel side before the launch. -/
def h_v34  : FVec Ideal S2048x116 .f32 :=
  broadcastInDim S2048x116 ![] bcast_S_S2048x116 h_cst_6

/-- A value of the kernel side before the launch. -/
def h_v35 (a1 : FVec Ideal S8x256x3344 .f32) : FVec Ideal S2048x3584 .f32 :=
  concatenate S2048x3584 1 [⟨S2048x1536, ((h_v19 a1) : FVec Ideal S2048x1536 .f32)⟩, ⟨S2048x64, ((h_v20 a1) : FVec Ideal S2048x64 .f32)⟩, ⟨S2048x64, ((h_v21 a1) : FVec Ideal S2048x64 .f32)⟩, ⟨S2048x64, ((h_v22 a1) : FVec Ideal S2048x64 .f32)⟩, ⟨S2048x384, ((h_v23 a1) : FVec Ideal S2048x384 .f32)⟩, ⟨S2048x64, ((h_v24 a1) : FVec Ideal S2048x64 .f32)⟩, ⟨S2048x64, ((h_v25 a1) : FVec Ideal S2048x64 .f32)⟩, ⟨S2048x1088, ((h_v26 a1) : FVec Ideal S2048x1088 .f32)⟩, ⟨S2048x4, ((h_v27 a1) : FVec Ideal S2048x4 .f32)⟩, ⟨S2048x4, (h_v28 : FVec Ideal S2048x4 .f32)⟩, ⟨S2048x4, ((h_v29 a1) : FVec Ideal S2048x4 .f32)⟩, ⟨S2048x116, (h_v30 : FVec Ideal S2048x116 .f32)⟩, ⟨S2048x4, ((h_v31 a1) : FVec Ideal S2048x4 .f32)⟩, ⟨S2048x4, (h_v32 : FVec Ideal S2048x4 .f32)⟩, ⟨S2048x4, ((h_v33 a1) : FVec Ideal S2048x4 .f32)⟩, ⟨S2048x116, (h_v34 : FVec Ideal S2048x116 .f32)⟩] concatenates_S2048x1536_S2048x64_S2048x64_S2048x64_S2048x384_S2048x64_S2048x64_S2048x1088_S2048x4_S2048x4_S2048x4_S2048x116_S2048x4_S2048x4_S2048x4_S2048x116_S2048x3584_d1

/-- A value of the kernel side before the launch. -/
def h_v36 (a2 : FVec Ideal S64 .f32) : FVec Ideal S1x64 .f32 :=
  broadcastInDim S1x64 ![1] bcast_S64_S1x64_1 a2

/-- A value of the kernel side before the launch. -/
def h_v37 (a2 : FVec Ideal S64 .f32) : FVec Ideal S1x1x1x64 .f32 :=
  shapeCast S1x1x1x64 (h_v36 a2) shapeCasts_S1x64_S1x1x1x64

/-- A value of the kernel side before the launch. -/
def h_v38 (a2 : FVec Ideal S64 .f32) : FVec Ideal S1x1x4x64 .f32 :=
  broadcastInDim S1x1x4x64 ![0, 1, 2, 3] bcast_S1x1x1x64_S1x1x4x64_0_1_2_3 (h_v37 a2)

/-- A value of the kernel side before the launch. -/
def h_v39 (a2 : FVec Ideal S64 .f32) : FVec Ideal S1x256 .f32 :=
  shapeCast S1x256 (h_v38 a2) shapeCasts_S1x1x4x64_S1x256

/-- A value of the kernel side before the launch. -/
def h_v40 (a3 : FVec Ideal S64 .f32) : FVec Ideal S1x64 .f32 :=
  broadcastInDim S1x64 ![1] bcast_S64_S1x64_1 a3

/-- A value of the kernel side before the launch. -/
def h_v41 (a3 : FVec Ideal S64 .f32) : FVec Ideal S1x1x1x64 .f32 :=
  shapeCast S1x1x1x64 (h_v40 a3) shapeCasts_S1x64_S1x1x1x64

/-- A value of the kernel side before the launch. -/
def h_v42 (a3 : FVec Ideal S64 .f32) : FVec Ideal S1x1x2x64 .f32 :=
  broadcastInDim S1x1x2x64 ![0, 1, 2, 3] bcast_S1x1x1x64_S1x1x2x64_0_1_2_3 (h_v41 a3)

/-- A value of the kernel side before the launch. -/
def h_v43 (a3 : FVec Ideal S64 .f32) : FVec Ideal S1x128 .f32 :=
  shapeCast S1x128 (h_v42 a3) shapeCasts_S1x1x2x64_S1x128

/-- A value of the kernel side before the launch. -/
def h_v44  : IVec S32 32 :=
  (iotaInDim S32 32 0)

/-- A value of the kernel side before the launch. -/
def h_v45  : IVec S32x64 32 :=
  broadcastInDim S32x64 ![0] bcast_S32_S32x64_0 h_v44

/-- A value of the kernel side before the launch. -/
def h_v46  : IVec S2048 32 :=
  shapeCast S2048 h_v45 shapeCasts_S32x64_S2048

/-- A value of the kernel side before the launch. -/
def h_v47  : FVec Ideal S2048 .f32 :=
  sitofp .f32 h_v46

/-- A value of the kernel side before the launch. -/
def h_v48  : IVec S64 32 :=
  (iotaInDim S64 32 0)

/-- A value of the kernel side before the launch. -/
def h_v49  : IVec S1x64 32 :=
  shapeCast S1x64 h_v48 shapeCasts_S64_S1x64

/-- A value of the kernel side before the launch. -/
def h_v50  : IVec S32x64 32 :=
  broadcastInDim S32x64 ![0, 1] bcast_S1x64_S32x64_0_1 h_v49

/-- A value of the kernel side before the launch. -/
def h_v51  : IVec S2048 32 :=
  shapeCast S2048 h_v50 shapeCasts_S32x64_S2048

/-- A value of the kernel side before the launch. -/
def h_v52  : FVec Ideal S2048 .f32 :=
  sitofp .f32 h_v51

/-- A value of the kernel side before the launch. -/
def h_v53  : FVec Ideal S16 .f32 :=
  (sitofp .f32 (iotaInDim S16 32 0))

/-- A value of the kernel side before the launch. -/
def h_v54  : FVec Ideal S16 .f32 :=
  Host.negf h_v53

/-- A value of the kernel side before the launch. -/
def h_cst_7  : FVec Ideal S_ .f32 :=
  (constant S_ .f32 0x41800000#32)

/-- A value of the kernel side before the launch. -/
def h_v55  : FVec Ideal S16 .f32 :=
  broadcastInDim S16 ![] bcast_S_S16 h_cst_7

/-- A value of the kernel side before the launch. -/
def h_v56  : FVec Ideal S16 .f32 :=
  Host.divf h_v54 h_v55

/-- A value of the kernel side before the launch. -/
def h_cst_8  : FVec Ideal S_ .f32 :=
  (constant S_ .f32 0x461C4000#32)

/-- A value of the kernel side before the launch. -/
def h_v57  : FVec Ideal S16 .f32 :=
  broadcastInDim S16 ![] bcast_S_S16 h_cst_8

/-- A value of the kernel side before the launch. -/
def h_v58  : FVec Ideal S16 .f32 :=
  Host.powf h_v57 h_v56

/-- A value of the kernel side before the launch. -/
def h_v59  : FVec Ideal S2048x1 .f32 :=
  broadcastInDim S2048x1 ![0] bcast_S2048_S2048x1_0 h_v47

/-- A value of the kernel side before the launch. -/
def h_v60  : FVec Ideal S1x16 .f32 :=
  broadcastInDim S1x16 ![1] bcast_S16_S1x16_1 h_v58

/-- A value of the kernel side before the launch. -/
def h_v61  : FVec Ideal S2048x16 .f32 :=
  broadcastInDim S2048x16 ![0, 1] bcast_S2048x1_S2048x16_0_1 h_v59

/-- A value of the kernel side before the launch. -/
def h_v62  : FVec Ideal S2048x16 .f32 :=
  broadcastInDim S2048x16 ![0, 1] bcast_S1x16_S2048x16_0_1 h_v60

/-- A value of the kernel side before the launch. -/
def h_v63  : FVec Ideal S2048x16 .f32 :=
  mulf h_v61 h_v62

/-- A value of the kernel side before the launch. -/
def h_v64  : FVec Ideal S2048x1 .f32 :=
  broadcastInDim S2048x1 ![0] bcast_S2048_S2048x1_0 h_v52

/-- A value of the kernel side before the launch. -/
def h_v65  : FVec Ideal S1x16 .f32 :=
  broadcastInDim S1x16 ![1] bcast_S16_S1x16_1 h_v58

/-- A value of the kernel side before the launch. -/
def h_v66  : FVec Ideal S2048x16 .f32 :=
  broadcastInDim S2048x16 ![0, 1] bcast_S2048x1_S2048x16_0_1 h_v64

/-- A value of the kernel side before the launch. -/
def h_v67  : FVec Ideal S2048x16 .f32 :=
  broadcastInDim S2048x16 ![0, 1] bcast_S1x16_S2048x16_0_1 h_v65

/-- A value of the kernel side before the launch. -/
def h_v68  : FVec Ideal S2048x16 .f32 :=
  mulf h_v66 h_v67

/-- A value of the kernel side before the launch. -/
def h_v69  : FVec Ideal S2048x32 .f32 :=
  (fun a b => concatenate S2048x32 1 [⟨S2048x16, a⟩, ⟨S2048x16, b⟩] concatenates_S2048x16_S2048x16_S2048x32_d1) h_v63 h_v68

/-- A value of the kernel side before the launch. -/
def h_v70  : FVec Ideal S2048x32 .f32 :=
  Host.cos h_v69

/-- A value of the kernel side before the launch. -/
def h_v71  : FVec Ideal S2048x32 .f32 :=
  Host.sin h_v69

/-- A value of the kernel side before the launch. -/
def h_v72  : FVec Ideal S2048x64 .f32 :=
  (fun a b => concatenate S2048x64 1 [⟨S2048x32, a⟩, ⟨S2048x32, b⟩] concatenates_S2048x32_S2048x32_S2048x64_d1) h_v70 h_v70

/-- A value of the kernel side before the launch. -/
def h_v73  : FVec Ideal S2048x32 .f32 :=
  Host.negf h_v71

/-- A value of the kernel side before the launch. -/
def h_v74  : FVec Ideal S2048x64 .f32 :=
  (fun a b => concatenate S2048x64 1 [⟨S2048x32, a⟩, ⟨S2048x32, b⟩] concatenates_S2048x32_S2048x32_S2048x64_d1) h_v73 h_v71

/-- A value of the kernel side before the launch. -/
def h_v75  : FVec Ideal S1x2048x1x64 .f32 :=
  shapeCast S1x2048x1x64 h_v72 shapeCasts_S2048x64_S1x2048x1x64

/-- A value of the kernel side before the launch. -/
def h_v76  : FVec Ideal S1x2048x4x64 .f32 :=
  broadcastInDim S1x2048x4x64 ![0, 1, 2, 3] bcast_S1x2048x1x64_S1x2048x4x64_0_1_2_3 h_v75

/-- A value of the kernel side before the launch. -/
def h_v77  : FVec Ideal S2048x256 .f32 :=
  shapeCast S2048x256 h_v76 shapeCasts_S1x2048x4x64_S2048x256

/-- A value of the kernel side before the launch. -/
def h_v78  : FVec Ideal S1x2048x1x64 .f32 :=
  shapeCast S1x2048x1x64 h_v74 shapeCasts_S2048x64_S1x2048x1x64

/-- A value of the kernel side before the launch. -/
def h_v79  : FVec Ideal S1x2048x4x64 .f32 :=
  broadcastInDim S1x2048x4x64 ![0, 1, 2, 3] bcast_S1x2048x1x64_S1x2048x4x64_0_1_2_3 h_v78

/-- A value of the kernel side before the launch. -/
def h_v80  : FVec Ideal S2048x256 .f32 :=
  shapeCast S2048x256 h_v79 shapeCasts_S1x2048x4x64_S2048x256

/-- A stack of columns read in one of its pieces. -/
theorem cat_cols {α : Type} {R C w : ℕ} (xs : List ((s : Shape) × (s.Idx → α)))
    (h : Shape.Concatenates (xs.map (·.1)) (⟨2, ![R, C]⟩ : Shape) 1) (r : Fin R) (j : Fin C)
    (ss : List Shape) (hss : xs.map (·.1) = ss) (k : ℕ) (hk : k < ss.length) (pre : ℕ)
    (hpre : ((ss.take k).map fun s => if h : s.rank = 2 then s.size ((1 : Fin 2).cast h.symm) else 0).sum = pre)
    (x₁ : (⟨2, ![R, w]⟩ : Shape).Idx → α) (hxk : xs[k]'(by rw [← hss] at hk; simpa using hk) = ⟨⟨2, ![R, w]⟩, x₁⟩)
    (j' : Fin w) (hj : pre + j'.val = j.val) :
    concatenate (⟨2, ![R, C]⟩ : Shape) 1 xs h (ix2 r j) = x₁ (ix2 r j') := by
  refine concatenate_apply_piece 1 xs h (ix2 r j) k (by rw [← hss] at hk; simpa using hk) _ x₁ hxk rfl pre (by rw [List.map_take, hss]; exact hpre) (ix2 r j') ?_ ?_
  · intro b hb
    match b, hb with
    | ⟨0, _⟩, _ => rfl
    | ⟨1, _⟩, hb => exact absurd rfl hb
  · exact hj

variable (m : (ℓ : Loc nD τ sig) → Buf (Elt Ideal) ℓ)

theorem V17 (c : Dev nD) : V m c main_v17 = h_v17 (m ((c : Thread nD τ).loc main_arg0)) := rfl

theorem V35 (c : Dev nD) : V m c main_v35 = h_v35 (m ((c : Thread nD τ).loc main_arg1)) := rfl

theorem V39 (c : Dev nD) : V m c main_v39 = h_v39 (m ((c : Thread nD τ).loc main_arg2)) := rfl

theorem V43 (c : Dev nD) : V m c main_v43 = h_v43 (m ((c : Thread nD τ).loc main_arg3)) := rfl

set_option maxHeartbeats 8000000 in
theorem V77 (c : Dev nD) : V m c main_v77 = h_v77 := rfl

set_option maxHeartbeats 8000000 in
theorem V80 (c : Dev nD) : V m c main_v80 = h_v80 := rfl

theorem p17_1 (a : FVec Ideal S8x2048x3344 .f32) (b : Fin 8) (t : Fin 2048) (j : Fin 64) :
    h_v17 a (ix2 (⟨b.val * 2048 + t.val, by omega⟩ : Fin 16384) (⟨1536 + j.val, by omega⟩ : Fin 3584)) = a (ix3 b t (⟨1552 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 1 (by decide) 1536 (by decide) (h_v2 a) rfl j rfl).trans ?_
  pointwise [h_v2, h_v0]

theorem p17_2 (a : FVec Ideal S8x2048x3344 .f32) (b : Fin 8) (t : Fin 2048) (j : Fin 64) :
    h_v17 a (ix2 (⟨b.val * 2048 + t.val, by omega⟩ : Fin 16384) (⟨1600 + j.val, by omega⟩ : Fin 3584)) = a (ix3 b t (⟨1680 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 2 (by decide) 1600 (by decide) (h_v3 a) rfl j rfl).trans ?_
  pointwise [h_v3, h_v0]

theorem p17_3 (a : FVec Ideal S8x2048x3344 .f32) (b : Fin 8) (t : Fin 2048) (j : Fin 64) :
    h_v17 a (ix2 (⟨b.val * 2048 + t.val, by omega⟩ : Fin 16384) (⟨1664 + j.val, by omega⟩ : Fin 3584)) = a (ix3 b t (⟨1616 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 3 (by decide) 1664 (by decide) (h_v4 a) rfl j rfl).trans ?_
  pointwise [h_v4, h_v0]

theorem p17_4 (a : FVec Ideal S8x2048x3344 .f32) (b : Fin 8) (t : Fin 2048) (j : Fin 384) :
    h_v17 a (ix2 (⟨b.val * 2048 + t.val, by omega⟩ : Fin 16384) (⟨1728 + j.val, by omega⟩ : Fin 3584)) = a (ix3 b t (⟨1744 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 4 (by decide) 1728 (by decide) (h_v5 a) rfl j rfl).trans ?_
  pointwise [h_v5, h_v0]

theorem p17_5 (a : FVec Ideal S8x2048x3344 .f32) (b : Fin 8) (t : Fin 2048) (j : Fin 64) :
    h_v17 a (ix2 (⟨b.val * 2048 + t.val, by omega⟩ : Fin 16384) (⟨2112 + j.val, by omega⟩ : Fin 3584)) = a (ix3 b t (⟨2192 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 5 (by decide) 2112 (by decide) (h_v6 a) rfl j rfl).trans ?_
  pointwise [h_v6, h_v0]

theorem p17_6 (a : FVec Ideal S8x2048x3344 .f32) (b : Fin 8) (t : Fin 2048) (j : Fin 64) :
    h_v17 a (ix2 (⟨b.val * 2048 + t.val, by omega⟩ : Fin 16384) (⟨2176 + j.val, by omega⟩ : Fin 3584)) = a (ix3 b t (⟨2128 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 6 (by decide) 2176 (by decide) (h_v7 a) rfl j rfl).trans ?_
  pointwise [h_v7, h_v0]

theorem p17_7 (a : FVec Ideal S8x2048x3344 .f32) (b : Fin 8) (t : Fin 2048) (j : Fin 1088) :
    h_v17 a (ix2 (⟨b.val * 2048 + t.val, by omega⟩ : Fin 16384) (⟨2240 + j.val, by omega⟩ : Fin 3584)) = a (ix3 b t (⟨2256 + j.val, by omega⟩ : Fin 3344)) := by
  unfold h_v17
  refine (cat_cols _ _ _ _ [S16384x1536, S16384x64, S16384x64, S16384x64, S16384x384, S16384x64, S16384x64, S16384x1088, S16384x4, S16384x4, S16384x4, S16384x116, S16384x4, S16384x4, S16384x4, S16384x116] rfl 7 (by decide) 2240 (by decide) (h_v8 a) rfl j rfl).trans ?_
  pointwise [h_v8, h_v0]

theorem q17 (a : FVec Ideal S8x2048x3344 .f32) (b : Fin 8) (t : Fin 2048) (j : Fin 256) :
    h_v17 a (ix2 (⟨b.val * 2048 + t.val, by omega⟩ : Fin 16384) (⟨1536 + j.val, by omega⟩ : Fin 3584)) = a (ix3 b t (⟨1552 + ((2 * (j.val / 64 % 2) + j.val / 128) * 64 + j.val % 64), by omega⟩ : Fin 3344)) := by
  by_cases c0 : j.val < 64
  · refine Eq.trans (congrArg (fun x => h_v17 a (ix2 _ x)) (Fin.ext (by show 1536 + j.val = 1536 + (j.val + 1536 - 1536); omega))) ((p17_1 a b t ⟨j.val + 1536 - 1536, by omega⟩).trans (congrArg (fun x => a (ix3 b t x)) (Fin.ext (by dsimp only; omega))))
  by_cases c1 : j.val < 128
  · refine Eq.trans (congrArg (fun x => h_v17 a (ix2 _ x)) (Fin.ext (by show 1536 + j.val = 1600 + (j.val + 1536 - 1600); omega))) ((p17_2 a b t ⟨j.val + 1536 - 1600, by omega⟩).trans (congrArg (fun x => a (ix3 b t x)) (Fin.ext (by dsimp only; omega))))
  by_cases c2 : j.val < 192
  · refine Eq.trans (congrArg (fun x => h_v17 a (ix2 _ x)) (Fin.ext (by show 1536 + j.val = 1664 + (j.val + 1536 - 1664); omega))) ((p17_3 a b t ⟨j.val + 1536 - 1664, by omega⟩).trans (congrArg (fun x => a (ix3 b t x)) (Fin.ext (by dsimp only; omega))))
  refine Eq.trans (congrArg (fun x => h_v17 a (ix2 _ x)) (Fin.ext (by show 1536 + j.val = 1728 + (j.val + 1536 - 1728); omega))) ((p17_4 a b t ⟨j.val + 1536 - 1728, by omega⟩).trans (congrArg (fun x => a (ix3 b t x)) (Fin.ext (by dsimp only; omega))))

theorem gk17 (a : FVec Ideal S8x2048x3344 .f32) (b : Fin 8) (t : Fin 2048) (j : Fin 128) :
    h_v17 a (ix2 (⟨b.val * 2048 + t.val, by omega⟩ : Fin 16384) (⟨1792 + j.val, by omega⟩ : Fin 3584)) = a (ix3 b t (⟨1808 + (j.val / 64 * 64 + j.val % 64), by omega⟩ : Fin 3344)) := by
  refine Eq.trans (congrArg (fun x => h_v17 a (ix2 _ x)) (Fin.ext (by show 1792 + j.val = 1728 + (j.val + 1792 - 1728); omega))) ((p17_4 a b t ⟨j.val + 1792 - 1728, by omega⟩).trans (congrArg (fun x => a (ix3 b t x)) (Fin.ext (by dsimp only; omega))))

theorem gv17 (a : FVec Ideal S8x2048x3344 .f32) (b : Fin 8) (t : Fin 2048) (j : Fin 128) :
    h_v17 a (ix2 (⟨b.val * 2048 + t.val, by omega⟩ : Fin 16384) (⟨1920 + j.val, by omega⟩ : Fin 3584)) = a (ix3 b t (⟨1936 + (j.val / 64 * 64 + j.val % 64), by omega⟩ : Fin 3344)) := by
  refine Eq.trans (congrArg (fun x => h_v17 a (ix2 _ x)) (Fin.ext (by show 1920 + j.val = 1728 + (j.val + 1920 - 1728); omega))) ((p17_4 a b t ⟨j.val + 1920 - 1728, by omega⟩).trans (congrArg (fun x => a (ix3 b t x)) (Fin.ext (by dsimp only; omega))))

theorem gg17 (a : FVec Ideal S8x2048x3344 .f32) (b : Fin 8) (t : Fin 2048) (j : Fin 256) :
    h_v17 a (ix2 (⟨b.val * 2048 + t.val, by omega⟩ : Fin 16384) (⟨2048 + j.val, by omega⟩ : Fin 3584)) = a (ix3 b t (⟨2064 + (j.val / 64 % 2 * 128 + j.val / 128 * 64 + j.val % 64), by omega⟩ : Fin 3344)) := by
  by_cases c0 : j.val < 64
  · refine Eq.trans (congrArg (fun x => h_v17 a (ix2 _ x)) (Fin.ext (by show 2048 + j.val = 1728 + (j.val + 2048 - 1728); omega))) ((p17_4 a b t ⟨j.val + 2048 - 1728, by omega⟩).trans (congrArg (fun x => a (ix3 b t x)) (Fin.ext (by dsimp only; omega))))
  by_cases c1 : j.val < 128
  · refine Eq.trans (congrArg (fun x => h_v17 a (ix2 _ x)) (Fin.ext (by show 2048 + j.val = 2112 + (j.val + 2048 - 2112); omega))) ((p17_5 a b t ⟨j.val + 2048 - 2112, by omega⟩).trans (congrArg (fun x => a (ix3 b t x)) (Fin.ext (by dsimp only; omega))))
  by_cases c2 : j.val < 192
  · refine Eq.trans (congrArg (fun x => h_v17 a (ix2 _ x)) (Fin.ext (by show 2048 + j.val = 2176 + (j.val + 2048 - 2176); omega))) ((p17_6 a b t ⟨j.val + 2048 - 2176, by omega⟩).trans (congrArg (fun x => a (ix3 b t x)) (Fin.ext (by dsimp only; omega))))
  refine Eq.trans (congrArg (fun x => h_v17 a (ix2 _ x)) (Fin.ext (by show 2048 + j.val = 2240 + (j.val + 2048 - 2240); omega))) ((p17_7 a b t ⟨j.val + 2048 - 2240, by omega⟩).trans (congrArg (fun x => a (ix3 b t x)) (Fin.ext (by dsimp only; omega))))

theorem p35_1 (a : FVec Ideal S8x256x3344 .f32) (b : Fin 8) (t : Fin 256) (j : Fin 64) :
    h_v35 a (ix2 (⟨b.val * 256 + t.val, by omega⟩ : Fin 2048) (⟨1536 + j.val, by omega⟩ : Fin 3584)) = a (ix3 b t (⟨1552 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 1 (by decide) 1536 (by decide) (h_v20 a) rfl j rfl).trans ?_
  pointwise [h_v20, h_v18]

theorem p35_2 (a : FVec Ideal S8x256x3344 .f32) (b : Fin 8) (t : Fin 256) (j : Fin 64) :
    h_v35 a (ix2 (⟨b.val * 256 + t.val, by omega⟩ : Fin 2048) (⟨1600 + j.val, by omega⟩ : Fin 3584)) = a (ix3 b t (⟨1680 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 2 (by decide) 1600 (by decide) (h_v21 a) rfl j rfl).trans ?_
  pointwise [h_v21, h_v18]

theorem p35_3 (a : FVec Ideal S8x256x3344 .f32) (b : Fin 8) (t : Fin 256) (j : Fin 64) :
    h_v35 a (ix2 (⟨b.val * 256 + t.val, by omega⟩ : Fin 2048) (⟨1664 + j.val, by omega⟩ : Fin 3584)) = a (ix3 b t (⟨1616 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 3 (by decide) 1664 (by decide) (h_v22 a) rfl j rfl).trans ?_
  pointwise [h_v22, h_v18]

theorem p35_4 (a : FVec Ideal S8x256x3344 .f32) (b : Fin 8) (t : Fin 256) (j : Fin 384) :
    h_v35 a (ix2 (⟨b.val * 256 + t.val, by omega⟩ : Fin 2048) (⟨1728 + j.val, by omega⟩ : Fin 3584)) = a (ix3 b t (⟨1744 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 4 (by decide) 1728 (by decide) (h_v23 a) rfl j rfl).trans ?_
  pointwise [h_v23, h_v18]

theorem p35_5 (a : FVec Ideal S8x256x3344 .f32) (b : Fin 8) (t : Fin 256) (j : Fin 64) :
    h_v35 a (ix2 (⟨b.val * 256 + t.val, by omega⟩ : Fin 2048) (⟨2112 + j.val, by omega⟩ : Fin 3584)) = a (ix3 b t (⟨2192 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 5 (by decide) 2112 (by decide) (h_v24 a) rfl j rfl).trans ?_
  pointwise [h_v24, h_v18]

theorem p35_6 (a : FVec Ideal S8x256x3344 .f32) (b : Fin 8) (t : Fin 256) (j : Fin 64) :
    h_v35 a (ix2 (⟨b.val * 256 + t.val, by omega⟩ : Fin 2048) (⟨2176 + j.val, by omega⟩ : Fin 3584)) = a (ix3 b t (⟨2128 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 6 (by decide) 2176 (by decide) (h_v25 a) rfl j rfl).trans ?_
  pointwise [h_v25, h_v18]

theorem p35_7 (a : FVec Ideal S8x256x3344 .f32) (b : Fin 8) (t : Fin 256) (j : Fin 1088) :
    h_v35 a (ix2 (⟨b.val * 256 + t.val, by omega⟩ : Fin 2048) (⟨2240 + j.val, by omega⟩ : Fin 3584)) = a (ix3 b t (⟨2256 + j.val, by omega⟩ : Fin 3344)) := by
  unfold h_v35
  refine (cat_cols _ _ _ _ [S2048x1536, S2048x64, S2048x64, S2048x64, S2048x384, S2048x64, S2048x64, S2048x1088, S2048x4, S2048x4, S2048x4, S2048x116, S2048x4, S2048x4, S2048x4, S2048x116] rfl 7 (by decide) 2240 (by decide) (h_v26 a) rfl j rfl).trans ?_
  pointwise [h_v26, h_v18]

theorem gk35 (a : FVec Ideal S8x256x3344 .f32) (b : Fin 8) (t : Fin 256) (j : Fin 128) :
    h_v35 a (ix2 (⟨b.val * 256 + t.val, by omega⟩ : Fin 2048) (⟨1792 + j.val, by omega⟩ : Fin 3584)) = a (ix3 b t (⟨1808 + (j.val / 64 * 64 + j.val % 64), by omega⟩ : Fin 3344)) := by
  refine Eq.trans (congrArg (fun x => h_v35 a (ix2 _ x)) (Fin.ext (by show 1792 + j.val = 1728 + (j.val + 1792 - 1728); omega))) ((p35_4 a b t ⟨j.val + 1792 - 1728, by omega⟩).trans (congrArg (fun x => a (ix3 b t x)) (Fin.ext (by dsimp only; omega))))

theorem gv35 (a : FVec Ideal S8x256x3344 .f32) (b : Fin 8) (t : Fin 256) (j : Fin 128) :
    h_v35 a (ix2 (⟨b.val * 256 + t.val, by omega⟩ : Fin 2048) (⟨1920 + j.val, by omega⟩ : Fin 3584)) = a (ix3 b t (⟨1936 + (j.val / 64 * 64 + j.val % 64), by omega⟩ : Fin 3344)) := by
  refine Eq.trans (congrArg (fun x => h_v35 a (ix2 _ x)) (Fin.ext (by show 1920 + j.val = 1728 + (j.val + 1920 - 1728); omega))) ((p35_4 a b t ⟨j.val + 1920 - 1728, by omega⟩).trans (congrArg (fun x => a (ix3 b t x)) (Fin.ext (by dsimp only; omega))))

theorem gain4 (a : FVec Ideal S64 .f32) (j : Fin 256) : h_v39 a (ix2 (0 : Fin 1) j) = a (ix1 (⟨j.val % 64, by omega⟩ : Fin 64)) := by
  pointwise [h_v39, h_v38, h_v37, h_v36]

theorem gain2 (a : FVec Ideal S64 .f32) (j : Fin 128) : h_v43 a (ix2 (0 : Fin 1) j) = a (ix1 (⟨j.val % 64, by omega⟩ : Fin 64)) := by
  pointwise [h_v43, h_v42, h_v41, h_v40]

theorem angles : h_v69 = Cert.GqaRefIdeal.Parts.r_v47 := rfl

theorem cosT (t : Fin 2048) (j : Fin 256) : h_v77 (ix2 t j) = ((Real.cos (Cert.GqaRefIdeal.Parts.ang t ⟨j.val % 32, by omega⟩) : ℝ) : EReal) := by
  rw [← Cert.GqaRefIdeal.Parts.cos_eq]
  rw [← angles]
  generalize hX : h_v69 = X
  unfold h_v77 h_v76 h_v75 h_v72 h_v70
  rw [hX]
  pointwise
  split_ifs <;> (congr 3; apply Fin.ext; dsimp only; omega)

theorem sinT (t : Fin 2048) (j : Fin 256) : h_v80 (ix2 t j)
    = ((if j.val % 64 < 32 then -Real.sin (Cert.GqaRefIdeal.Parts.ang t ⟨j.val % 32, by omega⟩) else Real.sin (Cert.GqaRefIdeal.Parts.ang t ⟨j.val % 32, by omega⟩) : ℝ) : EReal) := by
  have h := Cert.GqaRefIdeal.Parts.sin_eq t ⟨j.val % 32, by omega⟩
  rw [← angles] at h
  generalize hX : h_v69 = X at h
  unfold h_v80 h_v79 h_v78 h_v74 h_v73 h_v71
  rw [hX]
  pointwise
  by_cases p : j.val % 64 < 32
  · rw [dif_pos p, if_pos p, show (⟨j.val % 64, p⟩ : Fin 32) = ⟨j.val % 32, by omega⟩ from Fin.ext (by dsimp only; omega), h, EReal.coe_neg]
  · rw [dif_neg p, if_neg p, show (⟨j.val % 64 - 32, by omega⟩ : Fin 32) = ⟨j.val % 32, by omega⟩ from Fin.ext (by dsimp only; omega), h]

end Cert.GqaIdeal.Val

end
-- ==== Proof.GqaBlk.lean ====
/-
The attention: what each block of the launch holds.
-/
module

public import Idealize.ShloMosaic.Lib.Pipeline.ValueKit
public import Idealize.ShloMosaic.Lib.Pointwise
public import proofs.«01_k».proof.Proof.Gen.GqaIdeal.Value
public import proofs.«01_k».proof.Proof.AttnMath
public import proofs.«01_k».proof.Proof.GqaVal
@[expose] public section

set_option maxRecDepth 16384

noncomputable section

open Idealize.ShloMosaic Idealize.ShloMosaic.TcCoe Idealize.SL.Sem
open Idealize.ShloMosaic.Pipeline (Dat)

namespace Cert.GqaIdeal.Point

open Cert.GqaIdeal Cert.GqaIdeal.Gen

open Cert.Attn Cert.GqaIdeal.Val
open Cert.GqaRefIdeal.Parts (qx klx kcx gx ang)

variable (m : (ℓ : Loc nD τ sig) → Buf (Elt Ideal) ℓ)

/-- Where each window's block lies at a grid point. -/
theorem idx : ∀ t : Fin cfg0.N, win0_0.index t = ![t.val, 6]
    ∧ win0_1.index t = ![t.val, 8]
    ∧ win0_2.index t = ![t.val / 2, 7]
    ∧ win0_3.index t = ![t.val / 2, 7]
    ∧ win0_4.index t = ![t.val % 2, 0]
    ∧ win0_5.index t = ![t.val % 2, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

theorem t_lt (t : Fin cfg0.N) : t.val < 16 := lt_of_lt_of_eq t.isLt (by decide +kernel)

theorem blk0 (c : Dev nD) (t : Fin cfg0.N) (i : Fin 1024) (j : Fin 256) :
    iblk m c 0 t (ix2 i j) = V m c main_v17 (ix2 (⟨t.val * 1024 + i.val, by have := t_lt t; omega⟩ : Fin 16384) (⟨1536 + j.val, by omega⟩ : Fin 3584)) := by
  have ht := t_lt t
  have e : ((cfg0.win 0).blk t).view.emb (ix2 i j : S1024x256.Idx) = (ix2 (⟨t.val * 1024 + i.val, by omega⟩ : Fin 16384) (⟨1536 + j.val, by omega⟩ : Fin 3584) : S16384x3584.Idx) := by
    blk_ext [idx t]
  show V m c main_v17 (((cfg0.win 0).blk t).view.emb (ix2 i j)) = _
  rw [e]

theorem blk1 (c : Dev nD) (t : Fin cfg0.N) (i : Fin 1024) (j : Fin 256) :
    iblk m c 1 t (ix2 i j) = V m c main_v17 (ix2 (⟨t.val * 1024 + i.val, by have := t_lt t; omega⟩ : Fin 16384) (⟨2048 + j.val, by omega⟩ : Fin 3584)) := by
  have ht := t_lt t
  have e : ((cfg0.win 1).blk t).view.emb (ix2 i j : S1024x256.Idx) = (ix2 (⟨t.val * 1024 + i.val, by omega⟩ : Fin 16384) (⟨2048 + j.val, by omega⟩ : Fin 3584) : S16384x3584.Idx) := by
    blk_ext [idx t]
  show V m c main_v17 (((cfg0.win 1).blk t).view.emb (ix2 i j)) = _
  rw [e]

theorem blk2 (c : Dev nD) (t : Fin cfg0.N) (i : Fin 256) (j : Fin 256) :
    iblk m c 2 t (ix2 i j) = V m c main_v35 (ix2 (⟨t.val / 2 * 256 + i.val, by have := t_lt t; omega⟩ : Fin 2048) (⟨1792 + j.val, by omega⟩ : Fin 3584)) := by
  have ht := t_lt t
  have e : ((cfg0.win 2).blk t).view.emb (ix2 i j : S256x256.Idx) = (ix2 (⟨t.val / 2 * 256 + i.val, by omega⟩ : Fin 2048) (⟨1792 + j.val, by omega⟩ : Fin 3584) : S2048x3584.Idx) := by
    blk_ext [idx t]
  show V m c main_v35 (((cfg0.win 2).blk t).view.emb (ix2 i j)) = _
  rw [e]

theorem blk3 (c : Dev nD) (t : Fin cfg0.N) (i : Fin 2048) (j : Fin 256) :
    iblk m c 3 t (ix2 i j) = V m c main_v17 (ix2 (⟨t.val / 2 * 2048 + i.val, by have := t_lt t; omega⟩ : Fin 16384) (⟨1792 + j.val, by omega⟩ : Fin 3584)) := by
  have ht := t_lt t
  have e : ((cfg0.win 3).blk t).view.emb (ix2 i j : S2048x256.Idx) = (ix2 (⟨t.val / 2 * 2048 + i.val, by omega⟩ : Fin 16384) (⟨1792 + j.val, by omega⟩ : Fin 3584) : S16384x3584.Idx) := by
    blk_ext [idx t]
  show V m c main_v17 (((cfg0.win 3).blk t).view.emb (ix2 i j)) = _
  rw [e]

set_option maxHeartbeats 8000000 in
theorem blk4 (c : Dev nD) (t : Fin cfg0.N) (i : Fin 1024) (j : Fin 256) :
    iblk m c 4 t (ix2 i j) = V m c main_v77 (ix2 (⟨t.val % 2 * 1024 + i.val, by have := t_lt t; omega⟩ : Fin 2048) (⟨j.val, by omega⟩ : Fin 256)) := by
  have ht := t_lt t
  have e : ((cfg0.win 4).blk t).view.emb (ix2 i j : S1024x256.Idx) = (ix2 (⟨t.val % 2 * 1024 + i.val, by omega⟩ : Fin 2048) (⟨j.val, by omega⟩ : Fin 256) : S2048x256.Idx) := by
    blk_ext [idx t]
  show V m c main_v77 (((cfg0.win 4).blk t).view.emb (ix2 i j)) = _
  rw [e]

set_option maxHeartbeats 8000000 in
theorem blk5 (c : Dev nD) (t : Fin cfg0.N) (i : Fin 1024) (j : Fin 256) :
    iblk m c 5 t (ix2 i j) = V m c main_v80 (ix2 (⟨t.val % 2 * 1024 + i.val, by have := t_lt t; omega⟩ : Fin 2048) (⟨j.val, by omega⟩ : Fin 256)) := by
  have ht := t_lt t
  have e : ((cfg0.win 5).blk t).view.emb (ix2 i j : S1024x256.Idx) = (ix2 (⟨t.val % 2 * 1024 + i.val, by omega⟩ : Fin 2048) (⟨j.val, by omega⟩ : Fin 256) : S2048x256.Idx) := by
    blk_ext [idx t]
  show V m c main_v80 (((cfg0.win 5).blk t).view.emb (ix2 i j)) = _
  rw [e]

set_option maxHeartbeats 8000000 in
theorem blk6 (c : Dev nD) (t : Fin cfg0.N) (i : Fin 2048) (j : Fin 128) :
    iblk m c 6 t (ix2 i j) = V m c main_v77 (ix2 (⟨i.val, by have := t_lt t; omega⟩ : Fin 2048) (⟨j.val, by omega⟩ : Fin 256)) := by
  have ht := t_lt t
  have e : ((cfg0.win 6).blk t).view.emb (ix2 i j : S2048x128.Idx) = (ix2 (⟨i.val, by omega⟩ : Fin 2048) (⟨j.val, by omega⟩ : Fin 256) : S2048x256.Idx) := by
    blk_ext [idx t]
  show V m c main_v77 (((cfg0.win 6).blk t).view.emb (ix2 i j)) = _
  rw [e]

set_option maxHeartbeats 8000000 in
theorem blk7 (c : Dev nD) (t : Fin cfg0.N) (i : Fin 2048) (j : Fin 128) :
    iblk m c 7 t (ix2 i j) = V m c main_v80 (ix2 (⟨i.val, by have := t_lt t; omega⟩ : Fin 2048) (⟨j.val, by omega⟩ : Fin 256)) := by
  have ht := t_lt t
  have e : ((cfg0.win 7).blk t).view.emb (ix2 i j : S2048x128.Idx) = (ix2 (⟨i.val, by omega⟩ : Fin 2048) (⟨j.val, by omega⟩ : Fin 256) : S2048x256.Idx) := by
    blk_ext [idx t]
  show V m c main_v80 (((cfg0.win 7).blk t).view.emb (ix2 i j)) = _
  rw [e]

theorem blk8 (c : Dev nD) (t : Fin cfg0.N) (i : Fin 1) (j : Fin 256) :
    iblk m c 8 t (ix2 i j) = V m c main_v39 (ix2 (⟨i.val, by have := t_lt t; omega⟩ : Fin 1) (⟨j.val, by omega⟩ : Fin 256)) := by
  have ht := t_lt t
  have e : ((cfg0.win 8).blk t).view.emb (ix2 i j : S1x256.Idx) = (ix2 (⟨i.val, by omega⟩ : Fin 1) (⟨j.val, by omega⟩ : Fin 256) : S1x256.Idx) := by
    blk_ext [idx t]
  show V m c main_v39 (((cfg0.win 8).blk t).view.emb (ix2 i j)) = _
  rw [e]

theorem blk9 (c : Dev nD) (t : Fin cfg0.N) (i : Fin 1) (j : Fin 128) :
    iblk m c 9 t (ix2 i j) = V m c main_v43 (ix2 (⟨i.val, by have := t_lt t; omega⟩ : Fin 1) (⟨j.val, by omega⟩ : Fin 128)) := by
  have ht := t_lt t
  have e : ((cfg0.win 9).blk t).view.emb (ix2 i j : S1x128.Idx) = (ix2 (⟨i.val, by omega⟩ : Fin 1) (⟨j.val, by omega⟩ : Fin 128) : S1x128.Idx) := by
    blk_ext [idx t]
  show V m c main_v43 (((cfg0.win 9).blk t).view.emb (ix2 i j)) = _
  rw [e]

/-- What the claim asks of this device's inputs. -/
abbrev Ok (c : Dev nD) : Prop := Cert.GqaRefIdeal.Parts.Fin (m ((c : Thread nD τ).loc main_arg0)) (m ((c : Thread nD τ).loc main_arg1)) (m ((c : Thread nD τ).loc main_arg2)) (m ((c : Thread nD τ).loc main_arg3))

variable {m}
variable {c : Dev nD} (H : Ok m c) (t : Fin cfg0.N)
include H

/-- A query. -/
theorem in_q (i : Fin 1024) (j : Fin 256) : iblk m c 0 t (ix2 i j)
    = (qx (m ((c : Thread nD τ).loc main_arg0)) ⟨t.val / 2, by have := t_lt t; omega⟩ ⟨t.val % 2 * 1024 + i.val, by omega⟩ ⟨2 * (j.val / 64 % 2) + j.val / 128, by omega⟩ ⟨j.val % 64, by omega⟩ : EReal) := by
  have ht := t_lt t
  rw [← Cert.GqaRefIdeal.Parts.qx_eq H]
  refine (blk0 m c t i j).trans ((congrFun (V17 m c) _).trans (Eq.trans (congrArg (fun r => h_v17 _ (ix2 r _)) (Fin.ext ?_)) (q17 _ ⟨t.val / 2, by omega⟩ ⟨t.val % 2 * 1024 + i.val, by omega⟩ j)))
  dsimp only; omega

omit H in
/-- A gate. -/
theorem in_g (i : Fin 1024) (j : Fin 256) : iblk m c 1 t (ix2 i j)
    = m ((c : Thread nD τ).loc main_arg0) (ix3 (⟨t.val / 2, by have := t_lt t; omega⟩ : Fin 8) (⟨t.val % 2 * 1024 + i.val, by omega⟩ : Fin 2048) (⟨2064 + (j.val / 64 % 2 * 128 + j.val / 128 * 64 + j.val % 64), by omega⟩ : Fin 3344)) := by
  have ht := t_lt t
  refine (blk1 m c t i j).trans ((congrFun (V17 m c) _).trans (Eq.trans (congrArg (fun r => h_v17 _ (ix2 r _)) (Fin.ext ?_)) (gg17 _ ⟨t.val / 2, by omega⟩ ⟨t.val % 2 * 1024 + i.val, by omega⟩ j)))
  dsimp only; omega

/-- A context key. -/
theorem in_kc (i : Fin 256) (j : Fin 128) : iblk m c 2 t (ix2 i (⟨j.val, by omega⟩ : Fin 256))
    = (kcx (m ((c : Thread nD τ).loc main_arg1)) ⟨t.val / 2, by have := t_lt t; omega⟩ i ⟨j.val / 64, by omega⟩ ⟨j.val % 64, by omega⟩ : EReal) := by
  have ht := t_lt t
  rw [← Cert.GqaRefIdeal.Parts.kcx_eq H]
  exact (blk2 m c t i _).trans ((congrFun (V35 m c) _).trans (gk35 _ ⟨t.val / 2, by omega⟩ i j))

omit H in
/-- A context value. -/
theorem in_vc (i : Fin 256) (j : Fin 128) : iblk m c 2 t (ix2 i (⟨128 + j.val, by omega⟩ : Fin 256))
    = m ((c : Thread nD τ).loc main_arg1) (ix3 (⟨t.val / 2, by have := t_lt t; omega⟩ : Fin 8) i (⟨1936 + (j.val / 64 * 64 + j.val % 64), by omega⟩ : Fin 3344)) := by
  have ht := t_lt t
  refine (blk2 m c t i _).trans ((congrFun (V35 m c) _).trans (Eq.trans (congrArg (fun r => h_v35 _ (ix2 _ r)) (Fin.ext ?_)) (gv35 _ ⟨t.val / 2, by omega⟩ i j)))
  dsimp only; omega

/-- A latent key. -/
theorem in_kl (i : Fin 2048) (j : Fin 128) : iblk m c 3 t (ix2 i (⟨j.val, by omega⟩ : Fin 256))
    = (klx (m ((c : Thread nD τ).loc main_arg0)) ⟨t.val / 2, by have := t_lt t; omega⟩ i ⟨j.val / 64, by omega⟩ ⟨j.val % 64, by omega⟩ : EReal) := by
  have ht := t_lt t
  rw [← Cert.GqaRefIdeal.Parts.klx_eq H]
  exact (blk3 m c t i _).trans ((congrFun (V17 m c) _).trans (gk17 _ ⟨t.val / 2, by omega⟩ i j))

omit H in
/-- A latent value. -/
theorem in_vl (i : Fin 2048) (j : Fin 128) : iblk m c 3 t (ix2 i (⟨128 + j.val, by omega⟩ : Fin 256))
    = m ((c : Thread nD τ).loc main_arg0) (ix3 (⟨t.val / 2, by have := t_lt t; omega⟩ : Fin 8) i (⟨1936 + (j.val / 64 * 64 + j.val % 64), by omega⟩ : Fin 3344)) := by
  have ht := t_lt t
  refine (blk3 m c t i _).trans ((congrFun (V17 m c) _).trans (Eq.trans (congrArg (fun r => h_v17 _ (ix2 _ r)) (Fin.ext ?_)) (gv17 _ ⟨t.val / 2, by omega⟩ i j)))
  dsimp only; omega

omit H in
/-- A query's cosine. -/
theorem in_cq (i : Fin 1024) (j : Fin 256) : iblk m c 4 t (ix2 i j)
    = ((fun s : Fin 1024 => fun k : Fin 32 => Real.cos (ang ⟨t.val % 2 * 1024 + s.val, by omega⟩ k)) i ⟨j.val % 32, Nat.mod_lt _ (by norm_num)⟩ : EReal) :=
  (blk4 m c t i j).trans ((congrFun (V77 m c) _).trans (cosT _ j))

omit H in
/-- A query's sine, signed. -/
theorem in_sq (i : Fin 1024) (j : Fin 256) : iblk m c 5 t (ix2 i j)
    = ((if j.val % 64 < 32 then -((fun s : Fin 1024 => fun k : Fin 32 => Real.sin (ang ⟨t.val % 2 * 1024 + s.val, by omega⟩ k)) i ⟨j.val % 32, Nat.mod_lt _ (by norm_num)⟩) else (fun s : Fin 1024 => fun k : Fin 32 => Real.sin (ang ⟨t.val % 2 * 1024 + s.val, by omega⟩ k)) i ⟨j.val % 32, Nat.mod_lt _ (by norm_num)⟩ : ℝ) : EReal) :=
  (blk5 m c t i j).trans ((congrFun (V80 m c) _).trans (sinT _ j))

omit H in
/-- A key's cosine. -/
theorem in_ck (i : Fin 2048) (j : Fin 128) : iblk m c 6 t (ix2 i j)
    = ((fun s : Fin 2048 => fun k : Fin 32 => Real.cos (ang s k)) i ⟨j.val % 32, Nat.mod_lt _ (by norm_num)⟩ : EReal) :=
  (blk6 m c t i j).trans ((congrFun (V77 m c) _).trans (cosT i (⟨j.val, by omega⟩ : Fin 256)))

omit H in
/-- A key's sine, signed. -/
theorem in_sk (i : Fin 2048) (j : Fin 128) : iblk m c 7 t (ix2 i j)
    = ((if j.val % 64 < 32 then -((fun s : Fin 2048 => fun k : Fin 32 => Real.sin (ang s k)) i ⟨j.val % 32, Nat.mod_lt _ (by norm_num)⟩) else (fun s : Fin 2048 => fun k : Fin 32 => Real.sin (ang s k)) i ⟨j.val % 32, Nat.mod_lt _ (by norm_num)⟩ : ℝ) : EReal) :=
  (blk7 m c t i j).trans ((congrFun (V80 m c) _).trans (sinT i (⟨j.val, by omega⟩ : Fin 256)))

/-- The queries' gain. -/
theorem in_nq (j : Fin 256) : iblk m c 8 t (ix2 (0 : Fin 1) j) = (gx (m ((c : Thread nD τ).loc main_arg2)) ⟨j.val % 64, Nat.mod_lt _ (by norm_num)⟩ : EReal) :=
  ((blk8 m c t 0 j).trans ((congrFun (V39 m c) _).trans (gain4 _ j))).trans (H.gq _)

/-- The keys' gain. -/
theorem in_nk (j : Fin 128) : iblk m c 9 t (ix2 (0 : Fin 1) j) = (gx (m ((c : Thread nD τ).loc main_arg3)) ⟨j.val % 64, Nat.mod_lt _ (by norm_num)⟩ : EReal) :=
  ((blk9 m c t 0 j).trans ((congrFun (V43 m c) _).trans (gain2 _ j))).trans (H.gk _)

end Cert.GqaIdeal.Point

end
-- ==== Proof.GqaPay.lean ====
/-
The grouped-query attention kernel's stored values, entry by entry.
-/
module

public import Idealize.ShloMosaic.Lib.Pipeline.ValueKit
public import Idealize.ShloMosaic.Lib.Pointwise
public import proofs.«01_k».proof.Proof.Gen.GqaIdeal.Value
public import proofs.«01_k».proof.Proof.AttnMath
public import proofs.«01_k».proof.Proof.AttnBits
@[expose] public section

set_option maxRecDepth 16384

noncomputable section

open Idealize.ShloMosaic Idealize.ShloMosaic.TcCoe Idealize.SL.Sem
open Idealize.ShloMosaic.Pipeline (Dat)

namespace Cert.GqaIdeal.Pay

open Cert.GqaIdeal Cert.GqaIdeal.Gen

open Cert.Attn

/-- The lane numbers. -/
def lanes : IVec S512x128 32 := iota .tc S512x128 32 [1] iota_S512x128_d1_w32

theorem seg128 (i j : Fin 128) : k0_pay8 (F := Ideal) (ix2 i j) = if i.val / 64 = j.val / 64 then 1 else 0 := by
  pointwise [k0_pay8]
  exact sel_one _ _ _ _ (seg_bits (⟨i.val, by omega⟩ : Fin 256) (⟨j.val, by omega⟩ : Fin 256))

/-- The context keys, transposed. -/
theorem pay1_at (X : Vec Ideal S256x128 .f32) (g : Vec Ideal S1x128 .f32) (x : Fin 256 → Fin 128 → ℝ) (γ : Fin 64 → ℝ)
    (hX : ∀ s i, X (ix2 s i) = (x s i : EReal)) (hg : ∀ i : Fin 128, g (ix2 (0 : Fin 1) i) = (γ ⟨i.val % 64, Nat.mod_lt _ (by norm_num)⟩ : EReal))
    (i : Fin 128) (s : Fin 256) :
    k0_pay1 k0_pay8 X g (ix2 i s)
      = (nrm eps (fun e : Fin 64 => x s ⟨64 * (i.val / 64) + e.val, by omega⟩) γ ⟨i.val % 64, Nat.mod_lt _ (by norm_num)⟩ : EReal) := by
  rw [← seg_nrm 2 rfl (x s) (fun k => k0_pay8 (F := Ideal) (ix2 k i)) γ i fun k => seg128 k i]
  generalize k0_pay8 (F := Ideal) = M
  pointwise [k0_pay1]
  simp only [hX, hg]

/-- A row of keys after the norm. -/
def knorm (x : Fin 128 → ℝ) (γ : Fin 64 → ℝ) (i : Fin 128) : ℝ :=
  nrm eps (fun e : Fin 64 => x ⟨64 * (i.val / 64) + e.val, by omega⟩) γ ⟨i.val % 64, Nat.mod_lt _ (by norm_num)⟩

theorem knorm_eq (M : FVec Ideal S128x128 .bf16) (hM : M = k0_pay8) (X : Vec Ideal S2048x128 .f32) (g : Vec Ideal S1x128 .f32) (x : Fin 2048 → Fin 128 → ℝ) (γ : Fin 64 → ℝ)
    (hX : ∀ s i, X (ix2 s i) = (x s i : EReal)) (hg : ∀ i : Fin 128, g (ix2 (0 : Fin 1) i) = (γ ⟨i.val % 64, Nat.mod_lt _ (by norm_num)⟩ : EReal))
    (s : Fin 2048) (i : Fin 128) :
    X (ix2 s i) * Ideal.rsqrt ((∑ k, X (ix2 s k) * X (ix2 s k) * M (ix2 k i)
        + ∑ k, (X (ix2 s k) * X (ix2 s k) - X (ix2 s k) * X (ix2 s k)) * M (ix2 k i)
        + ∑ k, (X (ix2 s k) * X (ix2 s k) - X (ix2 s k) * X (ix2 s k) - (X (ix2 s k) * X (ix2 s k) - X (ix2 s k) * X (ix2 s k))) * M (ix2 k i))
        * Ideal.ofBits .f32 0x3C800000#32 + Ideal.ofBits .f32 0x358637BD#32) * g (ix2 (0 : Fin 1) i)
      = (knorm (x s) γ i : EReal) := by
  unfold knorm
  subst hM
  rw [← seg_nrm 2 rfl (x s) (fun k => k0_pay8 (F := Ideal) (ix2 k i)) γ i fun k => seg128 k i]
  simp only [hX, hg]

/-- Rotation by lanes with the signed table is the rotation of each half. -/
theorem rot_lanes {N : ℕ} (n : ℕ) (hN : N = 64 * n) (z : Fin N → ℝ) (c s : Fin 32 → ℝ) (i a b : Fin N) (C S : EReal)
    (ha : i.val % 64 < 32 → a.val = i.val + 32) (hb : ¬ i.val % 64 < 32 → b.val = i.val - 32)
    (hC : C = (c ⟨i.val % 32, Nat.mod_lt _ (by norm_num)⟩ : EReal))
    (hS : S = ((if i.val % 64 < 32 then -(s ⟨i.val % 32, Nat.mod_lt _ (by norm_num)⟩) else s ⟨i.val % 32, Nat.mod_lt _ (by norm_num)⟩ : ℝ) : EReal)) :
    (z i : EReal) * C + (if i.val % 64 < 32 then (z a : EReal) else (z b : EReal)) * S
      = (rot (h := 32) (fun e : Fin 64 => z ⟨64 * (i.val / 64) + e.val, by omega⟩) c s ⟨i.val % 64, Nat.mod_lt _ (by norm_num)⟩ : EReal) := by
  subst hC hS
  unfold rot
  have h0 : z ⟨64 * (i.val / 64) + i.val % 64, by omega⟩ = z i := congrArg z (Fin.ext (by show 64 * (i.val / 64) + i.val % 64 = i.val; omega))
  dsimp only
  split_ifs with h
  · have h1 : z ⟨64 * (i.val / 64) + (i.val % 64 + 32), by omega⟩ = z a := congrArg z (Fin.ext (by have := ha h; show 64 * (i.val / 64) + (i.val % 64 + 32) = a.val; omega))
    have h2 : (⟨i.val % 64, h⟩ : Fin 32) = ⟨i.val % 32, Nat.mod_lt _ (by norm_num)⟩ := Fin.ext (by show i.val % 64 = i.val % 32; omega)
    rw [h0, h1, h2, ← EReal.coe_mul, ← EReal.coe_mul, ← EReal.coe_add, mul_neg, sub_eq_add_neg]
  · have h1 : z ⟨64 * (i.val / 64) + (i.val % 64 - 32), by omega⟩ = z b := congrArg z (Fin.ext (by have := hb h; show 64 * (i.val / 64) + (i.val % 64 - 32) = b.val; omega))
    have h2 : (⟨i.val % 64 - 32, by omega⟩ : Fin 32) = ⟨i.val % 32, Nat.mod_lt _ (by norm_num)⟩ := Fin.ext (by show i.val % 64 - 32 = i.val % 32; omega)
    rw [h0, h1, h2, ← EReal.coe_mul, ← EReal.coe_mul, ← EReal.coe_add]

/-- The latent keys, rotated and transposed. -/
theorem pay7_at (X : Vec Ideal S2048x128 .f32) (g : Vec Ideal S1x128 .f32) (C S : Vec Ideal S2048x128 .f32) (x : Fin 2048 → Fin 128 → ℝ) (γ : Fin 64 → ℝ) (cs sn : Fin 2048 → Fin 32 → ℝ)
    (hX : ∀ s i, X (ix2 s i) = (x s i : EReal)) (hg : ∀ i : Fin 128, g (ix2 (0 : Fin 1) i) = (γ ⟨i.val % 64, Nat.mod_lt _ (by norm_num)⟩ : EReal))
    (hC : ∀ s (i : Fin 128), C (ix2 s i) = (cs s ⟨i.val % 32, Nat.mod_lt _ (by norm_num)⟩ : EReal))
    (hS : ∀ s (i : Fin 128), S (ix2 s i) = ((if i.val % 64 < 32 then -(sn s ⟨i.val % 32, Nat.mod_lt _ (by norm_num)⟩) else sn s ⟨i.val % 32, Nat.mod_lt _ (by norm_num)⟩ : ℝ) : EReal))
    (i : Fin 128) (s : Fin 2048) :
    k0_pay7 k0_pay8 (k0_pay3 X) (k0_pay4 X) (k0_pay5 X) (k0_pay6 X) g C S (ix2 i s)
      = (rot (h := 32) (nrm eps (fun e : Fin 64 => x s ⟨64 * (i.val / 64) + e.val, by omega⟩) γ) (cs s) (sn s) ⟨i.val % 64, Nat.mod_lt _ (by norm_num)⟩ : EReal) := by
  have hM : ∃ M : FVec Ideal S128x128 .bf16, M = k0_pay8 := ⟨_, rfl⟩
  obtain ⟨M, hM⟩ := hM
  rw [← hM]
  unfold k0_pay7 k0_pay6 k0_pay5 k0_pay4
  pointwise [k0_pay3]
  simp only [knorm_eq M hM X g x γ hX hg]
  rw [sel_one (i.val % 64 < 32) _ _ _ (low_bits (⟨i.val, by omega⟩ : Fin 256))]
  rw [rot_lanes 2 rfl (knorm (x s) γ) (cs s) (sn s) i _ _ _ _ (fun h => by show (i.val + 128 - 96) % 128 = i.val + 32; omega) (fun h => by show (i.val + 128 - 32) % 128 = i.val - 32; omega) (hC s i) (hS s i)]
  congr 2
  funext e
  unfold knorm
  congr 1
  · funext e'
    exact congrArg (x s) (Fin.ext (by show 64 * ((64 * (i.val / 64) + e.val) / 64) + e'.val = 64 * (i.val / 64) + e'.val; omega))
  · exact Fin.ext (by show (64 * (i.val / 64) + e.val) % 64 = e.val; omega)

/-- A row of queries after the norm. -/
def qnorm (x : Fin 256 → ℝ) (γ : Fin 64 → ℝ) (i : Fin 256) : ℝ :=
  nrm eps (fun e : Fin 64 => x ⟨64 * (i.val / 64) + e.val, by omega⟩) γ ⟨i.val % 64, Nat.mod_lt _ (by norm_num)⟩

theorem qnorm_eq (X : Vec Ideal S1024x256 .f32) (g : Vec Ideal S1x256 .f32) (x : Fin 1024 → Fin 256 → ℝ) (γ : Fin 64 → ℝ)
    (hX : ∀ s i, X (ix2 s i) = (x s i : EReal)) (hg : ∀ i : Fin 256, g (ix2 (0 : Fin 1) i) = (γ ⟨i.val % 64, Nat.mod_lt _ (by norm_num)⟩ : EReal))
    (s : Fin 1024) (i : Fin 256) :
    X (ix2 s i) * Ideal.rsqrt (k0_pay12 X (ix2 s i) * k0_pay13 (F := Ideal) (ix2 s i) + Ideal.ofBits .f32 0x358637BD#32) * g (ix2 (0 : Fin 1) i)
      = (qnorm (x s) γ i : EReal) := by
  unfold qnorm
  rw [← seg_nrm 4 rfl (x s) (fun k => if k.val / 64 = i.val / 64 then 1 else 0) γ i fun k => rfl]
  pointwise [k0_pay12, k0_pay11, k0_pay13]
  have hs : ∀ (k : Fin 256) (a b : EReal), Scalar.select (IntOp.cmpi CmpIPredicate.eq (IntOp.andi (BitVec.ofNat 32 k.val) 4294967232#32) (IntOp.andi (BitVec.ofNat 32 i.val) 4294967232#32)) a b
      = if k.val / 64 = i.val / 64 then a else b := fun k a b => sel_one _ _ _ _ (seg_bits k i)
  simp only [hs, hX, hg, mul_ite, mul_one, mul_zero]

theorem scale : Named.named (F := Ideal) Cert.GqaIdeal.κ "scale_log2e" (φ := .f32) 0x3E38AA3B#32 = ((8⁻¹ * (Real.log 2)⁻¹ : ℝ) : EReal) :=
  IdealRules.named_const.ideal_named_scalar _ _ _ _ rfl

/-- The rotated and scaled queries. -/
theorem pay14_at (X : Vec Ideal S1024x256 .f32) (g : Vec Ideal S1x256 .f32) (C S : Vec Ideal S1024x256 .f32) (x : Fin 1024 → Fin 256 → ℝ) (γ : Fin 64 → ℝ) (cs sn : Fin 1024 → Fin 32 → ℝ)
    (hX : ∀ s i, X (ix2 s i) = (x s i : EReal)) (hg : ∀ i : Fin 256, g (ix2 (0 : Fin 1) i) = (γ ⟨i.val % 64, Nat.mod_lt _ (by norm_num)⟩ : EReal))
    (hC : ∀ s (i : Fin 256), C (ix2 s i) = (cs s ⟨i.val % 32, Nat.mod_lt _ (by norm_num)⟩ : EReal))
    (hS : ∀ s (i : Fin 256), S (ix2 s i) = ((if i.val % 64 < 32 then -(sn s ⟨i.val % 32, Nat.mod_lt _ (by norm_num)⟩) else sn s ⟨i.val % 32, Nat.mod_lt _ (by norm_num)⟩ : ℝ) : EReal))
    (s : Fin 1024) (i : Fin 256) :
    k0_pay14 (k0_pay11 X) (k0_pay12 X) k0_pay13 g C S (ix2 s i)
      = ((rot (h := 32) (nrm eps (fun e : Fin 64 => x s ⟨64 * (i.val / 64) + e.val, by omega⟩) γ) (cs s) (sn s) ⟨i.val % 64, Nat.mod_lt _ (by norm_num)⟩ * (8⁻¹ * (Real.log 2)⁻¹) : ℝ) : EReal) := by
  have h := qnorm_eq X g x γ hX hg s
  have h11 : ∀ i, k0_pay11 X (ix2 s i) = X (ix2 s i) := fun i => by pointwise [k0_pay11]
  generalize hN : k0_pay12 X = N at h ⊢
  generalize hK : k0_pay13 (F := Ideal) = K at h ⊢
  generalize hY : k0_pay11 X = Y at h11 ⊢
  simp only [← h11] at h
  pointwise [k0_pay14]
  simp only [h]
  rw [scale, sel_one (i.val % 64 < 32) _ _ _ (low_bits i)]
  rw [rot_lanes 4 rfl (qnorm (x s) γ) (cs s) (sn s) i _ _ _ _ (fun h => by show (i.val + 256 - 224) % 256 = i.val + 32; omega) (fun h => by show (i.val + 256 - 32) % 256 = i.val - 32; omega) (hC s i) (hS s i), ← EReal.coe_mul]
  congr 3
  funext e
  unfold qnorm
  congr 1
  · funext e'
    exact congrArg (x s) (Fin.ext (by show 64 * ((64 * (i.val / 64) + e.val) / 64) + e'.val = 64 * (i.val / 64) + e'.val; omega))
  · exact Fin.ext (by show (64 * (i.val / 64) + e.val) % 64 = e.val; omega)

/-- The queries of one half of the lanes, the other half zero. -/
def masked (Q : FVec Ideal S1024x256 .f32) (r c : ℕ) (hr : r ≤ 512) (hc : c ≤ 128) (kv : ℕ) (i : Fin 512) (j : Fin 128) : EReal :=
  if j.val / 64 = kv then Q (ix2 (⟨r + i.val, by omega⟩ : Fin 1024) (⟨c + j.val, by omega⟩ : Fin 256)) else 0

section
variable (Y N K : FVec Ideal S1024x256 .f32) (g : Vec Ideal S1x256 .f32) (C S : Vec Ideal S1024x256 .f32) (Q : FVec Ideal S1024x256 .f32) (i : Fin 512) (j : Fin 128)

theorem q00 : k0_pay16 Y N K g C S (ix2 i j) = masked (k0_pay14 Y N K g C S) 0 0 (by norm_num) (by norm_num) 0 i j := by
  unfold k0_pay16 k0_pay15
  generalize k0_pay14 Y N K g C S = Q
  pointwise [k0_pay17, k0_pay18]
  exact (sel_one _ _ _ _ (lo_bits j)).trans (by simp only [masked, Nat.zero_add])

theorem q01 : k0_pay19 (k0_pay15 Y N K g C S) k0_pay17 k0_pay18 (ix2 i j) = masked (k0_pay14 Y N K g C S) 0 0 (by norm_num) (by norm_num) 1 i j := by
  unfold k0_pay19 k0_pay15
  generalize k0_pay14 Y N K g C S = Q
  pointwise [k0_pay17, k0_pay18]
  exact (sel_one _ _ _ _ (hi_bits j)).trans (by simp only [masked, Nat.zero_add])

theorem q10 : k0_pay21 Q lanes (ix2 i j) = masked Q 0 128 (by norm_num) (by norm_num) 0 i j := by
  pointwise [k0_pay21, k0_pay20, lanes]
  exact (sel_one _ _ _ _ (lo_bits j)).trans (by simp only [masked, Nat.zero_add])

theorem q11 : k0_pay22 Q lanes (ix2 i j) = masked Q 0 128 (by norm_num) (by norm_num) 1 i j := by
  pointwise [k0_pay22, k0_pay20, lanes]
  exact (sel_one _ _ _ _ (hi_bits j)).trans (by simp only [masked, Nat.zero_add])

theorem q20 : k0_pay24 Q lanes (ix2 i j) = masked Q 512 0 (by norm_num) (by norm_num) 0 i j := by
  pointwise [k0_pay24, k0_pay23, lanes]
  exact (sel_one _ _ _ _ (lo_bits j)).trans (by simp only [masked, Nat.zero_add])

theorem q21 : k0_pay25 Q lanes (ix2 i j) = masked Q 512 0 (by norm_num) (by norm_num) 1 i j := by
  pointwise [k0_pay25, k0_pay23, lanes]
  exact (sel_one _ _ _ _ (hi_bits j)).trans (by simp only [masked, Nat.zero_add])

theorem q30 : k0_pay27 Q lanes (ix2 i j) = masked Q 512 128 (by norm_num) (by norm_num) 0 i j := by
  pointwise [k0_pay27, k0_pay26, lanes]
  exact (sel_one _ _ _ _ (lo_bits j)).trans (by simp only [masked, Nat.zero_add])

theorem q31 : k0_pay28 lanes (k0_pay26 Q) (ix2 i j) = masked Q 512 128 (by norm_num) (by norm_num) 1 i j := by
  pointwise [k0_pay28, k0_pay26, lanes]
  exact (sel_one _ _ _ _ (hi_bits j)).trans (by simp only [masked, Nat.zero_add])

end

/-- One head of the kernel's attention. -/
def attn (Q : FVec Ideal S512x128 .bf16) (T : Vec Ideal S128x2304 .bf16) (V : Vec Ideal S2304x256 .bf16) (i : Fin 512) (j : Fin 128) : EReal :=
  Ideal.div (∑ s, Ideal.exp2 (∑ x, Q (ix2 i x) * T (ix2 x s) - Finset.univ.fold max (Ideal.ofBits .f32 4286578688#32) fun k => ∑ x, Q (ix2 i x) * T (ix2 x k)) * V (ix2 s (⟨j.val, by omega⟩ : Fin 256)))
    (∑ s, Ideal.exp2 (∑ x, Q (ix2 i x) * T (ix2 x s) - Finset.univ.fold max (Ideal.ofBits .f32 4286578688#32) fun k => ∑ x, Q (ix2 i x) * T (ix2 x k)) * V (ix2 s (⟨128 + j.val, by omega⟩ : Fin 256)))

section
variable (Q : FVec Ideal S512x128 .bf16) (T : Vec Ideal S128x2304 .bf16) (V : Vec Ideal S2304x256 .bf16) (i : Fin 512) (j : Fin 128)

theorem a00 : k0_pay31 Q T V (ix2 i j) = attn Q T V i j := by
  pointwise [k0_pay31]
  rfl

theorem a01 : k0_pay35 (k0_pay34 Q T) V (ix2 i j) = attn Q T V i j := by
  pointwise [k0_pay35, k0_pay34]
  rfl

theorem a10 : k0_pay36 (k0_pay29 Q T) (k0_pay30 Q T) V (ix2 i j) = attn Q T V i j := by
  pointwise [k0_pay36, k0_pay30, k0_pay29]
  rfl

theorem a11 : k0_pay39 (k0_pay32 Q T) (k0_pay33 Q T) V (ix2 i j) = attn Q T V i j := by
  pointwise [k0_pay39, k0_pay33, k0_pay32]
  rfl

theorem a20 : k0_pay43 (k0_pay42 Q T) V (ix2 i j) = attn Q T V i j := by
  pointwise [k0_pay43, k0_pay42]
  rfl

theorem a21 : k0_pay44 (k0_pay37 Q T) (k0_pay38 Q T) V (ix2 i j) = attn Q T V i j := by
  pointwise [k0_pay44, k0_pay38, k0_pay37]
  rfl

theorem a30 : k0_pay45 (k0_pay40 Q T) (k0_pay41 Q T) V (ix2 i j) = attn Q T V i j := by
  pointwise [k0_pay45, k0_pay41, k0_pay40]
  rfl

theorem a31 : k0_pay46 Q T V (ix2 i j) = attn Q T V i j := by
  pointwise [k0_pay46]
  rfl

end

section
variable (A B : FVec Ideal S512x128 .f32) (G : Vec Ideal S512x128 .f32) (i : Fin 512) (j : Fin 128)

theorem o0 : k0_pay50 (k0_pay47 lanes A B) (k0_pay48 G) (k0_pay49 G) (ix2 i j) = (if j.val < 64 then A (ix2 i j) else B (ix2 i j)) * (G (ix2 i j) * Ideal.logistic (G (ix2 i j))) := by
  rw [← sel_one _ _ _ _ (half_bits j)]
  pointwise [k0_pay50, k0_pay49, k0_pay48, k0_pay47, lanes]

theorem o1 : k0_pay51 lanes A B G (ix2 i j) = (if j.val < 64 then A (ix2 i j) else B (ix2 i j)) * (G (ix2 i j) * Ideal.logistic (G (ix2 i j))) := by
  rw [← sel_one _ _ _ _ (half_bits j)]
  pointwise [k0_pay51, lanes]

theorem o2 : k0_pay52 lanes A B G (ix2 i j) = (if j.val < 64 then A (ix2 i j) else B (ix2 i j)) * (G (ix2 i j) * Ideal.logistic (G (ix2 i j))) := by
  rw [← sel_one _ _ _ _ (half_bits j)]
  pointwise [k0_pay52, lanes]

theorem o3 : k0_pay53 lanes A B G (ix2 i j) = (if j.val < 64 then A (ix2 i j) else B (ix2 i j)) * (G (ix2 i j) * Ideal.logistic (G (ix2 i j))) := by
  rw [← sel_one _ _ _ _ (half_bits j)]
  pointwise [k0_pay53, lanes]

end

end Cert.GqaIdeal.Pay

end
-- ==== Proof.GqaScr.lean ====
/-
The attention: the keys and values a batch's first point leaves for both of its points.
-/
module

public import Idealize.ShloMosaic.Lib.Pipeline.ValueKit
public import Idealize.ShloMosaic.Lib.Pointwise
public import proofs.«01_k».proof.Proof.Gen.GqaIdeal.Value
public import proofs.«01_k».proof.Proof.AttnMath
public import proofs.«01_k».proof.Proof.GqaBlk
public import proofs.«01_k».proof.Proof.GqaPay
@[expose] public section

set_option maxRecDepth 16384

noncomputable section

open Idealize.ShloMosaic Idealize.ShloMosaic.TcCoe Idealize.SL.Sem
open Idealize.ShloMosaic.Pipeline (Dat)

namespace Cert.GqaIdeal.Point

open Cert.GqaIdeal Cert.GqaIdeal.Gen

open Cert.Attn Cert.GqaIdeal.Pay
open Cert.GqaRefIdeal.Parts (qx klx kcx gx ang kr r_v)

/-- The two pieces cover the keys. -/
theorem covK (i : Fin 128) (s : Fin 2304) (p q : View.Piece (Elt Ideal) S128x2304 .bf16)
    (hp : p.1 = Rect.unit (s := S128x2304) ![0, 256] ![128, 2048] (by decide)) (hq : q.1 = Rect.unit (s := S128x2304) ![0, 0] ![128, 256] (by decide)) :
    ∃ x ∈ [p, q], (ix2 i s : S128x2304.Idx) ∈ x.1.set := by
  by_cases h : s.val < 256
  · refine ⟨q, List.mem_cons_of_mem _ List.mem_cons_self, ?_⟩
    rw [hq]
    refine Rect.mem_set_unit.mpr fun a => ?_
    match a with
    | ⟨0, _⟩ => exact ⟨Nat.zero_le _, by show i.val < 0 + 128; omega⟩
    | ⟨1, _⟩ => exact ⟨Nat.zero_le _, by show s.val < 0 + 256; omega⟩
  · refine ⟨p, List.mem_cons_self, ?_⟩
    rw [hp]
    refine Rect.mem_set_unit.mpr fun a => ?_
    match a with
    | ⟨0, _⟩ => exact ⟨Nat.zero_le _, by show i.val < 0 + 128; omega⟩
    | ⟨1, _⟩ => exact ⟨by show 256 ≤ s.val; omega, by show s.val < 256 + 2048; omega⟩

/-- The three pieces cover the values. -/
theorem covV (s : Fin 2304) (j : Fin 256) (o p q : View.Piece (Elt Ideal) S2304x256 .bf16)
    (ho : o.1 = Rect.unit (s := S2304x256) ![0, 128] ![2304, 128] (by decide))
    (hp : p.1 = Rect.unit (s := S2304x256) ![256, 0] ![2048, 128] (by decide)) (hq : q.1 = Rect.unit (s := S2304x256) ![0, 0] ![256, 128] (by decide)) :
    ∃ x ∈ [o, p, q], (ix2 s j : S2304x256.Idx) ∈ x.1.set := by
  by_cases g : j.val < 128
  · by_cases h : s.val < 256
    · refine ⟨q, List.mem_cons_of_mem _ (List.mem_cons_of_mem _ List.mem_cons_self), ?_⟩
      rw [hq]
      refine Rect.mem_set_unit.mpr fun a => ?_
      match a with
      | ⟨0, _⟩ => exact ⟨Nat.zero_le _, by show s.val < 0 + 256; omega⟩
      | ⟨1, _⟩ => exact ⟨Nat.zero_le _, by show j.val < 0 + 128; omega⟩
    · refine ⟨p, List.mem_cons_of_mem _ List.mem_cons_self, ?_⟩
      rw [hp]
      refine Rect.mem_set_unit.mpr fun a => ?_
      match a with
      | ⟨0, _⟩ => exact ⟨by show 256 ≤ s.val; omega, by show s.val < 256 + 2048; omega⟩
      | ⟨1, _⟩ => exact ⟨Nat.zero_le _, by show j.val < 0 + 128; omega⟩
  · refine ⟨o, List.mem_cons_self, ?_⟩
    rw [ho]
    refine Rect.mem_set_unit.mpr fun a => ?_
    match a with
    | ⟨0, _⟩ => exact ⟨Nat.zero_le _, by show s.val < 0 + 2304; omega⟩
    | ⟨1, _⟩ => exact ⟨by show 128 ≤ j.val; omega, by show j.val < 128 + 128; omega⟩

/-- What the scratch holds: the keys, transposed; the values, and a block of ones beside them. -/
def keyAt (m : (ℓ : Loc nD τ sig) → Buf (Elt Ideal) ℓ) (c : Dev nD) (b : Fin 8) (i : Fin 128) (s : Fin 2304) : ℝ :=
  kr (m ((c : Thread nD τ).loc main_arg0)) (m ((c : Thread nD τ).loc main_arg1)) (m ((c : Thread nD τ).loc main_arg3)) b ⟨i.val / 64, by omega⟩ s ⟨i.val % 64, Nat.mod_lt _ (by norm_num)⟩

theorem keyAt_ctx (m : (ℓ : Loc nD τ sig) → Buf (Elt Ideal) ℓ) (c : Dev nD) (b : Fin 8) (i : Fin 128) (s : Fin 256) :
    nrm eps (fun e : Fin 64 => (fun (s : Fin 256) (j : Fin 128) => kcx (m ((c : Thread nD τ).loc main_arg1)) b s ⟨j.val / 64, by omega⟩ ⟨j.val % 64, by omega⟩) s ⟨64 * (i.val / 64) + e.val, by omega⟩) (gx (m ((c : Thread nD τ).loc main_arg3))) ⟨i.val % 64, Nat.mod_lt _ (by norm_num)⟩
      = keyAt m c b i ⟨s.val, by omega⟩ := by
  unfold keyAt kr
  rw [dif_pos s.isLt]
  unfold Cert.GqaRefIdeal.Parts.kcr
  refine congrFun (congrArg (fun f => nrm eps f _) (funext fun e => ?_)) _
  dsimp only
  congr 1 <;> exact Fin.ext (by dsimp only; omega)

theorem keyAt_lat (m : (ℓ : Loc nD τ sig) → Buf (Elt Ideal) ℓ) (c : Dev nD) (b : Fin 8) (i : Fin 128) (s : Fin 2048) :
    rot (h := 32) (nrm eps (fun e : Fin 64 => (fun (s : Fin 2048) (j : Fin 128) => klx (m ((c : Thread nD τ).loc main_arg0)) b s ⟨j.val / 64, by omega⟩ ⟨j.val % 64, by omega⟩) s ⟨64 * (i.val / 64) + e.val, by omega⟩) (gx (m ((c : Thread nD τ).loc main_arg3))))
      ((fun s : Fin 2048 => fun k : Fin 32 => Real.cos (ang s k)) s) ((fun s : Fin 2048 => fun k : Fin 32 => Real.sin (ang s k)) s) ⟨i.val % 64, Nat.mod_lt _ (by norm_num)⟩
      = keyAt m c b i ⟨256 + s.val, by omega⟩ := by
  unfold keyAt kr
  rw [dif_neg (by dsimp only; omega)]
  unfold Cert.GqaRefIdeal.Parts.klr
  have hs : (⟨256 + s.val - 256, by omega⟩ : Fin 2048) = s := Fin.ext (by dsimp only; omega)
  rw [hs]
  refine congrFun (congrArg (fun f => rot (h := 32) (nrm eps f _) _ _) (funext fun e => ?_)) _
  dsimp only
  congr 1 <;> exact Fin.ext (by dsimp only; omega)

theorem r_v_ctx (a0 : FVec Ideal S8x2048x3344 .f32) (a1 : FVec Ideal S8x256x3344 .f32) (b : Fin 8) (s : Fin 256) (j : Fin 128) :
    r_v a0 a1 (ix4 b (⟨s.val, by omega⟩ : Fin 2304) (⟨j.val / 64, by omega⟩ : Fin 2) (⟨j.val % 64, Nat.mod_lt _ (by norm_num)⟩ : Fin 64))
      = a1 (ix3 b s (⟨1936 + (j.val / 64 * 64 + j.val % 64), by omega⟩ : Fin 3344)) := by
  pointwise [r_v]
  refine congrArg (fun k => a1 (ix3 b s k)) (Fin.ext ?_)
  show 1936 + j.val = 1936 + (j.val / 64 * 64 + j.val % 64); omega

theorem r_v_lat (a0 : FVec Ideal S8x2048x3344 .f32) (a1 : FVec Ideal S8x256x3344 .f32) (b : Fin 8) (s : Fin 2048) (j : Fin 128) :
    r_v a0 a1 (ix4 b (⟨256 + s.val, by omega⟩ : Fin 2304) (⟨j.val / 64, by omega⟩ : Fin 2) (⟨j.val % 64, Nat.mod_lt _ (by norm_num)⟩ : Fin 64))
      = a0 (ix3 b s (⟨1936 + (j.val / 64 * 64 + j.val % 64), by omega⟩ : Fin 3344)) := by
  pointwise [r_v]
  refine congrArg (fun k => a0 (ix3 b s k)) (Fin.ext ?_)
  show 1936 + j.val = 1936 + (j.val / 64 * 64 + j.val % 64); omega

variable {m : (ℓ : Loc nD τ sig) → Buf (Elt Ideal) ℓ} {c : Dev nD} (H : Ok m c) (t : Fin cfg0.N) (hz : t.val % 2 = 0)
include H hz

set_option maxHeartbeats 800000 in
/-- The keys a batch's first point leaves. -/
theorem keys (i : Fin 128) (s : Fin 2304) :
    (outsAt0 m c t.val t.isLt).2.1 (ix2 i s) = (keyAt m c ⟨t.val / 2, by have := t_lt t; omega⟩ i s : EReal) := by
  rw [outsAt0_A m c t hz]; frame_out
  canon_tiles x h using (covK i s _ _ rfl rfl)
  case piece0 =>
    obtain ⟨x0, x1, rfl⟩ : ∃ (x0 : Fin 128) (x1 : Fin 2048), x = ix2 x0 x1 := ⟨x 0, x 1, eq_ix2 x⟩
    obtain rfl : i = x0 := Fin.ext h0
    obtain rfl : s = (⟨256 + x1.val, by have h := x1.isLt; clear * - h; omega⟩ : Fin 2304) := Fin.ext h1
    generalize hX : View.ld (iblk m c 3 t) _ = X
    have fX : ∀ (s : Fin 2048) (j : Fin 128), X (ix2 s j) = (klx (m ((c : Thread nD τ).loc main_arg0)) ⟨t.val / 2, by have := t_lt t; omega⟩ s ⟨j.val / 64, by omega⟩ ⟨j.val % 64, by omega⟩ : EReal) := fun s j => by
      rw [← hX]
      refine (View.ld_unit_apply_of _ _ _ _ _ _ fun a => ?_).trans (in_kl H t s j)
      match a with
      | ⟨0, _⟩ => exact (Nat.zero_add _).symm
      | ⟨1, _⟩ => exact (Nat.zero_add _).symm
    have fg := in_nk H t
    have fC := in_ck (m := m) (c := c) t
    have fS := in_sk (m := m) (c := c) t
    generalize iblk m c 9 t = g at fg ⊢
    generalize iblk m c 6 t = C at fC ⊢
    generalize iblk m c 7 t = S at fS ⊢
    have e := (pay7_at X g C S (fun (s : Fin 2048) (j : Fin 128) => klx (m ((c : Thread nD τ).loc main_arg0)) ⟨t.val / 2, by have := t_lt t; omega⟩ s ⟨j.val / 64, by omega⟩ ⟨j.val % 64, by omega⟩) _ (fun s : Fin 2048 => fun k : Fin 32 => Real.cos (ang s k)) (fun s : Fin 2048 => fun k : Fin 32 => Real.sin (ang s k)) fX fg fC fS i x1).trans (congrArg _ (keyAt_lat m c _ i x1))
    exact e
  case piece1 =>
    obtain ⟨x0, x1, rfl⟩ : ∃ (x0 : Fin 128) (x1 : Fin 256), x = ix2 x0 x1 := ⟨x 0, x 1, eq_ix2 x⟩
    obtain rfl : i = x0 := Fin.ext h0
    obtain rfl : s = (⟨x1.val, by have h := x1.isLt; clear * - h; omega⟩ : Fin 2304) := Fin.ext h1
    generalize hX : View.ld (iblk m c 2 t) _ = X
    have fX : ∀ (s : Fin 256) (j : Fin 128), X (ix2 s j) = (kcx (m ((c : Thread nD τ).loc main_arg1)) ⟨t.val / 2, by have := t_lt t; omega⟩ s ⟨j.val / 64, by omega⟩ ⟨j.val % 64, by omega⟩ : EReal) := fun s j => by
      rw [← hX]
      refine (View.ld_unit_apply_of _ _ _ _ _ _ fun a => ?_).trans (in_kc H t s j)
      match a with
      | ⟨0, _⟩ => exact (Nat.zero_add _).symm
      | ⟨1, _⟩ => exact (Nat.zero_add _).symm
    have fg := in_nk H t
    generalize iblk m c 9 t = g at fg ⊢
    have e := (pay1_at X g (fun (s : Fin 256) (j : Fin 128) => kcx (m ((c : Thread nD τ).loc main_arg1)) ⟨t.val / 2, by have := t_lt t; omega⟩ s ⟨j.val / 64, by omega⟩ ⟨j.val % 64, by omega⟩) _ fX fg i x1).trans (congrArg _ (keyAt_ctx m c _ i x1))
    exact e

omit H in
set_option maxHeartbeats 800000 in
/-- The values a batch's first point leaves, and the ones beside them. -/
theorem vals (s : Fin 2304) (j : Fin 256) :
    (outsAt0 m c t.val t.isLt).2.2 (ix2 s j) = if h : j.val < 128 then
      r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)) else 1 := by
  rw [outsAt0_A m c t hz]; frame_out
  canon_tiles x h using (covV s j _ _ _ rfl rfl rfl)
  case piece0 =>
    obtain ⟨x0, x1, rfl⟩ : ∃ (x0 : Fin 2304) (x1 : Fin 128), x = ix2 x0 x1 := ⟨x 0, x 1, eq_ix2 x⟩
    rw [dif_neg (by have h : j.val = 128 + x1.val := h1; omega)]
    pointwise
  case piece1 =>
    obtain ⟨x0, x1, rfl⟩ : ∃ (x0 : Fin 2048) (x1 : Fin 128), x = ix2 x0 x1 := ⟨x 0, x 1, eq_ix2 x⟩
    obtain rfl : s = (⟨256 + x0.val, by have h := x0.isLt; clear * - h; omega⟩ : Fin 2304) := Fin.ext h0
    obtain rfl : j = (⟨x1.val, by have h := x1.isLt; clear * - h; omega⟩ : Fin 256) := Fin.ext h1
    rw [dif_pos x1.isLt]
    refine Eq.trans ?_ ((in_vl t x0 x1).trans (r_v_lat _ _ _ x0 x1).symm)
    pointwise
  case piece2 =>
    obtain ⟨x0, x1, rfl⟩ : ∃ (x0 : Fin 256) (x1 : Fin 128), x = ix2 x0 x1 := ⟨x 0, x 1, eq_ix2 x⟩
    obtain rfl : s = (⟨x0.val, by have h := x0.isLt; clear * - h; omega⟩ : Fin 2304) := Fin.ext h0
    obtain rfl : j = (⟨x1.val, by have h := x1.isLt; clear * - h; omega⟩ : Fin 256) := Fin.ext h1
    rw [dif_pos x1.isLt]
    refine Eq.trans ?_ ((in_vc t x0 x1).trans (r_v_ctx _ _ _ x0 x1).symm)
    pointwise

end Cert.GqaIdeal.Point

end
-- ==== Proof.GqaPoint.lean ====
/-
The attention: one point of the launch, and the whole result.
-/
module

public import Idealize.ShloMosaic.Lib.Pipeline.ValueKit
public import Idealize.ShloMosaic.Lib.Pointwise
public import proofs.«01_k».proof.Proof.Gen.GqaIdeal.Value
public import proofs.«01_k».proof.Proof.AttnMath
public import proofs.«01_k».proof.Proof.GqaScr
public import proofs.«01_k».proof.Proof.GqaPay
public import proofs.«01_k».proof.Proof.AttnBits
@[expose] public section

set_option maxRecDepth 16384

noncomputable section

open Idealize.ShloMosaic Idealize.ShloMosaic.TcCoe Idealize.SL.Sem
open Idealize.ShloMosaic.Pipeline (Dat)

namespace Cert.GqaIdeal.Pay

open Cert.GqaIdeal Cert.GqaIdeal.Gen

open Cert.Attn

section
variable {T : Vec Ideal S128x2304 .bf16} {V : Vec Ideal S2304x256 .bf16} (K : Fin 2 → Fin 2304 → Fin 64 → ℝ)
  (hT : ∀ (y : Fin 128) s, T (ix2 y s) = (K ⟨y.val / 64, by omega⟩ s ⟨y.val % 64, Nat.mod_lt _ (by norm_num)⟩ : EReal))
  (hV : ∀ s (j : Fin 128), V (ix2 s (⟨128 + j.val, by omega⟩ : Fin 256)) = 1)
include hT hV

/-- A head of the kernel's attention, its queries zero outside one half of the lanes. -/
theorem attn_head (Q : FVec Ideal S512x128 .bf16) (i : Fin 512) (j : Fin 128) (kv : Fin 2) (q : Fin 64 → ℝ)
    (hQ : ∀ y : Fin 128, Q (ix2 i y) = if y.val / 64 = kv.val then ((q ⟨y.val % 64, Nat.mod_lt _ (by norm_num)⟩ * (8⁻¹ * (Real.log 2)⁻¹) : ℝ) : EReal) else 0) :
    attn Q T V i j = head 8 q (K kv) (fun s => V (ix2 s (⟨j.val, by omega⟩ : Fin 256))) :=
  head_pad kv.val kv.isLt q (K kv) (fun y => Q (ix2 i y)) (fun y s => T (ix2 y s)) (fun s => V (ix2 s (⟨j.val, by omega⟩ : Fin 256))) (fun s => V (ix2 s (⟨128 + j.val, by omega⟩ : Fin 256)))
    hQ (fun y s h => (hT y s).trans (congrArg (fun k => ((K k s _ : ℝ) : EReal)) (Fin.ext h))) (fun s => hV s j)

end

/-- A row of rotated queries. -/
def qrow (x : Fin 1024 → Fin 256 → ℝ) (γ : Fin 64 → ℝ) (cs sn : Fin 1024 → Fin 32 → ℝ) (r c : ℕ) (hr : r ≤ 512) (hc : c ≤ 128) (i : Fin 512) (kv : Fin 2) : Fin 64 → ℝ :=
  rot (h := 32) (nrm eps (fun e : Fin 64 => x ⟨r + i.val, by omega⟩ ⟨64 * (c / 64 + kv.val) + e.val, by omega⟩) γ) (cs ⟨r + i.val, by omega⟩) (sn ⟨r + i.val, by omega⟩)

section
variable (X : Vec Ideal S1024x256 .f32) (g : Vec Ideal S1x256 .f32) (C S : Vec Ideal S1024x256 .f32) (x : Fin 1024 → Fin 256 → ℝ) (γ : Fin 64 → ℝ) (cs sn : Fin 1024 → Fin 32 → ℝ)
    (hX : ∀ s i, X (ix2 s i) = (x s i : EReal)) (hg : ∀ i : Fin 256, g (ix2 (0 : Fin 1) i) = (γ ⟨i.val % 64, Nat.mod_lt _ (by norm_num)⟩ : EReal))
    (hC : ∀ s (i : Fin 256), C (ix2 s i) = (cs s ⟨i.val % 32, Nat.mod_lt _ (by norm_num)⟩ : EReal))
    (hS : ∀ s (i : Fin 256), S (ix2 s i) = ((if i.val % 64 < 32 then -(sn s ⟨i.val % 32, Nat.mod_lt _ (by norm_num)⟩) else sn s ⟨i.val % 32, Nat.mod_lt _ (by norm_num)⟩ : ℝ) : EReal))
include hX hg hC hS

theorem masked_eq (r c : ℕ) (hr : r ≤ 512) (hc : c ≤ 128) (hc' : c % 64 = 0) (i : Fin 512) (kv : Fin 2) (y : Fin 128) (k : ℕ) (hk : k = kv.val) :
    masked (k0_pay14 (k0_pay11 X) (k0_pay12 X) k0_pay13 g C S) r c hr hc k i y
      = if y.val / 64 = kv.val then ((qrow x γ cs sn r c hr hc i kv ⟨y.val % 64, Nat.mod_lt _ (by norm_num)⟩ * (8⁻¹ * (Real.log 2)⁻¹) : ℝ) : EReal) else 0 := by
  subst hk
  unfold masked
  split_ifs with h
  · rw [pay14_at X g C S x γ cs sn hX hg hC hS]
    unfold qrow
    have e1 : (⟨(c + y.val) % 64, Nat.mod_lt _ (by norm_num)⟩ : Fin 64) = ⟨y.val % 64, Nat.mod_lt _ (by norm_num)⟩ := Fin.ext (by dsimp only; omega)
    have e2 : ∀ e : Fin 64, (⟨64 * ((c + y.val) / 64) + e.val, by omega⟩ : Fin 256) = ⟨64 * (c / 64 + kv.val) + e.val, by omega⟩ := fun e => Fin.ext (by dsimp only; omega)
    simp only [e1, e2]
  · rfl

variable {T : Vec Ideal S128x2304 .bf16} {V : Vec Ideal S2304x256 .bf16} (K : Fin 2 → Fin 2304 → Fin 64 → ℝ)
  (hT : ∀ (y : Fin 128) s, T (ix2 y s) = (K ⟨y.val / 64, by omega⟩ s ⟨y.val % 64, Nat.mod_lt _ (by norm_num)⟩ : EReal))
  (hV : ∀ s (j : Fin 128), V (ix2 s (⟨128 + j.val, by omega⟩ : Fin 256)) = 1)
include hT hV

/-- The output's rows from 0 and columns from 0. -/
theorem piece0 (G : Vec Ideal S512x128 .f32) (i : Fin 512) (j : Fin 128) :
    k0_pay50 (k0_pay47 lanes (k0_pay31 (k0_pay16 (k0_pay11 X) (k0_pay12 X) k0_pay13 g C S) T V) (k0_pay35 (k0_pay34 (k0_pay19 (k0_pay15 (k0_pay11 X) (k0_pay12 X) k0_pay13 g C S) k0_pay17 k0_pay18) T) V)) (k0_pay48 G) (k0_pay49 G) (ix2 i j)
      = head 8 (qrow x γ cs sn 0 0 (by norm_num) (by norm_num) i ⟨j.val / 64, by omega⟩) (K ⟨j.val / 64, by omega⟩) (fun s => V (ix2 s (⟨j.val, by omega⟩ : Fin 256)))
        * (G (ix2 i j) * Ideal.logistic (G (ix2 i j))) := by
  refine (o0 _ _ _ i j).trans (congrArg (· * _) ?_)
  split_ifs with h
  · refine (a00 _ _ _ i j).trans (attn_head K hT hV _ i j ⟨j.val / 64, by omega⟩ _ fun y => ?_)
    rw [q00 _ _ _ _ _ _ i y]
    exact masked_eq X g C S x γ cs sn hX hg hC hS 0 0 (by norm_num) (by norm_num) (by norm_num) i _ y 0 (by dsimp only; omega)
  · refine (a01 _ _ _ i j).trans (attn_head K hT hV _ i j ⟨j.val / 64, by omega⟩ _ fun y => ?_)
    rw [q01 _ _ _ _ _ _ i y]
    exact masked_eq X g C S x γ cs sn hX hg hC hS 0 0 (by norm_num) (by norm_num) (by norm_num) i _ y 1 (by dsimp only; omega)

/-- The output's rows from 0 and columns from 128. -/
theorem piece1 (G : Vec Ideal S512x128 .f32) (i : Fin 512) (j : Fin 128) :
    k0_pay51 lanes (k0_pay36 (k0_pay29 (k0_pay21 (k0_pay14 (k0_pay11 X) (k0_pay12 X) k0_pay13 g C S) lanes) T) (k0_pay30 (k0_pay21 (k0_pay14 (k0_pay11 X) (k0_pay12 X) k0_pay13 g C S) lanes) T) V) (k0_pay39 (k0_pay32 (k0_pay22 (k0_pay14 (k0_pay11 X) (k0_pay12 X) k0_pay13 g C S) lanes) T) (k0_pay33 (k0_pay22 (k0_pay14 (k0_pay11 X) (k0_pay12 X) k0_pay13 g C S) lanes) T) V) G (ix2 i j)
      = head 8 (qrow x γ cs sn 0 128 (by norm_num) (by norm_num) i ⟨j.val / 64, by omega⟩) (K ⟨j.val / 64, by omega⟩) (fun s => V (ix2 s (⟨j.val, by omega⟩ : Fin 256)))
        * (G (ix2 i j) * Ideal.logistic (G (ix2 i j))) := by
  refine (o1 _ _ _ i j).trans (congrArg (· * _) ?_)
  split_ifs with h
  · refine (a10 _ _ _ i j).trans (attn_head K hT hV _ i j ⟨j.val / 64, by omega⟩ _ fun y => ?_)
    rw [q10 _ i y]
    exact masked_eq X g C S x γ cs sn hX hg hC hS 0 128 (by norm_num) (by norm_num) (by norm_num) i _ y 0 (by dsimp only; omega)
  · refine (a11 _ _ _ i j).trans (attn_head K hT hV _ i j ⟨j.val / 64, by omega⟩ _ fun y => ?_)
    rw [q11 _ i y]
    exact masked_eq X g C S x γ cs sn hX hg hC hS 0 128 (by norm_num) (by norm_num) (by norm_num) i _ y 1 (by dsimp only; omega)

/-- The output's rows from 512 and columns from 0. -/
theorem piece2 (G : Vec Ideal S512x128 .f32) (i : Fin 512) (j : Fin 128) :
    k0_pay52 lanes (k0_pay43 (k0_pay42 (k0_pay24 (k0_pay14 (k0_pay11 X) (k0_pay12 X) k0_pay13 g C S) lanes) T) V) (k0_pay44 (k0_pay37 (k0_pay25 (k0_pay14 (k0_pay11 X) (k0_pay12 X) k0_pay13 g C S) lanes) T) (k0_pay38 (k0_pay25 (k0_pay14 (k0_pay11 X) (k0_pay12 X) k0_pay13 g C S) lanes) T) V) G (ix2 i j)
      = head 8 (qrow x γ cs sn 512 0 (by norm_num) (by norm_num) i ⟨j.val / 64, by omega⟩) (K ⟨j.val / 64, by omega⟩) (fun s => V (ix2 s (⟨j.val, by omega⟩ : Fin 256)))
        * (G (ix2 i j) * Ideal.logistic (G (ix2 i j))) := by
  refine (o2 _ _ _ i j).trans (congrArg (· * _) ?_)
  split_ifs with h
  · refine (a20 _ _ _ i j).trans (attn_head K hT hV _ i j ⟨j.val / 64, by omega⟩ _ fun y => ?_)
    rw [q20 _ i y]
    exact masked_eq X g C S x γ cs sn hX hg hC hS 512 0 (by norm_num) (by norm_num) (by norm_num) i _ y 0 (by dsimp only; omega)
  · refine (a21 _ _ _ i j).trans (attn_head K hT hV _ i j ⟨j.val / 64, by omega⟩ _ fun y => ?_)
    rw [q21 _ i y]
    exact masked_eq X g C S x γ cs sn hX hg hC hS 512 0 (by norm_num) (by norm_num) (by norm_num) i _ y 1 (by dsimp only; omega)

/-- The output's rows from 512 and columns from 128. -/
theorem piece3 (G : Vec Ideal S512x128 .f32) (i : Fin 512) (j : Fin 128) :
    k0_pay53 lanes (k0_pay45 (k0_pay40 (k0_pay27 (k0_pay14 (k0_pay11 X) (k0_pay12 X) k0_pay13 g C S) lanes) T) (k0_pay41 (k0_pay27 (k0_pay14 (k0_pay11 X) (k0_pay12 X) k0_pay13 g C S) lanes) T) V) (k0_pay46 (k0_pay28 lanes (k0_pay26 (k0_pay14 (k0_pay11 X) (k0_pay12 X) k0_pay13 g C S))) T V) G (ix2 i j)
      = head 8 (qrow x γ cs sn 512 128 (by norm_num) (by norm_num) i ⟨j.val / 64, by omega⟩) (K ⟨j.val / 64, by omega⟩) (fun s => V (ix2 s (⟨j.val, by omega⟩ : Fin 256)))
        * (G (ix2 i j) * Ideal.logistic (G (ix2 i j))) := by
  refine (o3 _ _ _ i j).trans (congrArg (· * _) ?_)
  split_ifs with h
  · refine (a30 _ _ _ i j).trans (attn_head K hT hV _ i j ⟨j.val / 64, by omega⟩ _ fun y => ?_)
    rw [q30 _ i y]
    exact masked_eq X g C S x γ cs sn hX hg hC hS 512 128 (by norm_num) (by norm_num) (by norm_num) i _ y 0 (by dsimp only; omega)
  · refine (a31 _ _ _ i j).trans (attn_head K hT hV _ i j ⟨j.val / 64, by omega⟩ _ fun y => ?_)
    rw [q31 _ i y]
    exact masked_eq X g C S x γ cs sn hX hg hC hS 512 128 (by norm_num) (by norm_num) (by norm_num) i _ y 1 (by dsimp only; omega)

end

end Cert.GqaIdeal.Pay

namespace Cert.GqaIdeal.Point

open Cert.GqaIdeal Cert.GqaIdeal.Gen

open Cert.Attn Cert.GqaIdeal.Pay
open Cert.GqaRefIdeal.Parts (qx klx kcx gx ang kr r_v out)

variable {m : (ℓ : Loc nD τ sig) → Buf (Elt Ideal) ℓ} {c : Dev nD} (H : Ok m c) (t : Fin cfg0.N)
include H

omit H t in
/-- What a load reads after writes is what the writes leave. -/
theorem readCov_at {s : Shape} {e : EltTy} (v : View sig .tc .vmem s e) (L : List (View.Piece (Elt Ideal) s e)) (off size : Fin s.rank → ℕ) (inb)
    (x : (Rect.unit off size inb).shape.Idx) (y : s.Idx) (hy : ∀ a, (y a : ℕ) = off a + x a) (r : Elt Ideal e) (k : View.canon L y = r) :
    View.readCov v L (Rect.unit off size inb) x = r := by
  rw [View.readCov_eq_canon']
  refine Eq.trans (congrArg (View.canon L) ?_) k
  exact funext fun a => Fin.ext ((Rect.idx_unit_val off size inb x a).trans (hy a).symm)

omit H t in
theorem readCov_name {s : Shape} {e : EltTy} {v : View sig .tc .vmem s e} {L : List (View.Piece (Elt Ideal) s e)} {R : LoadRect s} {T : R.shape.Idx → Elt Ideal e} (h : View.readCov v L R = T) :
    ∃ L', L' = L ∧ View.readCov v L' R = T := ⟨L, rfl, h⟩

omit H t in
theorem canon_name {s : Shape} {e : EltTy} {L : List (View.Piece (Elt Ideal) s e)} {x : s.Idx} {r : Elt Ideal e} (h : View.canon L x = r) :
    ∃ L', L' = L ∧ View.canon L' x = r := ⟨L, rfl, h⟩

/-- A gated head of the kernel is the reference's. -/
theorem meet (V : Vec Ideal S2304x256 .bf16) (hV : ∀ (s : Fin 2304) (j : Fin 128), V (ix2 s (⟨j.val, by omega⟩ : Fin 256)) = r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)))
    (r k : ℕ) (hr : r ≤ 512) (hk : k ≤ 128) (h : Fin 2) (hh : k = 128 * h.val) (i : Fin 512) (j : Fin 128) (G : EReal)
    (hG : G = ((m ((c : Thread nD τ).loc main_arg0)) (ix3 (⟨t.val / 2, by have := t_lt t; omega⟩ : Fin 8) (⟨t.val % 2 * 1024 + (r + i.val), by omega⟩ : Fin 2048) (⟨2064 + ((k + j.val) / 64 % 2 * 128 + (k + j.val) / 128 * 64 + (k + j.val) % 64), by omega⟩ : Fin 3344)))) :
    head 8 (qrow (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) r k hr hk i ⟨j.val / 64, by omega⟩) ((fun g s d => kr (m ((c : Thread nD τ).loc main_arg0)) (m ((c : Thread nD τ).loc main_arg1)) (m ((c : Thread nD τ).loc main_arg3)) (⟨t.val / 2, by have := t_lt t; omega⟩ : Fin 8) g s d) ⟨j.val / 64, by omega⟩) (fun s => V (ix2 s (⟨j.val, by omega⟩ : Fin 256))) * (G * Ideal.logistic G)
      = out (m ((c : Thread nD τ).loc main_arg0)) (m ((c : Thread nD τ).loc main_arg1)) (m ((c : Thread nD τ).loc main_arg2)) (m ((c : Thread nD τ).loc main_arg3)) (ix2 (⟨t.val * 1024 + (r + i.val), by have := t_lt t; omega⟩ : Fin 16384) (⟨k + j.val, by omega⟩ : Fin 256)) := by
  have ht := t_lt t
  subst hG
  simp only [hV]
  refine Eq.trans ?_ ((Cert.GqaRefIdeal.Parts.out_eq H ⟨t.val / 2, by omega⟩ ⟨t.val % 2 * 1024 + (r + i.val), by omega⟩ ⟨j.val / 64, by omega⟩ h ⟨j.val % 64, Nat.mod_lt _ (by norm_num)⟩).symm.trans
    (congrArg₂ (fun u v => out (m ((c : Thread nD τ).loc main_arg0)) (m ((c : Thread nD τ).loc main_arg1)) (m ((c : Thread nD τ).loc main_arg2)) (m ((c : Thread nD τ).loc main_arg3)) (ix2 u v)) (Fin.ext ?_) (Fin.ext ?_)))
  · refine congrArg₂ (· * ·) (congrArg (fun q => head 8 q _ _) ?_) (congrArg (fun w : EReal => w * Ideal.logistic w) (congrArg (fun e => (m ((c : Thread nD τ).loc main_arg0)) (ix3 _ _ e)) (Fin.ext ?_)))
    · unfold qrow Cert.GqaRefIdeal.Parts.qr
      refine congrArg (fun f => rot (h := 32) (nrm eps f _) _ _) (funext fun e => ?_)
      refine congrArg₂ (fun u v => qx (m ((c : Thread nD τ).loc main_arg0)) _ _ u v) (Fin.ext ?_) (Fin.ext ?_)
      · dsimp only; omega
      · dsimp only; omega
    · dsimp only; omega
  · dsimp only; omega
  · dsimp only; omega

set_option maxHeartbeats 400000 in
/-- One point's block of the output, at a batch's first point. -/
theorem point_A (hz : t.val % 2 = 0) (y0 : Fin 1024) (y1 : Fin 256) :
    (outsAt0 m c t.val t.isLt).1 (ix2 y0 y1) = out (m ((c : Thread nD τ).loc main_arg0)) (m ((c : Thread nD τ).loc main_arg1)) (m ((c : Thread nD τ).loc main_arg2)) (m ((c : Thread nD τ).loc main_arg3)) (ix2 (⟨t.val * 1024 + y0.val, by have := t_lt t; omega⟩ : Fin 16384) y1) := by
  rw [outsAt0_A m c t hz]; frame_out
  generalize eT : View.readCov (Val := Elt Ideal) (View.whole cc0_scratch0) _ _ = T
  generalize eV : View.readCov (Val := Elt Ideal) (View.whole cc0_scratch1) _ _ = V
  obtain ⟨T, rfl⟩ : ∃ T0 : Vec Ideal S128x2304 .bf16, T0 = T := ⟨T, rfl⟩
  obtain ⟨V, rfl⟩ : ∃ V0 : Vec Ideal S2304x256 .bf16, V0 = V := ⟨V, rfl⟩
  have fT : ∀ (y : Fin 128) (s : Fin 2304), T (ix2 y s) = (keyAt m c (⟨t.val / 2, by have := t_lt t; omega⟩ : Fin 8) y s : EReal) := fun y s => by
    have k := keys H t hz y s
    rw [outsAt0_A m c t hz] at k; frame_out at k
    obtain ⟨L1, h1, e1⟩ := readCov_name eT
    obtain ⟨L2, h2, k⟩ := canon_name k
    have hL : L2 = L1 := by rw [h1, h2]
    clear h1 h2
    subst hL
    rw [← e1]
    refine readCov_at _ _ _ _ _ (ix2 y s) (ix2 y s) (fun a => ?_) _ k
    match a with
    | ⟨0, _⟩ => exact (Nat.zero_add _).symm
    | ⟨1, _⟩ => exact (Nat.zero_add _).symm
  have fW : ∀ (s : Fin 2304) (j : Fin 256), V (ix2 s j) = if h : j.val < 128 then
      r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)) else 1 := fun s j => by
    have k := vals (m := m) (c := c) t hz s j
    rw [outsAt0_A m c t hz] at k; frame_out at k
    obtain ⟨L1, h1, e1⟩ := readCov_name eV
    obtain ⟨L2, h2, k⟩ := canon_name k
    have hL : L2 = L1 := by rw [h1, h2]
    clear h1 h2
    subst hL
    rw [← e1]
    refine readCov_at _ _ _ _ _ (ix2 s j) (ix2 s j) (fun a => ?_) _ k
    match a with
    | ⟨0, _⟩ => exact (Nat.zero_add _).symm
    | ⟨1, _⟩ => exact (Nat.zero_add _).symm
  have fO : ∀ (s : Fin 2304) (j : Fin 128), V (ix2 s (⟨128 + j.val, by omega⟩ : Fin 256)) = 1 := fun s j =>
    (fW s _).trans (dif_neg (by dsimp only; omega))
  have fV : ∀ (s : Fin 2304) (j : Fin 128), V (ix2 s (⟨j.val, by omega⟩ : Fin 256)) = r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)) := fun s j =>
    (fW s _).trans (dif_pos j.isLt)

  clear eT eV
  have fX := in_q H t
  have fg := in_nq H t
  have fC := in_cq (m := m) (c := c) t
  have fS := in_sq (m := m) (c := c) t
  generalize iblk m c 0 t = X at fX ⊢
  generalize iblk m c 8 t = g at fg ⊢
  generalize iblk m c 4 t = C at fC ⊢
  generalize iblk m c 5 t = S at fS ⊢

  canon_tiles x h
  case piece0 =>
    obtain ⟨x0, x1, rfl⟩ : ∃ (x0 : Fin 512) (x1 : Fin 128), x = ix2 x0 x1 := ⟨x 0, x 1, eq_ix2 x⟩
    obtain rfl : y0 = (⟨512 + x0.val, by have h := x0.isLt; clear * - h; omega⟩ : Fin 1024) := Fin.ext h0
    obtain rfl : y1 = (⟨128 + x1.val, by have h := x1.isLt; clear * - h; omega⟩ : Fin 256) := Fin.ext h1
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (512 + x0.val), by omega⟩ : Fin 2048) (⟨2064 + ((128 + x1.val) / 64 % 2 * 128 + (128 + x1.val) / 128 * 64 + (128 + x1.val) % 64), by omega⟩ : Fin 3344))) := by
      rw [← eG]
      refine (View.ld_unit_apply_of _ _ _ _ _ (ix2 (⟨512 + x0.val, by have h := x0.isLt; clear * - h; omega⟩ : Fin 1024) (⟨128 + x1.val, by have h := x1.isLt; clear * - h; omega⟩ : Fin 256)) fun a => ?_).trans (in_g t _ _)
      match a with
      | ⟨0, _⟩ => exact rfl
      | ⟨1, _⟩ => exact rfl
    have e := (piece3 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 512 128 (by norm_num) (by norm_num) 1 rfl x0 x1 _ fG)
    exact e
  case piece1 =>
    obtain ⟨x0, x1, rfl⟩ : ∃ (x0 : Fin 512) (x1 : Fin 128), x = ix2 x0 x1 := ⟨x 0, x 1, eq_ix2 x⟩
    obtain rfl : y0 = (⟨512 + x0.val, by have h := x0.isLt; clear * - h; omega⟩ : Fin 1024) := Fin.ext h0
    obtain rfl : y1 = (⟨0 + x1.val, by have h := x1.isLt; clear * - h; omega⟩ : Fin 256) := Fin.ext (h1.trans (Nat.zero_add _).symm)
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (512 + x0.val), by omega⟩ : Fin 2048) (⟨2064 + ((0 + x1.val) / 64 % 2 * 128 + (0 + x1.val) / 128 * 64 + (0 + x1.val) % 64), by omega⟩ : Fin 3344))) := by
      rw [← eG]
      refine (View.ld_unit_apply_of _ _ _ _ _ (ix2 (⟨512 + x0.val, by have h := x0.isLt; clear * - h; omega⟩ : Fin 1024) (⟨0 + x1.val, by have h := x1.isLt; clear * - h; omega⟩ : Fin 256)) fun a => ?_).trans (in_g t _ _)
      match a with
      | ⟨0, _⟩ => exact rfl
      | ⟨1, _⟩ => exact rfl
    have e := (piece2 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 512 0 (by norm_num) (by norm_num) 0 rfl x0 x1 _ fG)
    exact e
  case piece2 =>
    obtain ⟨x0, x1, rfl⟩ : ∃ (x0 : Fin 512) (x1 : Fin 128), x = ix2 x0 x1 := ⟨x 0, x 1, eq_ix2 x⟩
    obtain rfl : y0 = (⟨0 + x0.val, by have h := x0.isLt; clear * - h; omega⟩ : Fin 1024) := Fin.ext (h0.trans (Nat.zero_add _).symm)
    obtain rfl : y1 = (⟨128 + x1.val, by have h := x1.isLt; clear * - h; omega⟩ : Fin 256) := Fin.ext h1
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (0 + x0.val), by omega⟩ : Fin 2048) (⟨2064 + ((128 + x1.val) / 64 % 2 * 128 + (128 + x1.val) / 128 * 64 + (128 + x1.val) % 64), by omega⟩ : Fin 3344))) := by
      rw [← eG]
      refine (View.ld_unit_apply_of _ _ _ _ _ (ix2 (⟨0 + x0.val, by have h := x0.isLt; clear * - h; omega⟩ : Fin 1024) (⟨128 + x1.val, by have h := x1.isLt; clear * - h; omega⟩ : Fin 256)) fun a => ?_).trans (in_g t _ _)
      match a with
      | ⟨0, _⟩ => exact rfl
      | ⟨1, _⟩ => exact rfl
    have e := (piece1 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 0 128 (by norm_num) (by norm_num) 1 rfl x0 x1 _ fG)
    exact e
  case piece3 =>
    obtain ⟨x0, x1, rfl⟩ : ∃ (x0 : Fin 512) (x1 : Fin 128), x = ix2 x0 x1 := ⟨x 0, x 1, eq_ix2 x⟩
    obtain rfl : y0 = (⟨0 + x0.val, by have h := x0.isLt; clear * - h; omega⟩ : Fin 1024) := Fin.ext (h0.trans (Nat.zero_add _).symm)
    obtain rfl : y1 = (⟨0 + x1.val, by have h := x1.isLt; clear * - h; omega⟩ : Fin 256) := Fin.ext (h1.trans (Nat.zero_add _).symm)
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (0 + x0.val), by omega⟩ : Fin 2048) (⟨2064 + ((0 + x1.val) / 64 % 2 * 128 + (0 + x1.val) / 128 * 64 + (0 + x1.val) % 64), by omega⟩ : Fin 3344))) := by
      rw [← eG]
      refine (View.ld_unit_apply_of _ _ _ _ _ (ix2 (⟨0 + x0.val, by have h := x0.isLt; clear * - h; omega⟩ : Fin 1024) (⟨0 + x1.val, by have h := x1.isLt; clear * - h; omega⟩ : Fin 256)) fun a => ?_).trans (in_g t _ _)
      match a with
      | ⟨0, _⟩ => exact rfl
      | ⟨1, _⟩ => exact rfl
    have e := (piece0 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 0 0 (by norm_num) (by norm_num) 0 rfl x0 x1 _ fG)
    exact e

set_option maxHeartbeats 400000 in
/-- One point's block of the output, at a batch's second point. -/
theorem point_B (hz : ¬ t.val % 2 = 0) (y0 : Fin 1024) (y1 : Fin 256) :
    (outsAt0 m c t.val t.isLt).1 (ix2 y0 y1) = out (m ((c : Thread nD τ).loc main_arg0)) (m ((c : Thread nD τ).loc main_arg1)) (m ((c : Thread nD τ).loc main_arg2)) (m ((c : Thread nD τ).loc main_arg3)) (ix2 (⟨t.val * 1024 + y0.val, by have := t_lt t; omega⟩ : Fin 16384) y1) := by
  rw [outsAt0_B m c t hz]; frame_out
  generalize eT : View.read (Elt Ideal) (View.whole cc0_scratch0) _ = T
  generalize eV : View.read (Elt Ideal) (View.whole cc0_scratch1) _ = V
  have hu : t.val - 1 < cfg0.N := Nat.lt_of_le_of_lt (Nat.sub_le _ _) t.isLt
  have hz' : (⟨t.val - 1, hu⟩ : Fin cfg0.N).val % 2 = 0 := by dsimp only; omega
  have eb : (⟨(t.val - 1) / 2, by have := t_lt t; omega⟩ : Fin 8) = (⟨t.val / 2, by have := t_lt t; omega⟩ : Fin 8) := Fin.ext (by dsimp only; omega)
  obtain ⟨T, rfl⟩ : ∃ T0 : Vec Ideal S128x2304 .bf16, T0 = T := ⟨T, rfl⟩
  obtain ⟨V, rfl⟩ : ∃ V0 : Vec Ideal S2304x256 .bf16, V0 = V := ⟨V, rfl⟩
  have fT : ∀ (y : Fin 128) (s : Fin 2304), T (ix2 y s) = (keyAt m c (⟨t.val / 2, by have := t_lt t; omega⟩ : Fin 8) y s : EReal) := fun y s => by
    have k := keys H ⟨t.val - 1, hu⟩ hz' y s
    rw [← eT]
    refine (congrFun (Memref.IsWhole.read_unread _ _) (ix2 y s)).trans (k.trans ?_)
    exact congrArg (fun b => ((keyAt m c b y s : ℝ) : EReal)) eb
  have fW : ∀ (s : Fin 2304) (j : Fin 256), V (ix2 s j) = if h : j.val < 128 then
      r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)) else 1 := fun s j => by
    have k := vals (m := m) (c := c) ⟨t.val - 1, hu⟩ hz' s j
    rw [← eV]
    refine (congrFun (Memref.IsWhole.read_unread _ _) (ix2 s j)).trans (k.trans ?_)
    dsimp only
    rw [eb]
  have fO : ∀ (s : Fin 2304) (j : Fin 128), V (ix2 s (⟨128 + j.val, by omega⟩ : Fin 256)) = 1 := fun s j =>
    (fW s _).trans (dif_neg (by dsimp only; omega))
  have fV : ∀ (s : Fin 2304) (j : Fin 128), V (ix2 s (⟨j.val, by omega⟩ : Fin 256)) = r_v (m ((c : Thread nD τ).loc main_arg0)) (m ((c : Thread nD τ).loc main_arg1)) (ix4 (⟨t.val / 2, by have := t_lt t; omega⟩ : Fin 8) s (⟨j.val / 64, by omega⟩ : Fin 2) (⟨j.val % 64, Nat.mod_lt _ (by norm_num)⟩ : Fin 64)) := fun s j =>
    (fW s _).trans (dif_pos j.isLt)

  clear eT eV
  have fX := in_q H t
  have fg := in_nq H t
  have fC := in_cq (m := m) (c := c) t
  have fS := in_sq (m := m) (c := c) t
  generalize iblk m c 0 t = X at fX ⊢
  generalize iblk m c 8 t = g at fg ⊢
  generalize iblk m c 4 t = C at fC ⊢
  generalize iblk m c 5 t = S at fS ⊢

  canon_tiles x h
  case piece0 =>
    obtain ⟨x0, x1, rfl⟩ : ∃ (x0 : Fin 512) (x1 : Fin 128), x = ix2 x0 x1 := ⟨x 0, x 1, eq_ix2 x⟩
    obtain rfl : y0 = (⟨512 + x0.val, by have h := x0.isLt; clear * - h; omega⟩ : Fin 1024) := Fin.ext h0
    obtain rfl : y1 = (⟨128 + x1.val, by have h := x1.isLt; clear * - h; omega⟩ : Fin 256) := Fin.ext h1
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (512 + x0.val), by omega⟩ : Fin 2048) (⟨2064 + ((128 + x1.val) / 64 % 2 * 128 + (128 + x1.val) / 128 * 64 + (128 + x1.val) % 64), by omega⟩ : Fin 3344))) := by
      rw [← eG]
      refine (View.ld_unit_apply_of _ _ _ _ _ (ix2 (⟨512 + x0.val, by have h := x0.isLt; clear * - h; omega⟩ : Fin 1024) (⟨128 + x1.val, by have h := x1.isLt; clear * - h; omega⟩ : Fin 256)) fun a => ?_).trans (in_g t _ _)
      match a with
      | ⟨0, _⟩ => exact rfl
      | ⟨1, _⟩ => exact rfl
    have e := (piece3 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 512 128 (by norm_num) (by norm_num) 1 rfl x0 x1 _ fG)
    exact e
  case piece1 =>
    obtain ⟨x0, x1, rfl⟩ : ∃ (x0 : Fin 512) (x1 : Fin 128), x = ix2 x0 x1 := ⟨x 0, x 1, eq_ix2 x⟩
    obtain rfl : y0 = (⟨512 + x0.val, by have h := x0.isLt; clear * - h; omega⟩ : Fin 1024) := Fin.ext h0
    obtain rfl : y1 = (⟨0 + x1.val, by have h := x1.isLt; clear * - h; omega⟩ : Fin 256) := Fin.ext (h1.trans (Nat.zero_add _).symm)
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (512 + x0.val), by omega⟩ : Fin 2048) (⟨2064 + ((0 + x1.val) / 64 % 2 * 128 + (0 + x1.val) / 128 * 64 + (0 + x1.val) % 64), by omega⟩ : Fin 3344))) := by
      rw [← eG]
      refine (View.ld_unit_apply_of _ _ _ _ _ (ix2 (⟨512 + x0.val, by have h := x0.isLt; clear * - h; omega⟩ : Fin 1024) (⟨0 + x1.val, by have h := x1.isLt; clear * - h; omega⟩ : Fin 256)) fun a => ?_).trans (in_g t _ _)
      match a with
      | ⟨0, _⟩ => exact rfl
      | ⟨1, _⟩ => exact rfl
    have e := (piece2 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 512 0 (by norm_num) (by norm_num) 0 rfl x0 x1 _ fG)
    exact e
  case piece2 =>
    obtain ⟨x0, x1, rfl⟩ : ∃ (x0 : Fin 512) (x1 : Fin 128), x = ix2 x0 x1 := ⟨x 0, x 1, eq_ix2 x⟩
    obtain rfl : y0 = (⟨0 + x0.val, by have h := x0.isLt; clear * - h; omega⟩ : Fin 1024) := Fin.ext (h0.trans (Nat.zero_add _).symm)
    obtain rfl : y1 = (⟨128 + x1.val, by have h := x1.isLt; clear * - h; omega⟩ : Fin 256) := Fin.ext h1
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (0 + x0.val), by omega⟩ : Fin 2048) (⟨2064 + ((128 + x1.val) / 64 % 2 * 128 + (128 + x1.val) / 128 * 64 + (128 + x1.val) % 64), by omega⟩ : Fin 3344))) := by
      rw [← eG]
      refine (View.ld_unit_apply_of _ _ _ _ _ (ix2 (⟨0 + x0.val, by have h := x0.isLt; clear * - h; omega⟩ : Fin 1024) (⟨128 + x1.val, by have h := x1.isLt; clear * - h; omega⟩ : Fin 256)) fun a => ?_).trans (in_g t _ _)
      match a with
      | ⟨0, _⟩ => exact rfl
      | ⟨1, _⟩ => exact rfl
    have e := (piece1 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 0 128 (by norm_num) (by norm_num) 1 rfl x0 x1 _ fG)
    exact e
  case piece3 =>
    obtain ⟨x0, x1, rfl⟩ : ∃ (x0 : Fin 512) (x1 : Fin 128), x = ix2 x0 x1 := ⟨x 0, x 1, eq_ix2 x⟩
    obtain rfl : y0 = (⟨0 + x0.val, by have h := x0.isLt; clear * - h; omega⟩ : Fin 1024) := Fin.ext (h0.trans (Nat.zero_add _).symm)
    obtain rfl : y1 = (⟨0 + x1.val, by have h := x1.isLt; clear * - h; omega⟩ : Fin 256) := Fin.ext (h1.trans (Nat.zero_add _).symm)
    generalize eG : View.ld (iblk m c 1 t) _ = G
    have fG : G (ix2 x0 x1) = ((m ((c : Thread nD τ).loc main_arg0)) (ix3 (⟨t.val / 2, by have := t_lt t; omega⟩ : Fin 8) (⟨t.val % 2 * 1024 + (0 + x0.val), by omega⟩ : Fin 2048) (⟨2064 + ((0 + x1.val) / 64 % 2 * 128 + (0 + x1.val) / 128 * 64 + (0 + x1.val) % 64), by omega⟩ : Fin 3344))) := by
      rw [← eG]
      refine (View.ld_unit_apply_of _ _ _ _ _ (ix2 (⟨0 + x0.val, by have h := x0.isLt; clear * - h; omega⟩ : Fin 1024) (⟨0 + x1.val, by have h := x1.isLt; clear * - h; omega⟩ : Fin 256)) fun a => ?_).trans (in_g t _ _)
      match a with
      | ⟨0, _⟩ => exact rfl
      | ⟨1, _⟩ => exact rfl
    have e := (piece0 X g C S (fun (s : Fin 1024) (j : Fin 256) => qx (m ((c : Thread nD τ).loc main_arg0)) ⟨t.val / 2, by have := t_lt t; omega⟩ ⟨t.val % 2 * 1024 + s.val, by omega⟩ ⟨2 * (j.val / 64 % 2) + j.val / 128, by omega⟩ ⟨j.val % 64, by omega⟩) (gx (m ((c : Thread nD τ).loc main_arg2))) (fun s : Fin 1024 => fun k : Fin 32 => Real.cos (ang ⟨t.val % 2 * 1024 + s.val, by omega⟩ k)) (fun s : Fin 1024 => fun k : Fin 32 => Real.sin (ang ⟨t.val % 2 * 1024 + s.val, by omega⟩ k)) fX fg fC fS (fun g s d => kr (m ((c : Thread nD τ).loc main_arg0)) (m ((c : Thread nD τ).loc main_arg1)) (m ((c : Thread nD τ).loc main_arg3)) (⟨t.val / 2, by have := t_lt t; omega⟩ : Fin 8) g s d) fT fO G x0 x1).trans
      (meet H t V fV 0 0 (by norm_num) (by norm_num) 0 rfl x0 x1 _ fG)
    exact e

set_option maxHeartbeats 400000 in
/-- One point's block of the output. -/
theorem point (y) :
    (outsAt0 m c t.val t.isLt).1 y = out (m ((c : Thread nD τ).loc main_arg0)) (m ((c : Thread nD τ).loc main_arg1)) (m ((c : Thread nD τ).loc main_arg2)) (m ((c : Thread nD τ).loc main_arg3)) (((cfg0.win 10).blk t).view.emb y) := by
  have ht := t_lt t
  obtain ⟨y0, y1, rfl⟩ : ∃ (y0 : Fin 1024) (y1 : Fin 256), y = ix2 y0 y1 := ⟨y 0, y 1, eq_ix2 y⟩
  have he : ((cfg0.win 10).blk t).view.emb (ix2 y0 y1 : S1024x256.Idx) = (ix2 (⟨t.val * 1024 + y0.val, by omega⟩ : Fin 16384) y1 : S16384x256.Idx) := by
    blk_ext [idx t]
  rw [he]
  by_cases hz : t.val % 2 = 0
  · exact point_A H t hz y0 y1
  · exact point_B H t hz y0 y1

omit t in
/-- What the launch leaves in its output array. -/
theorem final : (dats m 0 c).arrAt 10 (cfgs 0).N = out (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  exact point H t y

end Cert.GqaIdeal.Point

end
-- ==== Proof.ModVal.lean ====
/-
The modulation: the kernel leaves the reference's modulation of both layers.
-/
module

public import Idealize.ShloMosaic.Lib.Pipeline.ValueKit
public import Idealize.ShloMosaic.Lib.Pointwise
public import proofs.«01_k».proof.Proof.Gen.ModIdeal.Value
public import proofs.«01_k».proof.Proof.Gen.ModRefIdeal.Run

@[expose] public section

set_option maxRecDepth 16384

noncomputable section

open Idealize.ShloMosaic Idealize.ShloMosaic.TcCoe Idealize.SL.Sem
open Idealize.ShloMosaic.Pipeline (Dat)

namespace Cert.ModIdeal.Value2

open Cert.ModIdeal Cert.ModIdeal.Gen

/-- A row of the conditioning: the batch's, the context's, or zero. -/
def csRow (a0 : FVec Ideal S8x1024 .f32) (a1 : FVec Ideal S1024 .f32) (r : Fin 16) (k : Fin 1024) : EReal :=
  if h : r.val < 8 then a0 (ix2 (⟨r.val, h⟩ : Fin 8) k) else if r.val < 9 then a1 (ix1 k) else 0

/-- The modulation at a layer, a row and a column. -/
def modAt (a0 : FVec Ideal S8x1024 .f32) (a1 : FVec Ideal S1024 .f32) (a2 : FVec Ideal S2x1024x3072 .f32) (a3 : FVec Ideal S2x3072 .f32)
    (l : Fin 2) (r : Fin 16) (q : Fin 3072) : EReal :=
  (∑ k : Fin 1024, csRow a0 a1 r k * Ideal.logistic (csRow a0 a1 r k) * a2 (ix3 l k q)) + a3 (ix2 l q)

/-- The modulation as an array. -/
def modArr (a0 : FVec Ideal S8x1024 .f32) (a1 : FVec Ideal S1024 .f32) (a2 : FVec Ideal S2x1024x3072 .f32) (a3 : FVec Ideal S2x3072 .f32) :
    FVec Ideal S2x16x3072 .f32 := fun i => modAt a0 a1 a2 a3 (i 0) (i 1) (i 2)

variable (m : (ℓ : Loc nD τ sig) → Buf (Elt Ideal) ℓ)

theorem t_lt (t : Fin cfg0.N) : t.val < 6 := t.isLt

/-- Where each window's block lies at a grid point. -/
theorem idx : ∀ t : Fin cfg0.N, win0_0.index t = ![0, 0]
    ∧ win0_1.index t = ![t.val / 3, 0, t.val % 3]
    ∧ win0_2.index t = ![t.val / 3, 0, t.val % 3]
    ∧ win0_3.index t = ![t.val / 3, 0, t.val % 3] :=
  (by decide +kernel : ∀ t : Fin grid0.N, _)

theorem pay_at (x : Vec Ideal S16x1024 .f32) (w : Vec Ideal S1x1024x1024 .f32) (b : Vec Ideal S1x1x1024 .f32) (i : Fin 16) (j : Fin 1024) :
    k0_pay1 x w b (ix3 (0 : Fin 1) i j) = (∑ k : Fin 1024, x (ix2 i k) * Ideal.logistic (x (ix2 i k)) * w (ix3 (0 : Fin 1) k j)) + b (ix3 (0 : Fin 1) (0 : Fin 1) j) := by
  pointwise [k0_pay1]

/-- The sixteen rows of the conditioning, as the launch's host code lays them out. -/
def csArr (a0 : FVec Ideal S8x1024 .f32) (a1 : FVec Ideal S1024 .f32) : FVec Ideal S16x1024 .f32 :=
  concatenate S16x1024 0 [⟨S8x1024, (a0 : FVec Ideal S8x1024 .f32)⟩, ⟨S1x1024, (broadcastInDim S1x1024 ![1] bcast_S1024_S1x1024_1 a1 : FVec Ideal S1x1024 .f32)⟩, ⟨S7x1024, (broadcastInDim S7x1024 ![] bcast_S_S7x1024 (constant S_ .f32 0x00000000#32) : FVec Ideal S7x1024 .f32)⟩] concatenates_S8x1024_S1x1024_S7x1024_S16x1024_d0

theorem V2 (c : Dev nD) : V m c main_v2 = csArr (m ((c : Thread nD τ).loc main_arg0)) (m ((c : Thread nD τ).loc main_arg1)) := rfl

theorem in_x (c : Dev nD) (t : Fin cfg0.N) (i : Fin 16) (k : Fin 1024) :
    iblk m c 0 t (ix2 i k) = csRow (m ((c : Thread nD τ).loc main_arg0)) (m ((c : Thread nD τ).loc main_arg1)) i k := by
  have e : ((cfg0.win 0).blk t).view.emb (ix2 i k : S16x1024.Idx) = (ix2 i k : S16x1024.Idx) := by
    blk_ext [idx t]
  refine (congrArg (V m c main_v2) e).trans ((congrFun (V2 m c) _).trans ?_)
  unfold csRow csArr
  pointwise
  by_cases h8 : i.val < 8
  · rw [dif_pos h8, dif_pos h8]
  · rw [dif_neg h8, dif_neg h8]
    by_cases h9 : i.val < 9
    · rw [if_pos h9, dif_pos (by omega)]
    · rw [if_neg h9, dif_neg (by omega)]

theorem in_w (c : Dev nD) (t : Fin cfg0.N) (k j : Fin 1024) :
    iblk m c 1 t (ix3 (0 : Fin 1) k j) = m ((c : Thread nD τ).loc main_arg2) (ix3 (⟨t.val / 3, by have := t_lt t; omega⟩ : Fin 2) k (⟨t.val % 3 * 1024 + j.val, by omega⟩ : Fin 3072)) := by
  blk_point [iblk, V, idx t]

theorem in_b (c : Dev nD) (t : Fin cfg0.N) (j : Fin 1024) :
    iblk m c 2 t (ix3 (0 : Fin 1) (0 : Fin 1) j) = m ((c : Thread nD τ).loc main_arg3) (ix2 (⟨t.val / 3, by have := t_lt t; omega⟩ : Fin 2) (⟨t.val % 3 * 1024 + j.val, by omega⟩ : Fin 3072)) := by
  blk_point [iblk, V, idx t]

/-- One point's block of the output. -/
theorem point (c : Dev nD) (t : Fin cfg0.N) (y) :
    out0_3 (iblk m c 0 t) (iblk m c 1 t) (iblk m c 2 t) y
      = modArr (m ((c : Thread nD τ).loc main_arg0)) (m ((c : Thread nD τ).loc main_arg1)) (m ((c : Thread nD τ).loc
        main_arg2)) (m ((c : Thread nD τ).loc main_arg3)) (((cfg0.win 3).blk t).view.emb y) := by
  have ht := t_lt t
  obtain ⟨y0, y1, y2, rfl⟩ : ∃ (y0 : Fin 1) (y1 : Fin 16) (y2 : Fin 1024), y = ix3 y0 y1 y2 := ⟨y 0, y 1, y 2, eq_ix3 y⟩
  obtain rfl : y0 = 0 := Subsingleton.elim _ _
  have he : ((cfg0.win 3).blk t).view.emb (ix3 (0 : Fin 1) y1 y2 : S1x16x1024.Idx) = (ix3 (⟨t.val / 3, by omega⟩ : Fin 2) y1 (⟨t.val % 3 * 1024 + y2.val, by omega⟩ : Fin 3072) : S2x16x3072.Idx) := by
    blk_ext [idx t]
  rw [he]
  canon_tiles x h
  obtain ⟨x0, x1, x2, rfl⟩ : ∃ (x0 : Fin 1) (x1 : Fin 16) (x2 : Fin 1024), x = ix3 x0 x1 x2 := ⟨x 0, x 1, x 2, eq_ix3 x⟩
  obtain rfl : x0 = 0 := Subsingleton.elim _ _
  obtain rfl : y1 = x1 := Fin.ext h1
  obtain rfl : y2 = x2 := Fin.ext h2
  refine (pay_at _ _ _ y1 y2).trans ?_
  have l0 : ∀ k : Fin 1024, View.ld (iblk m c 0 t) r0_0 (ix2 y1 k) = iblk m c 0 t (ix2 y1 k) := fun k => by
    refine View.ld_unit_apply_of _ _ _ _ _ _ fun a => ?_
    match a with
    | ⟨0, _⟩ => exact (Nat.zero_add _).symm
    | ⟨1, _⟩ => exact (Nat.zero_add _).symm
  have l1 : ∀ k : Fin 1024, View.ld (iblk m c 1 t) r0_1 (ix3 (0 : Fin 1) k y2) = iblk m c 1 t (ix3 (0 : Fin 1) k y2) := fun k => by
    refine View.ld_unit_apply_of _ _ _ _ _ _ fun a => ?_
    match a with
    | ⟨0, _⟩ => exact (Nat.zero_add _).symm
    | ⟨1, _⟩ => exact (Nat.zero_add _).symm
    | ⟨2, _⟩ => exact (Nat.zero_add _).symm
  have l2 : View.ld (iblk m c 2 t) r0_2 (ix3 (0 : Fin 1) (0 : Fin 1) y2) = iblk m c 2 t (ix3 (0 : Fin 1) (0 : Fin 1) y2) := by
    refine View.ld_unit_apply_of _ _ _ _ _ _ fun a => ?_
    match a with
    | ⟨0, _⟩ => exact (Nat.zero_add _).symm
    | ⟨1, _⟩ => exact (Nat.zero_add _).symm
    | ⟨2, _⟩ => exact (Nat.zero_add _).symm
  rw [l2, in_b]
  refine congrArg (· + _) (Finset.sum_congr rfl fun k _ => ?_)
  rw [l0, l1, in_x, in_w]
  exact rfl

theorem final (c : Dev nD) : (dats m 0 c).arrAt 3 (cfgs 0).N = modArr (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp; rw [after0_3]
  exact point m c t y

end Cert.ModIdeal.Value2

namespace Cert.ModRefIdeal.Parts

open Cert.ModRefIdeal Cert.ModRefIdeal.Gen
open Cert.ModIdeal.Value2 (modArr modAt csRow)

theorem res_at (m : (ℓ : Loc nD τ sig) → Buf (Elt Ideal) ℓ) (c : Dev nD) (l : Fin 2) (r : Fin 16) (q : Fin 3072) :
    Value.res_main_v42 m c (ix3 l r q) = modAt (m ((c.tc : Thread nD τ).loc main_arg0)) (m ((c.tc : Thread nD τ).loc main_arg1)) (m ((c.tc : Thread nD τ).loc main_arg2)) (m ((c.tc : Thread nD τ).loc main_arg3)) l r q := by
  unfold modAt csRow
  pointwise [Value.res_main_v42]
  have hl : l = 0 ∨ l = 1 := by
    rcases l with ⟨l, h⟩
    interval_cases l
    · exact Or.inl rfl
    · exact Or.inr rfl
  rcases hl with rfl | rfl
  · rw [dif_pos (show ((0 : Fin 2) : ℕ) < 1 by decide)]
    by_cases h8 : r.val < 8
    · simp only [h8, ↓reduceDIte]; rfl
    · by_cases h9 : r.val < 9
      · have h10 : r.val - 8 < 1 := by omega
        simp only [h8, h9, h10, ↓reduceDIte, ↓reduceIte]; rfl
      · have h10 : ¬ r.val - 8 < 1 := by omega
        simp only [h8, h9, h10, ↓reduceDIte, ↓reduceIte, zero_mul, Finset.sum_const_zero, zero_add]
  · rw [dif_neg (show ¬ ((1 : Fin 2) : ℕ) < 1 by decide)]
    by_cases h8 : r.val < 8
    · simp only [h8, ↓reduceDIte]; rfl
    · by_cases h9 : r.val < 9
      · have h10 : r.val - 8 < 1 := by omega
        simp only [h8, h9, h10, ↓reduceDIte, ↓reduceIte]; rfl
      · have h10 : ¬ r.val - 8 < 1 := by omega
        simp only [h8, h9, h10, ↓reduceDIte, ↓reduceIte, zero_mul, Finset.sum_const_zero, zero_add]

theorem res_eq (m : (ℓ : Loc nD τ sig) → Buf (Elt Ideal) ℓ) (c : Dev nD) :
    Value.res_main_v42 m c = modArr (m ((c.tc : Thread nD τ).loc main_arg0)) (m ((c.tc : Thread nD τ).loc main_arg1)) (m ((c.tc : Thread nD τ).loc main_arg2)) (m ((c.tc : Thread nD τ).loc main_arg3)) := by
  funext i
  obtain ⟨l, r, q, rfl⟩ : ∃ (l : Fin 2) (r : Fin 16) (q : Fin 3072), i = ix3 l r q := ⟨i 0, i 1, i 2, eq_ix3 i⟩
  exact res_at m c l r q

end Cert.ModRefIdeal.Parts

end
-- ==== Proof.InRef.lean ====
/-
The input projection's reference, its result written over named parts.
-/
module

public import Idealize.ShloMosaic.Lib.Pipeline.ValueKit
public import Idealize.ShloMosaic.Lib.Pointwise
public import proofs.«01_k».proof.Proof.Gen.InProjRefIdeal
public import proofs.«01_k».proof.Proof.Gen.InProjRefIdeal.Run

@[expose] public section

set_option maxRecDepth 16384

noncomputable section

open Idealize.ShloMosaic Idealize.ShloMosaic.TcCoe Idealize.SL.Sem

namespace Cert.InProjRefIdeal.Parts

open Cert.InProjRefIdeal Cert.InProjRefIdeal.Gen

/-- The normalised and modulated stream, as the reference computes it. -/
def uRef (arg0 : FVec Ideal S8x2048x1024 .f32) (arg1 : FVec Ideal S16x3072 .f32) (arg2 : FVec Ideal S1024 .f32) : FVec Ideal S8x2048x1024 .f32 :=
  addf (mulf (mulf (mulf arg0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf arg0 arg0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 arg2))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x3072 ![0, 2] bcast_S8x3072_S8x1x3072_0_2 (extractStridedSlice S8x3072 ![0, 0] arg1 slices_S16x3072_S8x3072_0_0)) slices_S8x1x3072_S8x1x1024_0_0_1024)))) (broadcastInDim S8x2048x1024 ![0, 1, 2] bcast_S8x1x1024_S8x2048x1024_0_1_2 (extractStridedSlice S8x1x1024 ![0, 0, 0] (broadcastInDim S8x1x3072 ![0, 2] bcast_S8x3072_S8x1x3072_0_2 (extractStridedSlice S8x3072 ![0, 0] arg1 slices_S16x3072_S8x3072_0_0)) slices_S8x1x3072_S8x1x1024_0_0_0))

/-- The reference projection, its tokens in rows. -/
def pRef (arg0 : FVec Ideal S8x2048x1024 .f32) (arg1 : FVec Ideal S16x3072 .f32) (arg2 : FVec Ideal S1024 .f32) (arg3 : FVec Ideal S1024x3344 .f32) : FVec Ideal S16384x3344 .f32 :=
  shapeCast _ (Host.dotGeneral dot_S8x2048x1024_S1024x3344_S8x2048x3344_2_0_01_1_n_n none (uRef arg0 arg1 arg2) arg3) shapeCasts_S8x2048x3344_S16384x3344

/-- The columns of a projection in the order of the packed stream. -/
def packOf (p : FVec Ideal S16384x3344 .f32) : FVec Ideal S16384x3584 .f32 :=
  concatenate S16384x3584 1 [⟨S16384x3328, ((concatenate S16384x3328 1 [⟨S16384x1024, ((extractStridedSlice S16384x1024 ![0, 0] p slices_S16384x3344_S16384x1024_0_0) : FVec Ideal S16384x1024 .f32)⟩, ⟨S16384x512, ((extractStridedSlice S16384x512 ![0, 1024] p slices_S16384x3344_S16384x512_0_1024) : FVec Ideal S16384x512 .f32)⟩, ⟨S16384x64, ((extractStridedSlice S16384x64 ![0, 0] (extractStridedSlice S16384x256 ![0, 1552] p slices_S16384x3344_S16384x256_0_1552) slices_S16384x256_S16384x64_0_0) : FVec Ideal S16384x64 .f32)⟩, ⟨S16384x64, ((extractStridedSlice S16384x64 ![0, 128] (extractStridedSlice S16384x256 ![0, 1552] p slices_S16384x3344_S16384x256_0_1552) slices_S16384x256_S16384x64_0_128) : FVec Ideal S16384x64 .f32)⟩, ⟨S16384x64, ((extractStridedSlice S16384x64 ![0, 64] (extractStridedSlice S16384x256 ![0, 1552] p slices_S16384x3344_S16384x256_0_1552) slices_S16384x256_S16384x64_0_64) : FVec Ideal S16384x64 .f32)⟩, ⟨S16384x64, ((extractStridedSlice S16384x64 ![0, 192] (extractStridedSlice S16384x256 ![0, 1552] p slices_S16384x3344_S16384x256_0_1552) slices_S16384x256_S16384x64_0_192) : FVec Ideal S16384x64 .f32)⟩, ⟨S16384x128, ((extractStridedSlice S16384x128 ![0, 1808] p slices_S16384x3344_S16384x128_0_1808) : FVec Ideal S16384x128 .f32)⟩, ⟨S16384x128, ((extractStridedSlice S16384x128 ![0, 1936] p slices_S16384x3344_S16384x128_0_1936) : FVec Ideal S16384x128 .f32)⟩, ⟨S16384x64, ((extractStridedSlice S16384x64 ![0, 0] (extractStridedSlice S16384x256 ![0, 2064] p slices_S16384x3344_S16384x256_0_2064) slices_S16384x256_S16384x64_0_0) : FVec Ideal S16384x64 .f32)⟩, ⟨S16384x64, ((extractStridedSlice S16384x64 ![0, 128] (extractStridedSlice S16384x256 ![0, 2064] p slices_S16384x3344_S16384x256_0_2064) slices_S16384x256_S16384x64_0_128) : FVec Ideal S16384x64 .f32)⟩, ⟨S16384x64, ((extractStridedSlice S16384x64 ![0, 64] (extractStridedSlice S16384x256 ![0, 2064] p slices_S16384x3344_S16384x256_0_2064) slices_S16384x256_S16384x64_0_64) : FVec Ideal S16384x64 .f32)⟩, ⟨S16384x64, ((extractStridedSlice S16384x64 ![0, 192] (extractStridedSlice S16384x256 ![0, 2064] p slices_S16384x3344_S16384x256_0_2064) slices_S16384x256_S16384x64_0_192) : FVec Ideal S16384x64 .f32)⟩, ⟨S16384x256, ((extractStridedSlice S16384x256 ![0, 2320] p slices_S16384x3344_S16384x256_0_2320) : FVec Ideal S16384x256 .f32)⟩, ⟨S16384x256, ((extractStridedSlice S16384x256 ![0, 2576] p slices_S16384x3344_S16384x256_0_2576) : FVec Ideal S16384x256 .f32)⟩, ⟨S16384x256, ((extractStridedSlice S16384x256 ![0, 2832] p slices_S16384x3344_S16384x256_0_2832) : FVec Ideal S16384x256 .f32)⟩, ⟨S16384x256, ((extractStridedSlice S16384x256 ![0, 3088] p slices_S16384x3344_S16384x256_0_3088) : FVec Ideal S16384x256 .f32)⟩] concatenates_S16384x1024_S16384x512_S16384x64_S16384x64_S16384x64_S16384x64_S16384x128_S16384x128_S16384x64_S16384x64_S16384x64_S16384x64_S16384x256_S16384x256_S16384x256_S16384x256_S16384x3328_d1 : FVec Ideal S16384x3328 .f32))⟩, ⟨S16384x256, ((concatenate S16384x256 1 [⟨S16384x4, ((extractStridedSlice S16384x4 ![0, 0] (extractStridedSlice S16384x16 ![0, 1536] p slices_S16384x3344_S16384x16_0_1536) slices_S16384x16_S16384x4_0_0) : FVec Ideal S16384x4 .f32)⟩, ⟨S16384x4, ((broadcastInDim S16384x4 ![] bcast_S_S16384x4 (constant S_ .f32 0x00000000#32)) : FVec Ideal S16384x4 .f32)⟩, ⟨S16384x4, ((extractStridedSlice S16384x4 ![0, 8] (extractStridedSlice S16384x16 ![0, 1536] p slices_S16384x3344_S16384x16_0_1536) slices_S16384x16_S16384x4_0_8) : FVec Ideal S16384x4 .f32)⟩, ⟨S16384x116, ((broadcastInDim S16384x116 ![] bcast_S_S16384x116 (constant S_ .f32 0x00000000#32)) : FVec Ideal S16384x116 .f32)⟩, ⟨S16384x4, ((extractStridedSlice S16384x4 ![0, 4] (extractStridedSlice S16384x16 ![0, 1536] p slices_S16384x3344_S16384x16_0_1536) slices_S16384x16_S16384x4_0_4) : FVec Ideal S16384x4 .f32)⟩, ⟨S16384x4, ((broadcastInDim S16384x4 ![] bcast_S_S16384x4 (constant S_ .f32 0x00000000#32)) : FVec Ideal S16384x4 .f32)⟩, ⟨S16384x4, ((extractStridedSlice S16384x4 ![0, 12] (extractStridedSlice S16384x16 ![0, 1536] p slices_S16384x3344_S16384x16_0_1536) slices_S16384x16_S16384x4_0_12) : FVec Ideal S16384x4 .f32)⟩, ⟨S16384x116, ((broadcastInDim S16384x116 ![] bcast_S_S16384x116 (constant S_ .f32 0x00000000#32)) : FVec Ideal S16384x116 .f32)⟩] concatenates_S16384x4_S16384x4_S16384x4_S16384x116_S16384x4_S16384x4_S16384x4_S16384x116_S16384x256_d1 : FVec Ideal S16384x256 .f32))⟩] concatenates_S16384x3328_S16384x256_S16384x3584_d1

/-- The whole packed result of the reference. -/
def packRef (arg0 : FVec Ideal S8x2048x1024 .f32) (arg1 : FVec Ideal S16x3072 .f32) (arg2 : FVec Ideal S1024 .f32) (arg3 : FVec Ideal S1024x3344 .f32) : FVec Ideal S16384x3584 .f32 :=
  packOf (pRef arg0 arg1 arg2 arg3)

/-- What the reference's run leaves, over the named parts. -/
theorem res_eq (m : (ℓ : Loc nD τ sig) → Buf (Elt Ideal) ℓ) (c : Dev nD) :
    Value.res_out0 m c = packRef (m ((c.tc : Thread nD τ).loc main_arg0)) (m ((c.tc : Thread nD τ).loc main_arg1)) (m ((c.tc : Thread nD τ).loc main_arg2)) (m ((c.tc : Thread nD τ).loc main_arg3)) := rfl

end Cert.InProjRefIdeal.Parts

end
-- ==== Proof.InCols.lean ====
/-
The packed order of the projected columns, on both sides.
-/
module

public import Idealize.ShloMosaic.Lib.Pipeline.ValueKit
public import Idealize.ShloMosaic.Lib.Pointwise
public import proofs.«01_k».proof.Proof.Gen.InProjIdeal
public import proofs.«01_k».proof.Proof.Gen.InProjIdeal.Frame
public import proofs.«01_k».proof.Proof.InRef

@[expose] public section

set_option maxRecDepth 16384

noncomputable section

open Idealize.ShloMosaic Idealize.ShloMosaic.TcCoe Idealize.SL.Sem
open Idealize.ShloMosaic.Pipeline (Dat)

namespace Cert.InProjIdeal.Cols

open Cert.InProjIdeal Cert.InProjIdeal.Gen
open Cert.InProjRefIdeal.Parts (packOf)

/-- A value of the kernel side before the launch. -/
def h_v0 (a3 : FVec Ideal S1024x3344 .f32) : FVec Ideal S1024x1536 .f32 :=
  extractStridedSlice S1024x1536 ![0, 0] a3 slices_S1024x3344_S1024x1536_0_0

/-- A value of the kernel side before the launch. -/
def h_v1 (a3 : FVec Ideal S1024x3344 .f32) : FVec Ideal S1024x64 .f32 :=
  extractStridedSlice S1024x64 ![0, 1552] a3 slices_S1024x3344_S1024x64_0_1552

/-- A value of the kernel side before the launch. -/
def h_v2 (a3 : FVec Ideal S1024x3344 .f32) : FVec Ideal S1024x64 .f32 :=
  extractStridedSlice S1024x64 ![0, 1680] a3 slices_S1024x3344_S1024x64_0_1680

/-- A value of the kernel side before the launch. -/
def h_v3 (a3 : FVec Ideal S1024x3344 .f32) : FVec Ideal S1024x64 .f32 :=
  extractStridedSlice S1024x64 ![0, 1616] a3 slices_S1024x3344_S1024x64_0_1616

/-- A value of the kernel side before the launch. -/
def h_v4 (a3 : FVec Ideal S1024x3344 .f32) : FVec Ideal S1024x384 .f32 :=
  extractStridedSlice S1024x384 ![0, 1744] a3 slices_S1024x3344_S1024x384_0_1744

/-- A value of the kernel side before the launch. -/
def h_v5 (a3 : FVec Ideal S1024x3344 .f32) : FVec Ideal S1024x64 .f32 :=
  extractStridedSlice S1024x64 ![0, 2192] a3 slices_S1024x3344_S1024x64_0_2192

/-- A value of the kernel side before the launch. -/
def h_v6 (a3 : FVec Ideal S1024x3344 .f32) : FVec Ideal S1024x64 .f32 :=
  extractStridedSlice S1024x64 ![0, 2128] a3 slices_S1024x3344_S1024x64_0_2128

/-- A value of the kernel side before the launch. -/
def h_v7 (a3 : FVec Ideal S1024x3344 .f32) : FVec Ideal S1024x1088 .f32 :=
  extractStridedSlice S1024x1088 ![0, 2256] a3 slices_S1024x3344_S1024x1088_0_2256

/-- A value of the kernel side before the launch. -/
def h_v8 (a3 : FVec Ideal S1024x3344 .f32) : FVec Ideal S1024x4 .f32 :=
  extractStridedSlice S1024x4 ![0, 1536] a3 slices_S1024x3344_S1024x4_0_1536

/-- A value of the kernel side before the launch. -/
def h_cst  : FVec Ideal S_ .f32 :=
  (constant S_ .f32 0x00000000#32)

/-- A value of the kernel side before the launch. -/
def h_v9  : FVec Ideal S1024x4 .f32 :=
  broadcastInDim S1024x4 ![] bcast_S_S1024x4 h_cst

/-- A value of the kernel side before the launch. -/
def h_v10 (a3 : FVec Ideal S1024x3344 .f32) : FVec Ideal S1024x4 .f32 :=
  extractStridedSlice S1024x4 ![0, 1544] a3 slices_S1024x3344_S1024x4_0_1544

/-- A value of the kernel side before the launch. -/
def h_cst_0  : FVec Ideal S_ .f32 :=
  (constant S_ .f32 0x00000000#32)

/-- A value of the kernel side before the launch. -/
def h_v11  : FVec Ideal S1024x116 .f32 :=
  broadcastInDim S1024x116 ![] bcast_S_S1024x116 h_cst_0

/-- A value of the kernel side before the launch. -/
def h_v12 (a3 : FVec Ideal S1024x3344 .f32) : FVec Ideal S1024x4 .f32 :=
  extractStridedSlice S1024x4 ![0, 1540] a3 slices_S1024x3344_S1024x4_0_1540

/-- A value of the kernel side before the launch. -/
def h_cst_1  : FVec Ideal S_ .f32 :=
  (constant S_ .f32 0x00000000#32)

/-- A value of the kernel side before the launch. -/
def h_v13  : FVec Ideal S1024x4 .f32 :=
  broadcastInDim S1024x4 ![] bcast_S_S1024x4 h_cst_1

/-- A value of the kernel side before the launch. -/
def h_v14 (a3 : FVec Ideal S1024x3344 .f32) : FVec Ideal S1024x4 .f32 :=
  extractStridedSlice S1024x4 ![0, 1548] a3 slices_S1024x3344_S1024x4_0_1548

/-- A value of the kernel side before the launch. -/
def h_cst_2  : FVec Ideal S_ .f32 :=
  (constant S_ .f32 0x00000000#32)

/-- A value of the kernel side before the launch. -/
def h_v15  : FVec Ideal S1024x116 .f32 :=
  broadcastInDim S1024x116 ![] bcast_S_S1024x116 h_cst_2

/-- A value of the kernel side before the launch. -/
def h_v16 (a3 : FVec Ideal S1024x3344 .f32) : FVec Ideal S1024x3584 .f32 :=
  concatenate S1024x3584 1 [⟨S1024x1536, ((h_v0 a3) : FVec Ideal S1024x1536 .f32)⟩, ⟨S1024x64, ((h_v1 a3) : FVec Ideal S1024x64 .f32)⟩, ⟨S1024x64, ((h_v2 a3) : FVec Ideal S1024x64 .f32)⟩, ⟨S1024x64, ((h_v3 a3) : FVec Ideal S1024x64 .f32)⟩, ⟨S1024x384, ((h_v4 a3) : FVec Ideal S1024x384 .f32)⟩, ⟨S1024x64, ((h_v5 a3) : FVec Ideal S1024x64 .f32)⟩, ⟨S1024x64, ((h_v6 a3) : FVec Ideal S1024x64 .f32)⟩, ⟨S1024x1088, ((h_v7 a3) : FVec Ideal S1024x1088 .f32)⟩, ⟨S1024x4, ((h_v8 a3) : FVec Ideal S1024x4 .f32)⟩, ⟨S1024x4, (h_v9 : FVec Ideal S1024x4 .f32)⟩, ⟨S1024x4, ((h_v10 a3) : FVec Ideal S1024x4 .f32)⟩, ⟨S1024x116, (h_v11 : FVec Ideal S1024x116 .f32)⟩, ⟨S1024x4, ((h_v12 a3) : FVec Ideal S1024x4 .f32)⟩, ⟨S1024x4, (h_v13 : FVec Ideal S1024x4 .f32)⟩, ⟨S1024x4, ((h_v14 a3) : FVec Ideal S1024x4 .f32)⟩, ⟨S1024x116, (h_v15 : FVec Ideal S1024x116 .f32)⟩] concatenates_S1024x1536_S1024x64_S1024x64_S1024x64_S1024x384_S1024x64_S1024x64_S1024x1088_S1024x4_S1024x4_S1024x4_S1024x116_S1024x4_S1024x4_S1024x4_S1024x116_S1024x3584_d1

/-- A value of the kernel side before the launch. -/
def h_v17 (a3 : FVec Ideal S1024x3344 .f32) : FVec Ideal S1024x3584 .bf16 :=
  truncf .bf16 (h_v16 a3) bitsLt_bf16_f32

/-- The cast of the packed weight leaves it as it is. -/
theorem v17_16 (a3 : FVec Ideal S1024x3344 .f32) (k : Fin 1024) (j : Fin 3584) : h_v17 a3 (ix2 k j) = h_v16 a3 (ix2 k j) := rfl

/-- A stack of columns read in one of its pieces. -/
theorem cat_cols {α : Type} {R C w : ℕ} (xs : List ((s : Shape) × (s.Idx → α)))
    (h : Shape.Concatenates (xs.map (·.1)) (⟨2, ![R, C]⟩ : Shape) 1) (r : Fin R) (j : Fin C)
    (ss : List Shape) (hss : xs.map (·.1) = ss) (k : ℕ) (hk : k < ss.length) (pre : ℕ)
    (hpre : ((ss.take k).map fun s => if h : s.rank = 2 then s.size ((1 : Fin 2).cast h.symm) else 0).sum = pre)
    (x₁ : (⟨2, ![R, w]⟩ : Shape).Idx → α) (hxk : xs[k]'(by rw [← hss] at hk; simpa using hk) = ⟨⟨2, ![R, w]⟩, x₁⟩)
    (j' : Fin w) (hj : pre + j'.val = j.val) :
    concatenate (⟨2, ![R, C]⟩ : Shape) 1 xs h (ix2 r j) = x₁ (ix2 r j') := by
  refine concatenate_apply_piece 1 xs h (ix2 r j) k (by rw [← hss] at hk; simpa using hk) _ x₁ hxk rfl pre (by rw [List.map_take, hss]; exact hpre) (ix2 r j') ?_ ?_
  · intro b hb
    match b, hb with
    | ⟨0, _⟩, _ => rfl
    | ⟨1, _⟩, hb => exact absurd rfl hb
  · exact hj

/-- The source column of a packed column; 3344 where the packed stream has none. -/
def src (j : ℕ) : ℕ :=
  if j < 1024 then 0 + (j - 0) else
  if j < 1536 then 1024 + (j - 1024) else
  if j < 1600 then 1552 + (j - 1536) else
  if j < 1664 then 1680 + (j - 1600) else
  if j < 1728 then 1616 + (j - 1664) else
  if j < 1792 then 1744 + (j - 1728) else
  if j < 1920 then 1808 + (j - 1792) else
  if j < 2048 then 1936 + (j - 1920) else
  if j < 2112 then 2064 + (j - 2048) else
  if j < 2176 then 2192 + (j - 2112) else
  if j < 2240 then 2128 + (j - 2176) else
  if j < 2304 then 2256 + (j - 2240) else
  if j < 2560 then 2320 + (j - 2304) else
  if j < 2816 then 2576 + (j - 2560) else
  if j < 3072 then 2832 + (j - 2816) else
  if j < 3328 then 3088 + (j - 3072) else
  if j < 3332 then 1536 + (j - 3328) else
  if j < 3336 then 3344 else
  if j < 3340 then 1544 + (j - 3336) else
  if j < 3456 then 3344 else
  if j < 3460 then 1540 + (j - 3456) else
  if j < 3464 then 3344 else
  if j < 3468 then 1548 + (j - 3464) else
  3344

/-- A row spread over the packed columns: each column its source's, zero where there is none. -/
def spread (f : Fin 3344 → EReal) (j : Fin 3584) : EReal :=
  if h : src j.val < 3344 then f ⟨src j.val, h⟩ else 0

/-- Products summed against a spread row are the spread of the sums. -/
theorem sum_spread (u : Fin 1024 → EReal) (w : Fin 1024 → Fin 3344 → EReal) (j : Fin 3584) :
    ∑ k, u k * spread (w k) j = spread (fun q => ∑ k, u k * w k q) j := by
  unfold spread
  split_ifs
  · rfl
  · simp

/-- A spread row where the source is known. -/
theorem spread_at (f : Fin 3344 → EReal) (j : Fin 3584) (s : ℕ) (hs : s < 3344) (h : src j.val = s) :
    spread f j = f ⟨s, hs⟩ := by
  subst h
  exact dif_pos hs

/-- A spread row where there is no source. -/
theorem spread_none (f : Fin 3344 → EReal) (j : Fin 3584) (h : src j.val = 3344) : spread f j = 0 :=
  dif_neg (by omega)

theorem src_0 (j : ℕ) (h0 : 0 ≤ j) (h1 : j < 1024) : src j = 0 + (j - 0) := by
  unfold src
  rw [if_pos (by omega)]

theorem src_1 (j : ℕ) (h0 : 1024 ≤ j) (h1 : j < 1536) : src j = 1024 + (j - 1024) := by
  unfold src
  rw [if_neg (by omega), if_pos (by omega)]

theorem src_2 (j : ℕ) (h0 : 1536 ≤ j) (h1 : j < 1600) : src j = 1552 + (j - 1536) := by
  unfold src
  rw [if_neg (by omega), if_neg (by omega), if_pos (by omega)]

theorem src_3 (j : ℕ) (h0 : 1600 ≤ j) (h1 : j < 1664) : src j = 1680 + (j - 1600) := by
  unfold src
  rw [if_neg (by omega), if_neg (by omega), if_neg (by omega), if_pos (by omega)]

theorem src_4 (j : ℕ) (h0 : 1664 ≤ j) (h1 : j < 1728) : src j = 1616 + (j - 1664) := by
  unfold src
  rw [if_neg (by omega), if_neg (by omega), if_neg (by omega), if_neg (by omega), if_pos (by omega)]

theorem src_5 (j : ℕ) (h0 : 1728 ≤ j) (h1 : j < 1792) : src j = 1744 + (j - 1728) := by
  unfold src
  rw [if_neg (by omega), if_neg (by omega), if_neg (by omega), if_neg (by omega), if_neg (by omega), if_pos (by omega)]

theorem src_6 (j : ℕ) (h0 : 1792 ≤ j) (h1 : j < 1920) : src j = 1808 + (j - 1792) := by
  unfold src
  rw [if_neg (by omega), if_neg (by omega), if_neg (by omega), if_neg (by omega), if_neg (by omega), if_neg (by omega), if_pos (by omega)]

theorem src_7 (j : ℕ) (h0 : 1920 ≤ j) (h1 : j < 2048) : src j = 1936 + (j - 1920) := by
  unfold src
  rw [if_neg (by omega), if_neg (by omega), if_neg (by omega), if_neg (by omega), if_neg (by omega), if_neg (by omega), if_neg (by omega), if_pos (by omega)]

theorem src_8 (j : ℕ) (h0 : 2048 ≤ j) (h1 : j < 2112) : src j = 2064 + (j - 2048) := by
  unfold src
  rw [if_neg (by omega), if_neg (by omega), if_neg (by omega), if_neg (by omega), if_neg (by omega), if_neg (by omega), if_neg (by omega), if_neg (by omega), if_pos (by omega)]

theorem src_9 (j : ℕ) (h0 : 2112 ≤ j) (h1 : j < 2176) : src j = 2192 + (j - 2112) := by
  unfold src
  rw [if_neg (by omega), if_neg (by omega), if_neg (by omega), if_neg (by omega), if_neg (by omega), if_neg (by omega), if_neg (by omega), if_neg (by omega), if_neg (by omega), if_pos (by omega)]

theorem src_10 (j : ℕ) (h0 : 2176 ≤ j) (h1 : j < 2240) : src j = 2128 + (j - 2176) := by
  unfold src
  rw [if_neg (by omega), if_neg (by omega), if_neg (by omega), if_neg (by omega), if_neg (by omega), if_neg (by omega), if_neg (by omega), if_neg (by omega), if_neg (by omega), if_neg (by omega), if_pos (by omega)]

theorem src_11 (j : ℕ) (h0 : 2240 ≤ j) (h1 : j < 2304) : src j = 2256 + (j - 2240) := by
  unfold src
  rw [if_neg (by omega), if_neg (by omega), if_neg (by omega), if_neg (by omega), if_neg (by omega), if_neg (by omega), if_neg (by omega), if_neg (by omega), if_neg (by omega), if_neg (by omega), if_neg (by omega), if_pos (by omega)]

theorem src_12 (j : ℕ) (h0 : 2304 ≤ j) (h1 : j < 2560) : src j = 2320 + (j - 2304) := by
  unfold src
  rw [if_neg (by omega), if_neg (by omega), if_neg (by omega), if_neg (by omega), if_neg (by omega), if_neg (by omega), if_neg (by omega), if_neg (by omega), if_neg (by omega), if_neg (by omega), if_neg (by omega), if_neg (by omega), if_pos (by omega)]

theorem src_13 (j : ℕ) (h0 : 2560 ≤ j) (h1 : j < 2816) : src j = 2576 + (j - 2560) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_14 (j : ℕ) (h0 : 2816 ≤ j) (h1 : j < 3072) : src j = 2832 + (j - 2816) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_15 (j : ℕ) (h0 : 3072 ≤ j) (h1 : j < 3328) : src j = 3088 + (j - 3072) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_16 (j : ℕ) (h0 : 3328 ≤ j) (h1 : j < 3332) : src j = 1536 + (j - 3328) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_17 (j : ℕ) (h0 : 3332 ≤ j) (h1 : j < 3336) : src j = 3344 := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_18 (j : ℕ) (h0 : 3336 ≤ j) (h1 : j < 3340) : src j = 1544 + (j - 3336) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_19 (j : ℕ) (h0 : 3340 ≤ j) (h1 : j < 3456) : src j = 3344 := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_20 (j : ℕ) (h0 : 3456 ≤ j) (h1 : j < 3460) : src j = 1540 + (j - 3456) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_21 (j : ℕ) (h0 : 3460 ≤ j) (h1 : j < 3464) : src j = 3344 := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_22 (j : ℕ) (h0 : 3464 ≤ j) (h1 : j < 3468) : src j = 1548 + (j - 3464) := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)]

theorem src_23 (j : ℕ) (h0 : 3468 ≤ j) (h1 : j < 3584) : src j = 3344 := by
  unfold src
  rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]

theorem w_0 (a3 : FVec Ideal S1024x3344 .f32) (k : Fin 1024) (j : Fin 3584) (h0 : 0 ≤ j.val) (h1 : j.val < 1024) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 0 (by decide) 0 (by decide) _ rfl (⟨j.val - 0, by omega⟩ : Fin 1536) (by show 0 + (j.val - 0) = j.val; omega)) ?_
  · rw [spread_at _ j _ (by omega) (src_0 j.val h0 h1)]; pointwise [h_v0]
    all_goals (first | rfl | (congr 2; apply Fin.ext; show _ = _; dsimp only; omega) | omega)

theorem w_1 (a3 : FVec Ideal S1024x3344 .f32) (k : Fin 1024) (j : Fin 3584) (h0 : 1024 ≤ j.val) (h1 : j.val < 1536) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 0 (by decide) 0 (by decide) _ rfl (⟨j.val - 0, by omega⟩ : Fin 1536) (by show 0 + (j.val - 0) = j.val; omega)) ?_
  · rw [spread_at _ j _ (by omega) (src_1 j.val h0 h1)]; pointwise [h_v0]
    all_goals (first | rfl | (congr 2; apply Fin.ext; show _ = _; dsimp only; omega) | omega)

theorem w_2 (a3 : FVec Ideal S1024x3344 .f32) (k : Fin 1024) (j : Fin 3584) (h0 : 1536 ≤ j.val) (h1 : j.val < 1600) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 1 (by decide) 1536 (by decide) _ rfl (⟨j.val - 1536, by omega⟩ : Fin 64) (by show 1536 + (j.val - 1536) = j.val; omega)) ?_
  · rw [spread_at _ j _ (by omega) (src_2 j.val h0 h1)]; pointwise [h_v1]
    all_goals (first | rfl | (congr 2; apply Fin.ext; show _ = _; dsimp only; omega) | omega)

theorem w_3 (a3 : FVec Ideal S1024x3344 .f32) (k : Fin 1024) (j : Fin 3584) (h0 : 1600 ≤ j.val) (h1 : j.val < 1664) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 2 (by decide) 1600 (by decide) _ rfl (⟨j.val - 1600, by omega⟩ : Fin 64) (by show 1600 + (j.val - 1600) = j.val; omega)) ?_
  · rw [spread_at _ j _ (by omega) (src_3 j.val h0 h1)]; pointwise [h_v2]
    all_goals (first | rfl | (congr 2; apply Fin.ext; show _ = _; dsimp only; omega) | omega)

theorem w_4 (a3 : FVec Ideal S1024x3344 .f32) (k : Fin 1024) (j : Fin 3584) (h0 : 1664 ≤ j.val) (h1 : j.val < 1728) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 3 (by decide) 1664 (by decide) _ rfl (⟨j.val - 1664, by omega⟩ : Fin 64) (by show 1664 + (j.val - 1664) = j.val; omega)) ?_
  · rw [spread_at _ j _ (by omega) (src_4 j.val h0 h1)]; pointwise [h_v3]
    all_goals (first | rfl | (congr 2; apply Fin.ext; show _ = _; dsimp only; omega) | omega)

theorem w_5 (a3 : FVec Ideal S1024x3344 .f32) (k : Fin 1024) (j : Fin 3584) (h0 : 1728 ≤ j.val) (h1 : j.val < 1792) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 4 (by decide) 1728 (by decide) _ rfl (⟨j.val - 1728, by omega⟩ : Fin 384) (by show 1728 + (j.val - 1728) = j.val; omega)) ?_
  · rw [spread_at _ j _ (by omega) (src_5 j.val h0 h1)]; pointwise [h_v4]
    all_goals (first | rfl | (congr 2; apply Fin.ext; show _ = _; dsimp only; omega) | omega)

theorem w_6 (a3 : FVec Ideal S1024x3344 .f32) (k : Fin 1024) (j : Fin 3584) (h0 : 1792 ≤ j.val) (h1 : j.val < 1920) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 4 (by decide) 1728 (by decide) _ rfl (⟨j.val - 1728, by omega⟩ : Fin 384) (by show 1728 + (j.val - 1728) = j.val; omega)) ?_
  · rw [spread_at _ j _ (by omega) (src_6 j.val h0 h1)]; pointwise [h_v4]
    all_goals (first | rfl | (congr 2; apply Fin.ext; show _ = _; dsimp only; omega) | omega)

theorem w_7 (a3 : FVec Ideal S1024x3344 .f32) (k : Fin 1024) (j : Fin 3584) (h0 : 1920 ≤ j.val) (h1 : j.val < 2048) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 4 (by decide) 1728 (by decide) _ rfl (⟨j.val - 1728, by omega⟩ : Fin 384) (by show 1728 + (j.val - 1728) = j.val; omega)) ?_
  · rw [spread_at _ j _ (by omega) (src_7 j.val h0 h1)]; pointwise [h_v4]
    all_goals (first | rfl | (congr 2; apply Fin.ext; show _ = _; dsimp only; omega) | omega)

theorem w_8 (a3 : FVec Ideal S1024x3344 .f32) (k : Fin 1024) (j : Fin 3584) (h0 : 2048 ≤ j.val) (h1 : j.val < 2112) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 4 (by decide) 1728 (by decide) _ rfl (⟨j.val - 1728, by omega⟩ : Fin 384) (by show 1728 + (j.val - 1728) = j.val; omega)) ?_
  · rw [spread_at _ j _ (by omega) (src_8 j.val h0 h1)]; pointwise [h_v4]
    all_goals (first | rfl | (congr 2; apply Fin.ext; show _ = _; dsimp only; omega) | omega)

theorem w_9 (a3 : FVec Ideal S1024x3344 .f32) (k : Fin 1024) (j : Fin 3584) (h0 : 2112 ≤ j.val) (h1 : j.val < 2176) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 5 (by decide) 2112 (by decide) _ rfl (⟨j.val - 2112, by omega⟩ : Fin 64) (by show 2112 + (j.val - 2112) = j.val; omega)) ?_
  · rw [spread_at _ j _ (by omega) (src_9 j.val h0 h1)]; pointwise [h_v5]
    all_goals (first | rfl | (congr 2; apply Fin.ext; show _ = _; dsimp only; omega) | omega)

theorem w_10 (a3 : FVec Ideal S1024x3344 .f32) (k : Fin 1024) (j : Fin 3584) (h0 : 2176 ≤ j.val) (h1 : j.val < 2240) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 6 (by decide) 2176 (by decide) _ rfl (⟨j.val - 2176, by omega⟩ : Fin 64) (by show 2176 + (j.val - 2176) = j.val; omega)) ?_
  · rw [spread_at _ j _ (by omega) (src_10 j.val h0 h1)]; pointwise [h_v6]
    all_goals (first | rfl | (congr 2; apply Fin.ext; show _ = _; dsimp only; omega) | omega)

theorem w_11 (a3 : FVec Ideal S1024x3344 .f32) (k : Fin 1024) (j : Fin 3584) (h0 : 2240 ≤ j.val) (h1 : j.val < 2304) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 7 (by decide) 2240 (by decide) _ rfl (⟨j.val - 2240, by omega⟩ : Fin 1088) (by show 2240 + (j.val - 2240) = j.val; omega)) ?_
  · rw [spread_at _ j _ (by omega) (src_11 j.val h0 h1)]; pointwise [h_v7]
    all_goals (first | rfl | (congr 2; apply Fin.ext; show _ = _; dsimp only; omega) | omega)

theorem w_12 (a3 : FVec Ideal S1024x3344 .f32) (k : Fin 1024) (j : Fin 3584) (h0 : 2304 ≤ j.val) (h1 : j.val < 2560) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 7 (by decide) 2240 (by decide) _ rfl (⟨j.val - 2240, by omega⟩ : Fin 1088) (by show 2240 + (j.val - 2240) = j.val; omega)) ?_
  · rw [spread_at _ j _ (by omega) (src_12 j.val h0 h1)]; pointwise [h_v7]
    all_goals (first | rfl | (congr 2; apply Fin.ext; show _ = _; dsimp only; omega) | omega)

theorem w_13 (a3 : FVec Ideal S1024x3344 .f32) (k : Fin 1024) (j : Fin 3584) (h0 : 2560 ≤ j.val) (h1 : j.val < 2816) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 7 (by decide) 2240 (by decide) _ rfl (⟨j.val - 2240, by omega⟩ : Fin 1088) (by show 2240 + (j.val - 2240) = j.val; omega)) ?_
  · rw [spread_at _ j _ (by omega) (src_13 j.val h0 h1)]; pointwise [h_v7]
    all_goals (first | rfl | (congr 2; apply Fin.ext; show _ = _; dsimp only; omega) | omega)

theorem w_14 (a3 : FVec Ideal S1024x3344 .f32) (k : Fin 1024) (j : Fin 3584) (h0 : 2816 ≤ j.val) (h1 : j.val < 3072) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 7 (by decide) 2240 (by decide) _ rfl (⟨j.val - 2240, by omega⟩ : Fin 1088) (by show 2240 + (j.val - 2240) = j.val; omega)) ?_
  · rw [spread_at _ j _ (by omega) (src_14 j.val h0 h1)]; pointwise [h_v7]
    all_goals (first | rfl | (congr 2; apply Fin.ext; show _ = _; dsimp only; omega) | omega)

theorem w_15 (a3 : FVec Ideal S1024x3344 .f32) (k : Fin 1024) (j : Fin 3584) (h0 : 3072 ≤ j.val) (h1 : j.val < 3328) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 7 (by decide) 2240 (by decide) _ rfl (⟨j.val - 2240, by omega⟩ : Fin 1088) (by show 2240 + (j.val - 2240) = j.val; omega)) ?_
  · rw [spread_at _ j _ (by omega) (src_15 j.val h0 h1)]; pointwise [h_v7]
    all_goals (first | rfl | (congr 2; apply Fin.ext; show _ = _; dsimp only; omega) | omega)

theorem w_16 (a3 : FVec Ideal S1024x3344 .f32) (k : Fin 1024) (j : Fin 3584) (h0 : 3328 ≤ j.val) (h1 : j.val < 3332) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 8 (by decide) 3328 (by decide) _ rfl (⟨j.val - 3328, by omega⟩ : Fin 4) (by show 3328 + (j.val - 3328) = j.val; omega)) ?_
  · rw [spread_at _ j _ (by omega) (src_16 j.val h0 h1)]; pointwise [h_v8]
    all_goals (first | rfl | (congr 2; apply Fin.ext; show _ = _; dsimp only; omega) | omega)

theorem w_17 (a3 : FVec Ideal S1024x3344 .f32) (k : Fin 1024) (j : Fin 3584) (h0 : 3332 ≤ j.val) (h1 : j.val < 3336) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 9 (by decide) 3332 (by decide) _ rfl (⟨j.val - 3332, by omega⟩ : Fin 4) (by show 3332 + (j.val - 3332) = j.val; omega)) ?_
  · rw [spread_none _ j (src_17 j.val h0 h1)]; pointwise [h_v9, h_cst, h_cst_0, h_cst_1, h_cst_2]

theorem w_18 (a3 : FVec Ideal S1024x3344 .f32) (k : Fin 1024) (j : Fin 3584) (h0 : 3336 ≤ j.val) (h1 : j.val < 3340) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 10 (by decide) 3336 (by decide) _ rfl (⟨j.val - 3336, by omega⟩ : Fin 4) (by show 3336 + (j.val - 3336) = j.val; omega)) ?_
  · rw [spread_at _ j _ (by omega) (src_18 j.val h0 h1)]; pointwise [h_v10]
    all_goals (first | rfl | (congr 2; apply Fin.ext; show _ = _; dsimp only; omega) | omega)

theorem w_19 (a3 : FVec Ideal S1024x3344 .f32) (k : Fin 1024) (j : Fin 3584) (h0 : 3340 ≤ j.val) (h1 : j.val < 3456) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 11 (by decide) 3340 (by decide) _ rfl (⟨j.val - 3340, by omega⟩ : Fin 116) (by show 3340 + (j.val - 3340) = j.val; omega)) ?_
  · rw [spread_none _ j (src_19 j.val h0 h1)]; pointwise [h_v11, h_cst, h_cst_0, h_cst_1, h_cst_2]

theorem w_20 (a3 : FVec Ideal S1024x3344 .f32) (k : Fin 1024) (j : Fin 3584) (h0 : 3456 ≤ j.val) (h1 : j.val < 3460) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 12 (by decide) 3456 (by decide) _ rfl (⟨j.val - 3456, by omega⟩ : Fin 4) (by show 3456 + (j.val - 3456) = j.val; omega)) ?_
  · rw [spread_at _ j _ (by omega) (src_20 j.val h0 h1)]; pointwise [h_v12]
    all_goals (first | rfl | (congr 2; apply Fin.ext; show _ = _; dsimp only; omega) | omega)

theorem w_21 (a3 : FVec Ideal S1024x3344 .f32) (k : Fin 1024) (j : Fin 3584) (h0 : 3460 ≤ j.val) (h1 : j.val < 3464) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 13 (by decide) 3460 (by decide) _ rfl (⟨j.val - 3460, by omega⟩ : Fin 4) (by show 3460 + (j.val - 3460) = j.val; omega)) ?_
  · rw [spread_none _ j (src_21 j.val h0 h1)]; pointwise [h_v13, h_cst, h_cst_0, h_cst_1, h_cst_2]

theorem w_22 (a3 : FVec Ideal S1024x3344 .f32) (k : Fin 1024) (j : Fin 3584) (h0 : 3464 ≤ j.val) (h1 : j.val < 3468) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 14 (by decide) 3464 (by decide) _ rfl (⟨j.val - 3464, by omega⟩ : Fin 4) (by show 3464 + (j.val - 3464) = j.val; omega)) ?_
  · rw [spread_at _ j _ (by omega) (src_22 j.val h0 h1)]; pointwise [h_v14]
    all_goals (first | rfl | (congr 2; apply Fin.ext; show _ = _; dsimp only; omega) | omega)

theorem w_23 (a3 : FVec Ideal S1024x3344 .f32) (k : Fin 1024) (j : Fin 3584) (h0 : 3468 ≤ j.val) (h1 : j.val < 3584) :
    h_v17 a3 (ix2 k j) = spread (fun q => a3 (ix2 k q)) j := by
  rw [v17_16]
  unfold h_v16
  refine Eq.trans (cat_cols _ _ k j [S1024x1536, S1024x64, S1024x64, S1024x64, S1024x384, S1024x64, S1024x64, S1024x1088, S1024x4, S1024x4, S1024x4, S1024x116, S1024x4, S1024x4, S1024x4, S1024x116] rfl 15 (by decide) 3468 (by decide) _ rfl (⟨j.val - 3468, by omega⟩ : Fin 116) (by show 3468 + (j.val - 3468) = j.val; omega)) ?_
  · rw [spread_none _ j (src_23 j.val h0 h1)]; pointwise [h_v15, h_cst, h_cst_0, h_cst_1, h_cst_2]

theorem p_0 (p : FVec Ideal Cert.InProjRefIdeal.S16384x3344 .f32) (r : Fin 16384) (j : Fin 3584) (h0 : 0 ≤ j.val) (h1 : j.val < 1024) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 0 (by decide) 0 (by decide) _ rfl (⟨j.val - 0, by omega⟩ : Fin 1024) (by show 0 + (j.val - 0) = j.val - 0; omega)) ?_
  · rw [spread_at _ j _ (by omega) (src_0 j.val h0 h1)]; pointwise
    all_goals (first | rfl | (congr 2; apply Fin.ext; show _ = _; dsimp only; omega) | omega)

theorem p_1 (p : FVec Ideal Cert.InProjRefIdeal.S16384x3344 .f32) (r : Fin 16384) (j : Fin 3584) (h0 : 1024 ≤ j.val) (h1 : j.val < 1536) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 1 (by decide) 1024 (by decide) _ rfl (⟨j.val - 1024, by omega⟩ : Fin 512) (by show 1024 + (j.val - 1024) = j.val - 0; omega)) ?_
  · rw [spread_at _ j _ (by omega) (src_1 j.val h0 h1)]; pointwise
    all_goals (first | rfl | (congr 2; apply Fin.ext; show _ = _; dsimp only; omega) | omega)

theorem p_2 (p : FVec Ideal Cert.InProjRefIdeal.S16384x3344 .f32) (r : Fin 16384) (j : Fin 3584) (h0 : 1536 ≤ j.val) (h1 : j.val < 1600) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 2 (by decide) 1536 (by decide) _ rfl (⟨j.val - 1536, by omega⟩ : Fin 64) (by show 1536 + (j.val - 1536) = j.val - 0; omega)) ?_
  · rw [spread_at _ j _ (by omega) (src_2 j.val h0 h1)]; pointwise
    all_goals (first | rfl | (congr 2; apply Fin.ext; show _ = _; dsimp only; omega) | omega)

theorem p_3 (p : FVec Ideal Cert.InProjRefIdeal.S16384x3344 .f32) (r : Fin 16384) (j : Fin 3584) (h0 : 1600 ≤ j.val) (h1 : j.val < 1664) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 3 (by decide) 1600 (by decide) _ rfl (⟨j.val - 1600, by omega⟩ : Fin 64) (by show 1600 + (j.val - 1600) = j.val - 0; omega)) ?_
  · rw [spread_at _ j _ (by omega) (src_3 j.val h0 h1)]; pointwise
    all_goals (first | rfl | (congr 2; apply Fin.ext; show _ = _; dsimp only; omega) | omega)

theorem p_4 (p : FVec Ideal Cert.InProjRefIdeal.S16384x3344 .f32) (r : Fin 16384) (j : Fin 3584) (h0 : 1664 ≤ j.val) (h1 : j.val < 1728) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 4 (by decide) 1664 (by decide) _ rfl (⟨j.val - 1664, by omega⟩ : Fin 64) (by show 1664 + (j.val - 1664) = j.val - 0; omega)) ?_
  · rw [spread_at _ j _ (by omega) (src_4 j.val h0 h1)]; pointwise
    all_goals (first | rfl | (congr 2; apply Fin.ext; show _ = _; dsimp only; omega) | omega)

theorem p_5 (p : FVec Ideal Cert.InProjRefIdeal.S16384x3344 .f32) (r : Fin 16384) (j : Fin 3584) (h0 : 1728 ≤ j.val) (h1 : j.val < 1792) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 5 (by decide) 1728 (by decide) _ rfl (⟨j.val - 1728, by omega⟩ : Fin 64) (by show 1728 + (j.val - 1728) = j.val - 0; omega)) ?_
  · rw [spread_at _ j _ (by omega) (src_5 j.val h0 h1)]; pointwise
    all_goals (first | rfl | (congr 2; apply Fin.ext; show _ = _; dsimp only; omega) | omega)

theorem p_6 (p : FVec Ideal Cert.InProjRefIdeal.S16384x3344 .f32) (r : Fin 16384) (j : Fin 3584) (h0 : 1792 ≤ j.val) (h1 : j.val < 1920) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 6 (by decide) 1792 (by decide) _ rfl (⟨j.val - 1792, by omega⟩ : Fin 128) (by show 1792 + (j.val - 1792) = j.val - 0; omega)) ?_
  · rw [spread_at _ j _ (by omega) (src_6 j.val h0 h1)]; pointwise
    all_goals (first | rfl | (congr 2; apply Fin.ext; show _ = _; dsimp only; omega) | omega)

theorem p_7 (p : FVec Ideal Cert.InProjRefIdeal.S16384x3344 .f32) (r : Fin 16384) (j : Fin 3584) (h0 : 1920 ≤ j.val) (h1 : j.val < 2048) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 7 (by decide) 1920 (by decide) _ rfl (⟨j.val - 1920, by omega⟩ : Fin 128) (by show 1920 + (j.val - 1920) = j.val - 0; omega)) ?_
  · rw [spread_at _ j _ (by omega) (src_7 j.val h0 h1)]; pointwise
    all_goals (first | rfl | (congr 2; apply Fin.ext; show _ = _; dsimp only; omega) | omega)

theorem p_8 (p : FVec Ideal Cert.InProjRefIdeal.S16384x3344 .f32) (r : Fin 16384) (j : Fin 3584) (h0 : 2048 ≤ j.val) (h1 : j.val < 2112) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 8 (by decide) 2048 (by decide) _ rfl (⟨j.val - 2048, by omega⟩ : Fin 64) (by show 2048 + (j.val - 2048) = j.val - 0; omega)) ?_
  · rw [spread_at _ j _ (by omega) (src_8 j.val h0 h1)]; pointwise
    all_goals (first | rfl | (congr 2; apply Fin.ext; show _ = _; dsimp only; omega) | omega)

theorem p_9 (p : FVec Ideal Cert.InProjRefIdeal.S16384x3344 .f32) (r : Fin 16384) (j : Fin 3584) (h0 : 2112 ≤ j.val) (h1 : j.val < 2176) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 9 (by decide) 2112 (by decide) _ rfl (⟨j.val - 2112, by omega⟩ : Fin 64) (by show 2112 + (j.val - 2112) = j.val - 0; omega)) ?_
  · rw [spread_at _ j _ (by omega) (src_9 j.val h0 h1)]; pointwise
    all_goals (first | rfl | (congr 2; apply Fin.ext; show _ = _; dsimp only; omega) | omega)

theorem p_10 (p : FVec Ideal Cert.InProjRefIdeal.S16384x3344 .f32) (r : Fin 16384) (j : Fin 3584) (h0 : 2176 ≤ j.val) (h1 : j.val < 2240) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 10 (by decide) 2176 (by decide) _ rfl (⟨j.val - 2176, by omega⟩ : Fin 64) (by show 2176 + (j.val - 2176) = j.val - 0; omega)) ?_
  · rw [spread_at _ j _ (by omega) (src_10 j.val h0 h1)]; pointwise
    all_goals (first | rfl | (congr 2; apply Fin.ext; show _ = _; dsimp only; omega) | omega)

theorem p_11 (p : FVec Ideal Cert.InProjRefIdeal.S16384x3344 .f32) (r : Fin 16384) (j : Fin 3584) (h0 : 2240 ≤ j.val) (h1 : j.val < 2304) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 11 (by decide) 2240 (by decide) _ rfl (⟨j.val - 2240, by omega⟩ : Fin 64) (by show 2240 + (j.val - 2240) = j.val - 0; omega)) ?_
  · rw [spread_at _ j _ (by omega) (src_11 j.val h0 h1)]; pointwise
    all_goals (first | rfl | (congr 2; apply Fin.ext; show _ = _; dsimp only; omega) | omega)

theorem p_12 (p : FVec Ideal Cert.InProjRefIdeal.S16384x3344 .f32) (r : Fin 16384) (j : Fin 3584) (h0 : 2304 ≤ j.val) (h1 : j.val < 2560) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 12 (by decide) 2304 (by decide) _ rfl (⟨j.val - 2304, by omega⟩ : Fin 256) (by show 2304 + (j.val - 2304) = j.val - 0; omega)) ?_
  · rw [spread_at _ j _ (by omega) (src_12 j.val h0 h1)]; pointwise
    all_goals (first | rfl | (congr 2; apply Fin.ext; show _ = _; dsimp only; omega) | omega)

theorem p_13 (p : FVec Ideal Cert.InProjRefIdeal.S16384x3344 .f32) (r : Fin 16384) (j : Fin 3584) (h0 : 2560 ≤ j.val) (h1 : j.val < 2816) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 13 (by decide) 2560 (by decide) _ rfl (⟨j.val - 2560, by omega⟩ : Fin 256) (by show 2560 + (j.val - 2560) = j.val - 0; omega)) ?_
  · rw [spread_at _ j _ (by omega) (src_13 j.val h0 h1)]; pointwise
    all_goals (first | rfl | (congr 2; apply Fin.ext; show _ = _; dsimp only; omega) | omega)

theorem p_14 (p : FVec Ideal Cert.InProjRefIdeal.S16384x3344 .f32) (r : Fin 16384) (j : Fin 3584) (h0 : 2816 ≤ j.val) (h1 : j.val < 3072) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 14 (by decide) 2816 (by decide) _ rfl (⟨j.val - 2816, by omega⟩ : Fin 256) (by show 2816 + (j.val - 2816) = j.val - 0; omega)) ?_
  · rw [spread_at _ j _ (by omega) (src_14 j.val h0 h1)]; pointwise
    all_goals (first | rfl | (congr 2; apply Fin.ext; show _ = _; dsimp only; omega) | omega)

theorem p_15 (p : FVec Ideal Cert.InProjRefIdeal.S16384x3344 .f32) (r : Fin 16384) (j : Fin 3584) (h0 : 3072 ≤ j.val) (h1 : j.val < 3328) :
    packOf p (ix2 r j) = spread (fun q => p (ix2 r q)) j := by
  unfold packOf
  refine Eq.trans (cat_cols _ _ r j [Cert.InProjRefIdeal.S16384x3328, Cert.InProjRefIdeal.S16384x256] rfl 0 (by decide) 0 (by decide) _ rfl (⟨j.val - 0, by omega⟩ : Fin 3328) (by show 0 + (j.val - 0) = j.val; omega)) ?_
  refine Eq.trans (cat_cols _ _ r (⟨j.val - 0, by omega⟩ : Fin 3328) [Cert.InProjRefIdeal.S16384x1024, Cert.InProjRefIdeal.S16384x512, Cert.InProjRefIdeal.S16384x64, Cert.InProjRefIdeal.S16384x64, Cert.InProjRefIdeal.S16384x64, Cert.InProjRefIdeal.S16384x64, Cert.InProjRefIdeal.S16384x128, Cert.InProjRefIdeal.S16384x128, Cert.InProjRefIdeal.S16384x64, Cert.InProjRefIdeal.S16384x64, Cert.InProjRefIdeal.S16384x64, Cert.InProjRefIdeal.S16384x64, Cert.InProjRefIdeal.S16384x256, Cert.InProjRefIdeal.S16384x256, Cert.InProjRefIdeal.S16384x256, Cert.InProjRefIdeal.S16384x256] rfl 15 (by decide) 3072 (by decide) _ rfl (⟨j.val - 3072, by omega⟩ : Fin 256) (by show 3072 + (j.val - 3072) = j.val - 0; omega)) ?_
  · rw [spread_at _ j _ (by omega) (src_15 j.val h0 h1)]; pointwise
    all_goals (first | rfl | (congr 2; apply Fin.ext; show _ = _; dsimp only; omega) | omega)

theorem p_16 (p : FVec Ideal Cert.InProjRefIdeal.S16384x3344 .f32) (r : Fin 16384) (j : Fin 3584) (h0 : 3328 ≤ j.val) (h1 : j.val < 3332) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 0 (by decide) 0 (by decide) _ rfl (⟨j.val - 3328, by omega⟩ : Fin 4) (by show 0 + (j.val - 3328) = j.val - 3328; omega)) ?_
  · rw [spread_at _ j _ (by omega) (src_16 j.val h0 h1)]; pointwise
    all_goals (first | rfl | (congr 2; apply Fin.ext; show _ = _; dsimp only; omega) | omega)

theorem p_17 (p : FVec Ideal Cert.InProjRefIdeal.S16384x3344 .f32) (r : Fin 16384) (j : Fin 3584) (h0 : 3332 ≤ j.val) (h1 : j.val < 3336) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 1 (by decide) 4 (by decide) _ rfl (⟨j.val - 3332, by omega⟩ : Fin 4) (by show 4 + (j.val - 3332) = j.val - 3328; omega)) ?_
  · rw [spread_none _ j (src_17 j.val h0 h1)]; pointwise

theorem p_18 (p : FVec Ideal Cert.InProjRefIdeal.S16384x3344 .f32) (r : Fin 16384) (j : Fin 3584) (h0 : 3336 ≤ j.val) (h1 : j.val < 3340) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 2 (by decide) 8 (by decide) _ rfl (⟨j.val - 3336, by omega⟩ : Fin 4) (by show 8 + (j.val - 3336) = j.val - 3328; omega)) ?_
  · rw [spread_at _ j _ (by omega) (src_18 j.val h0 h1)]; pointwise
    all_goals (first | rfl | (congr 2; apply Fin.ext; show _ = _; dsimp only; omega) | omega)

theorem p_19 (p : FVec Ideal Cert.InProjRefIdeal.S16384x3344 .f32) (r : Fin 16384) (j : Fin 3584) (h0 : 3340 ≤ j.val) (h1 : j.val < 3456) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 3 (by decide) 12 (by decide) _ rfl (⟨j.val - 3340, by omega⟩ : Fin 116) (by show 12 + (j.val - 3340) = j.val - 3328; omega)) ?_
  · rw [spread_none _ j (src_19 j.val h0 h1)]; pointwise

theorem p_20 (p : FVec Ideal Cert.InProjRefIdeal.S16384x3344 .f32) (r : Fin 16384) (j : Fin 3584) (h0 : 3456 ≤ j.val) (h1 : j.val < 3460) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 4 (by decide) 128 (by decide) _ rfl (⟨j.val - 3456, by omega⟩ : Fin 4) (by show 128 + (j.val - 3456) = j.val - 3328; omega)) ?_
  · rw [spread_at _ j _ (by omega) (src_20 j.val h0 h1)]; pointwise
    all_goals (first | rfl | (congr 2; apply Fin.ext; show _ = _; dsimp only; omega) | omega)

theorem p_21 (p : FVec Ideal Cert.InProjRefIdeal.S16384x3344 .f32) (r : Fin 16384) (j : Fin 3584) (h0 : 3460 ≤ j.val) (h1 : j.val < 3464) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 5 (by decide) 132 (by decide) _ rfl (⟨j.val - 3460, by omega⟩ : Fin 4) (by show 132 + (j.val - 3460) = j.val - 3328; omega)) ?_
  · rw [spread_none _ j (src_21 j.val h0 h1)]; pointwise

theorem p_22 (p : FVec Ideal Cert.InProjRefIdeal.S16384x3344 .f32) (r : Fin 16384) (j : Fin 3584) (h0 : 3464 ≤ j.val) (h1 : j.val < 3468) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 6 (by decide) 136 (by decide) _ rfl (⟨j.val - 3464, by omega⟩ : Fin 4) (by show 136 + (j.val - 3464) = j.val - 3328; omega)) ?_
  · rw [spread_at _ j _ (by omega) (src_22 j.val h0 h1)]; pointwise
    all_goals (first | rfl | (congr 2; apply Fin.ext; show _ = _; dsimp only; omega) | omega)

theorem p_23 (p : FVec Ideal Cert.InProjRefIdeal.S16384x3344 .f32) (r : Fin 16384) (j : Fin 3584) (h0 : 3468 ≤ j.val) (h1 : j.val < 3584) :
    packOf p (ix2 r j) = spread (fun q => p (ix2 r q)) j := by
  unfold packOf
  refine Eq.trans (cat_cols _ _ r j [Cert.InProjRefIdeal.S16384x3328, Cert.InProjRefIdeal.S16384x256] rfl 1 (by decide) 3328 (by decide) _ rfl (⟨j.val - 3328, by omega⟩ : Fin 256) (by show 3328 + (j.val - 3328) = j.val; omega)) ?_
  refine Eq.trans (cat_cols _ _ r (⟨j.val - 3328, by omega⟩ : Fin 256) [Cert.InProjRefIdeal.S16384x4, Cert.InProjRefIdeal.S16384x4, Cert.InProjRefIdeal.S16384x4, Cert.InProjRefIdeal.S16384x116, Cert.InProjRefIdeal.S16384x4, Cert.InProjRefIdeal.S16384x4, Cert.InProjRefIdeal.S16384x4, Cert.InProjRefIdeal.S16384x116] rfl 7 (by decide) 140 (by decide) _ rfl (⟨j.val - 3468, by omega⟩ : Fin 116) (by show 140 + (j.val - 3468) = j.val - 3328; omega)) ?_
  · rw [spread_none _ j (src_23 j.val h0 h1)]; pointwise

/-- The kernel's packed weight is the weight with its columns spread. -/
theorem wPack (a3 : FVec Ideal S1024x3344 .f32) (k : Fin 1024) (j : Fin 3584) :
    h_v17 a3 (ix2 k j) = spread (fun q => a3 (ix2 k q)) j := by
  by_cases c0 : j.val < 1024
  · exact w_0 a3 k j (by omega) c0
  by_cases c1 : j.val < 1536
  · exact w_1 a3 k j (by omega) c1
  by_cases c2 : j.val < 1600
  · exact w_2 a3 k j (by omega) c2
  by_cases c3 : j.val < 1664
  · exact w_3 a3 k j (by omega) c3
  by_cases c4 : j.val < 1728
  · exact w_4 a3 k j (by omega) c4
  by_cases c5 : j.val < 1792
  · exact w_5 a3 k j (by omega) c5
  by_cases c6 : j.val < 1920
  · exact w_6 a3 k j (by omega) c6
  by_cases c7 : j.val < 2048
  · exact w_7 a3 k j (by omega) c7
  by_cases c8 : j.val < 2112
  · exact w_8 a3 k j (by omega) c8
  by_cases c9 : j.val < 2176
  · exact w_9 a3 k j (by omega) c9
  by_cases c10 : j.val < 2240
  · exact w_10 a3 k j (by omega) c10
  by_cases c11 : j.val < 2304
  · exact w_11 a3 k j (by omega) c11
  by_cases c12 : j.val < 2560
  · exact w_12 a3 k j (by omega) c12
  by_cases c13 : j.val < 2816
  · exact w_13 a3 k j (by omega) c13
  by_cases c14 : j.val < 3072
  · exact w_14 a3 k j (by omega) c14
  by_cases c15 : j.val < 3328
  · exact w_15 a3 k j (by omega) c15
  by_cases c16 : j.val < 3332
  · exact w_16 a3 k j (by omega) c16
  by_cases c17 : j.val < 3336
  · exact w_17 a3 k j (by omega) c17
  by_cases c18 : j.val < 3340
  · exact w_18 a3 k j (by omega) c18
  by_cases c19 : j.val < 3456
  · exact w_19 a3 k j (by omega) c19
  by_cases c20 : j.val < 3460
  · exact w_20 a3 k j (by omega) c20
  by_cases c21 : j.val < 3464
  · exact w_21 a3 k j (by omega) c21
  by_cases c22 : j.val < 3468
  · exact w_22 a3 k j (by omega) c22
  exact w_23 a3 k j (by omega) (by omega)

/-- The reference's packed columns are the projection's columns spread. -/
theorem packAt (p : FVec Ideal Cert.InProjRefIdeal.S16384x3344 .f32) (r : Fin 16384) (j : Fin 3584) :
    packOf p (ix2 r j) = spread (fun q => p (ix2 r q)) j := by
  by_cases c0 : j.val < 1024
  · exact p_0 p r j (by omega) c0
  by_cases c1 : j.val < 1536
  · exact p_1 p r j (by omega) c1
  by_cases c2 : j.val < 1600
  · exact p_2 p r j (by omega) c2
  by_cases c3 : j.val < 1664
  · exact p_3 p r j (by omega) c3
  by_cases c4 : j.val < 1728
  · exact p_4 p r j (by omega) c4
  by_cases c5 : j.val < 1792
  · exact p_5 p r j (by omega) c5
  by_cases c6 : j.val < 1920
  · exact p_6 p r j (by omega) c6
  by_cases c7 : j.val < 2048
  · exact p_7 p r j (by omega) c7
  by_cases c8 : j.val < 2112
  · exact p_8 p r j (by omega) c8
  by_cases c9 : j.val < 2176
  · exact p_9 p r j (by omega) c9
  by_cases c10 : j.val < 2240
  · exact p_10 p r j (by omega) c10
  by_cases c11 : j.val < 2304
  · exact p_11 p r j (by omega) c11
  by_cases c12 : j.val < 2560
  · exact p_12 p r j (by omega) c12
  by_cases c13 : j.val < 2816
  · exact p_13 p r j (by omega) c13
  by_cases c14 : j.val < 3072
  · exact p_14 p r j (by omega) c14
  by_cases c15 : j.val < 3328
  · exact p_15 p r j (by omega) c15
  by_cases c16 : j.val < 3332
  · exact p_16 p r j (by omega) c16
  by_cases c17 : j.val < 3336
  · exact p_17 p r j (by omega) c17
  by_cases c18 : j.val < 3340
  · exact p_18 p r j (by omega) c18
  by_cases c19 : j.val < 3456
  · exact p_19 p r j (by omega) c19
  by_cases c20 : j.val < 3460
  · exact p_20 p r j (by omega) c20
  by_cases c21 : j.val < 3464
  · exact p_21 p r j (by omega) c21
  by_cases c22 : j.val < 3468
  · exact p_22 p r j (by omega) c22
  exact p_23 p r j (by omega) (by omega)

end Cert.InProjIdeal.Cols

end
-- ==== Proof.InVal.lean ====
/-
The input projection: the kernel leaves the packed projection of the reference.
-/
module

public import Idealize.ShloMosaic.Lib.Pipeline.ValueKit
public import Idealize.ShloMosaic.Lib.Pointwise
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.InRef
public import proofs.«01_k».proof.Proof.InCols

@[expose] public section

set_option maxRecDepth 16384

noncomputable section

open Idealize.ShloMosaic Idealize.ShloMosaic.TcCoe Idealize.SL.Sem
open Idealize.ShloMosaic.Pipeline (Dat)

open Cert.InProjRefIdeal.Parts (uRef pRef packOf packRef)
open Cert.InProjIdeal.Cols

namespace Cert.InProjIdeal.Value2

open Cert.InProjIdeal Cert.InProjIdeal.Gen

variable (m : (ℓ : Loc nD τ sig) → Buf (Elt Ideal) ℓ)

/-- Where each window's block lies at a grid point. -/
theorem idx : ∀ t : Fin cfg0.N, win0_0.index t = ![t.val, 0]
    ∧ win0_1.index t = ![t.val / 4, 0, 0]
    ∧ win0_2.index t = ![0, 0]
    ∧ win0_3.index t = ![0, 0]
    ∧ win0_4.index t = ![t.val, 0] :=
  (by decide +kernel : ∀ t : Fin grid0.N, _)

/-- The weight as the launch finds it. -/
theorem V17 (c : Dev nD) : V m c main_v17 = h_v17 (m ((c : Thread nD τ).loc main_arg3)) := rfl

theorem t_lt (t : Fin cfg0.N) : t.val < 32 := t.isLt

/-- The kernel's normalised and modulated rows are the reference's. -/
theorem uKernel (c : Dev nD) (t : Fin cfg0.N) (i : Fin 512) (k : Fin 1024) :
    k0_pay9 (iblk m c 0 t) (iblk m c 1 t) (iblk m c 2 t) (iblk m c 3 t) (ix2 i k)
      = uRef (m ((c : Thread nD τ).loc main_arg0)) (m ((c : Thread nD τ).loc main_arg1)) (m ((c : Thread nD τ).loc main_arg2))
        (ix3 (⟨(t.val * 512 + i.val) / 2048, by have := t_lt t; omega⟩ : Fin 8) (⟨(t.val * 512 + i.val) % 2048, by omega⟩ : Fin 2048) k) := by
  unfold k0_pay9 k0_pay6
  pointwise [uRef]
  blk_point [iblk, V, idx t]

/-- The reference's projection at a row and a column. -/
theorem pRef_at (a0 : FVec Ideal Cert.InProjRefIdeal.S8x2048x1024 .f32) (a1 : FVec Ideal Cert.InProjRefIdeal.S16x3072 .f32)
    (a2 : FVec Ideal Cert.InProjRefIdeal.S1024 .f32) (a3 : FVec Ideal Cert.InProjRefIdeal.S1024x3344 .f32) (r : Fin 16384) (q : Fin 3344) :
    pRef a0 a1 a2 a3 (ix2 r q)
      = ∑ k : Fin 1024, uRef a0 a1 a2 (ix3 (⟨r.val / 2048, by omega⟩ : Fin 8) (⟨r.val % 2048, by omega⟩ : Fin 2048) k) * a3 (ix2 k q) := by
  pointwise [pRef]

/-- The reference's packed result at a row and a column. -/
theorem packRef_at (a0 : FVec Ideal Cert.InProjRefIdeal.S8x2048x1024 .f32) (a1 : FVec Ideal Cert.InProjRefIdeal.S16x3072 .f32)
    (a2 : FVec Ideal Cert.InProjRefIdeal.S1024 .f32) (a3 : FVec Ideal Cert.InProjRefIdeal.S1024x3344 .f32) (r : Fin 16384) (j : Fin 3584) :
    packRef a0 a1 a2 a3 (ix2 r j)
      = ∑ k : Fin 1024, uRef a0 a1 a2 (ix3 (⟨r.val / 2048, by omega⟩ : Fin 8) (⟨r.val % 2048, by omega⟩ : Fin 2048) k) * h_v17 a3 (ix2 k j) := by
  unfold packRef
  rw [packAt]
  simp only [pRef_at, wPack]
  rw [sum_spread]

end Cert.InProjIdeal.Value2

end
-- ==== Proof.InPoint.lean ====
/-
The input projection: one point of the launch, and the whole result.
-/
module

public import Idealize.ShloMosaic.Lib.Pipeline.ValueKit
public import Idealize.ShloMosaic.Lib.Pointwise
public import proofs.«01_k».proof.Proof.InVal

@[expose] public section

set_option maxRecDepth 16384

noncomputable section

open Idealize.ShloMosaic Idealize.ShloMosaic.TcCoe Idealize.SL.Sem
open Idealize.ShloMosaic.Pipeline (Dat)

open Cert.InProjRefIdeal.Parts (uRef pRef packOf packRef)
open Cert.InProjIdeal.Cols

namespace Cert.InProjIdeal.Value2

open Cert.InProjIdeal Cert.InProjIdeal.Gen

variable (m : (ℓ : Loc nD τ sig) → Buf (Elt Ideal) ℓ)

theorem pay1_at (u : FVec Ideal S512x1024 .bf16) (w : Vec Ideal S1024x512 .bf16) (i : Fin 512) (x : Fin 512) :
    k0_pay1 u w (ix2 i x) = ∑ k : Fin 1024, u (ix2 i k) * w (ix2 k x) := by
  pointwise [k0_pay1]

theorem pay2_at (u : FVec Ideal S512x1024 .bf16) (w : Vec Ideal S1024x512 .bf16) (i : Fin 512) (x : Fin 512) :
    k0_pay2 u w (ix2 i x) = ∑ k : Fin 1024, u (ix2 i k) * w (ix2 k x) := by
  pointwise [k0_pay2]

theorem pay3_at (u : FVec Ideal S512x1024 .bf16) (w : Vec Ideal S1024x512 .bf16) (i : Fin 512) (x : Fin 512) :
    k0_pay3 u w (ix2 i x) = ∑ k : Fin 1024, u (ix2 i k) * w (ix2 k x) := by
  pointwise [k0_pay3]

theorem pay4_at (u : FVec Ideal S512x1024 .bf16) (w : Vec Ideal S1024x512 .bf16) (i : Fin 512) (x : Fin 512) :
    k0_pay4 u w (ix2 i x) = ∑ k : Fin 1024, u (ix2 i k) * w (ix2 k x) := by
  pointwise [k0_pay4]

theorem pay5_at (u : FVec Ideal S512x1024 .bf16) (w : Vec Ideal S1024x512 .bf16) (i : Fin 512) (x : Fin 512) :
    k0_pay5 u w (ix2 i x) = ∑ k : Fin 1024, u (ix2 i k) * w (ix2 k x) := by
  pointwise [k0_pay5]

theorem pay7_at (a : Vec Ideal S512x1024 .f32) (b : Vec Ideal S1x1024 .f32) (d e : Vec Ideal S1x1x1024 .f32) (w : Vec Ideal S1024x512 .bf16) (i : Fin 512) (x : Fin 512) :
    k0_pay7 a b d e w (ix2 i x) = ∑ k : Fin 1024, k0_pay6 a b d e (ix2 i k) * w (ix2 k x) := by
  unfold k0_pay7
  generalize k0_pay6 a b d e = u
  pointwise

theorem pay8_at (a : Vec Ideal S512x1024 .f32) (b : Vec Ideal S1x1024 .f32) (d e : Vec Ideal S1x1x1024 .f32) (w : Vec Ideal S1024x512 .bf16) (i : Fin 512) (x : Fin 512) :
    k0_pay8 a b d e w (ix2 i x) = ∑ k : Fin 1024, k0_pay6 a b d e (ix2 i k) * w (ix2 k x) := by
  unfold k0_pay8
  generalize k0_pay6 a b d e = u
  pointwise

theorem ld16 (X : Vec Ideal S1024x3584 .bf16) (k : Fin 1024) (x : Fin 512) :
    View.ld X r0_16 (ix2 k x) = X (ix2 k (⟨3072 + x.val, by omega⟩ : Fin 3584)) := by
  refine View.ld_unit_apply_of X _ _ _ _ _ fun a => ?_
  match a with
  | ⟨0, _⟩ => exact (Nat.zero_add _).symm
  | ⟨1, _⟩ => exact rfl

theorem ld14 (X : Vec Ideal S1024x3584 .bf16) (k : Fin 1024) (x : Fin 512) :
    View.ld X r0_14 (ix2 k x) = X (ix2 k (⟨2560 + x.val, by omega⟩ : Fin 3584)) := by
  refine View.ld_unit_apply_of X _ _ _ _ _ fun a => ?_
  match a with
  | ⟨0, _⟩ => exact (Nat.zero_add _).symm
  | ⟨1, _⟩ => exact rfl

theorem ld12 (X : Vec Ideal S1024x3584 .bf16) (k : Fin 1024) (x : Fin 512) :
    View.ld X r0_12 (ix2 k x) = X (ix2 k (⟨2048 + x.val, by omega⟩ : Fin 3584)) := by
  refine View.ld_unit_apply_of X _ _ _ _ _ fun a => ?_
  match a with
  | ⟨0, _⟩ => exact (Nat.zero_add _).symm
  | ⟨1, _⟩ => exact rfl

theorem ld10 (X : Vec Ideal S1024x3584 .bf16) (k : Fin 1024) (x : Fin 512) :
    View.ld X r0_10 (ix2 k x) = X (ix2 k (⟨1536 + x.val, by omega⟩ : Fin 3584)) := by
  refine View.ld_unit_apply_of X _ _ _ _ _ fun a => ?_
  match a with
  | ⟨0, _⟩ => exact (Nat.zero_add _).symm
  | ⟨1, _⟩ => exact rfl

theorem ld8 (X : Vec Ideal S1024x3584 .bf16) (k : Fin 1024) (x : Fin 512) :
    View.ld X r0_8 (ix2 k x) = X (ix2 k (⟨1024 + x.val, by omega⟩ : Fin 3584)) := by
  refine View.ld_unit_apply_of X _ _ _ _ _ fun a => ?_
  match a with
  | ⟨0, _⟩ => exact (Nat.zero_add _).symm
  | ⟨1, _⟩ => exact rfl

theorem ld6 (X : Vec Ideal S1024x3584 .bf16) (k : Fin 1024) (x : Fin 512) :
    View.ld X r0_6 (ix2 k x) = X (ix2 k (⟨512 + x.val, by omega⟩ : Fin 3584)) := by
  refine View.ld_unit_apply_of X _ _ _ _ _ fun a => ?_
  match a with
  | ⟨0, _⟩ => exact (Nat.zero_add _).symm
  | ⟨1, _⟩ => exact rfl

theorem ld4 (X : Vec Ideal S1024x3584 .bf16) (k : Fin 1024) (x : Fin 512) :
    View.ld X r0_4 (ix2 k x) = X (ix2 k (⟨x.val, by omega⟩ : Fin 3584)) := by
  refine View.ld_unit_apply_of X _ _ _ _ _ fun a => ?_
  match a with
  | ⟨0, _⟩ => exact (Nat.zero_add _).symm
  | ⟨1, _⟩ => exact (Nat.zero_add _).symm

/-- The weight's block is the whole weight. -/
theorem blk3 (c : Dev nD) (t : Fin cfg0.N) (k : Fin 1024) (j : Fin 3584) :
    iblk m c 3 t (ix2 k j) = V m c main_v17 (ix2 k j) := by
  have e : ((cfg0.win 3).blk t).view.emb (ix2 k j : S1024x3584.Idx) = (ix2 k j : S1024x3584.Idx) := by
    blk_ext [idx t]
  exact congrArg (V m c main_v17) e

set_option maxHeartbeats 1600000 in
/-- One point's block of the output. -/
theorem point (c : Dev nD) (t : Fin cfg0.N) (y) :
    out0_4 (iblk m c 0 t) (iblk m c 1 t) (iblk m c 2 t) (iblk m c 3 t) y
      = packRef (m ((c : Thread nD τ).loc main_arg0)) (m ((c : Thread nD τ).loc main_arg1)) (m ((c : Thread nD τ).loc
        main_arg2)) (m ((c : Thread nD τ).loc main_arg3)) (((cfg0.win 4).blk t).view.emb y) := by
  have ht := t_lt t
  obtain ⟨y0, y1, rfl⟩ : ∃ (y0 : Fin 512) (y1 : Fin 3584), y = ix2 y0 y1 := ⟨y 0, y 1, eq_ix2 y⟩
  have he : ((cfg0.win 4).blk t).view.emb (ix2 y0 y1 : S512x3584.Idx) = (ix2 (⟨t.val * 512 + y0.val, by omega⟩ : Fin 16384) y1 : S16384x3584.Idx) := by
    blk_ext [idx t]
  rw [he, packRef_at]
  canon_tiles x h
  · obtain ⟨x0, x1, rfl⟩ : ∃ (x0 x1 : Fin 512), x = ix2 x0 x1 := ⟨x 0, x 1, eq_ix2 x⟩
    obtain rfl : y0 = x0 := Fin.ext h0
    obtain rfl : y1 = (⟨3072 + x1.val, by have h := x1.isLt; clear * - h; omega⟩ : Fin 3584) := Fin.ext h1
    refine (pay5_at _ _ _ _).trans (Finset.sum_congr rfl fun k _ => congrArg₂ (· * ·) (uKernel m c t y0 k) ?_)
    exact (ld16 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨2560 + x1.val, by have h := x1.isLt; clear * - h; omega⟩ : Fin 3584) := Fin.ext h1
    refine (pay4_at _ _ _ _).trans (Finset.sum_congr rfl fun k _ => congrArg₂ (· * ·) (uKernel m c t y0 k) ?_)
    exact (ld14 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨2048 + x1.val, by have h := x1.isLt; clear * - h; omega⟩ : Fin 3584) := Fin.ext h1
    refine (pay3_at _ _ _ _).trans (Finset.sum_congr rfl fun k _ => congrArg₂ (· * ·) (uKernel m c t y0 k) ?_)
    exact (ld12 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨1536 + x1.val, by have h := x1.isLt; clear * - h; omega⟩ : Fin 3584) := Fin.ext h1
    refine (pay2_at _ _ _ _).trans (Finset.sum_congr rfl fun k _ => congrArg₂ (· * ·) (uKernel m c t y0 k) ?_)
    exact (ld10 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨1024 + x1.val, by have h := x1.isLt; clear * - h; omega⟩ : Fin 3584) := Fin.ext h1
    refine (pay1_at _ _ _ _).trans (Finset.sum_congr rfl fun k _ => congrArg₂ (· * ·) (uKernel m c t y0 k) ?_)
    exact (ld8 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨512 + x1.val, by have h := x1.isLt; clear * - h; omega⟩ : Fin 3584) := Fin.ext h1
    refine (pay8_at _ _ _ _ _ _ _).trans (Finset.sum_congr rfl fun k _ => congrArg₂ (· * ·) (uKernel m c t y0 k) ?_)
    exact (ld6 _ k x1).trans ((blk3 m c t k _).trans (congrFun (V17 m c) _))
  · obtain ⟨x0, x1, rfl⟩ : ∃ (x0 x1 : Fin 512), x = ix2 x0 x1 := ⟨x 0, x 1, eq_ix2 x⟩
    obtain rfl : y0 = x0 := Fin.ext h0
    obtain rfl : y1 = (⟨x1.val, by have h := x1.isLt; clear * - h; omega⟩ : Fin 3584) := Fin.ext h1
    refine (pay7_at _ _ _ _ _ _ _).trans (Finset.sum_congr rfl fun k _ => congrArg₂ (· * ·) (uKernel m c t y0 k) ?_)
    exact (ld4 _ k x1).trans ((blk3 m c t k _).trans (congrFun (V17 m c) _))

/-- What the launch leaves in its output array. -/
theorem final (c : Dev nD) : (dats m 0 c).arrAt 4 (cfgs 0).N = packRef (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point m c t y

end Cert.InProjIdeal.Value2

end
-- ==== Proof.OutRef.lean ====
/-
The output projection's reference, its result written over named parts.
-/
module

public import Idealize.ShloMosaic.Lib.Pipeline.ValueKit
public import Idealize.ShloMosaic.Lib.Pointwise
public import proofs.«01_k».proof.Proof.Gen.OutProjRefIdeal
public import proofs.«01_k».proof.Proof.Gen.OutProjRefIdeal.Run

@[expose] public section

set_option maxRecDepth 16384

noncomputable section

open Idealize.ShloMosaic Idealize.ShloMosaic.TcCoe Idealize.SL.Sem
open Idealize.ShloMosaic.Pipeline (Dat)

namespace Cert.OutProjRefIdeal.Parts

open Cert.OutProjRefIdeal Cert.OutProjRefIdeal.Gen

/-- The second branch with its heads in their own order. -/
def gRef (arg1 : FVec Ideal S16384x256 .bf16) : FVec Ideal S8x2048x256 .f32 :=
  (concatenate S8x2048x256 2 [⟨S8x2048x64, ((extractStridedSlice S8x2048x64 ![0, 0, 0] (shapeCast _ (extf .f32 arg1 bitsLt_bf16_f32) shapeCasts_S16384x256_S8x2048x256) slices_S8x2048x256_S8x2048x64_0_0_0) : FVec Ideal S8x2048x64 .f32)⟩, ⟨S8x2048x64, ((extractStridedSlice S8x2048x64 ![0, 0, 128] (shapeCast _ (extf .f32 arg1 bitsLt_bf16_f32) shapeCasts_S16384x256_S8x2048x256) slices_S8x2048x256_S8x2048x64_0_0_128) : FVec Ideal S8x2048x64 .f32)⟩, ⟨S8x2048x64, ((extractStridedSlice S8x2048x64 ![0, 0, 64] (shapeCast _ (extf .f32 arg1 bitsLt_bf16_f32) shapeCasts_S16384x256_S8x2048x256) slices_S8x2048x256_S8x2048x64_0_0_64) : FVec Ideal S8x2048x64 .f32)⟩, ⟨S8x2048x64, ((extractStridedSlice S8x2048x64 ![0, 0, 192] (shapeCast _ (extf .f32 arg1 bitsLt_bf16_f32) shapeCasts_S16384x256_S8x2048x256) slices_S8x2048x256_S8x2048x64_0_0_192) : FVec Ideal S8x2048x64 .f32)⟩] concatenates_S8x2048x64_S8x2048x64_S8x2048x64_S8x2048x64_S8x2048x256_d2 : FVec Ideal S8x2048x256 .f32)

/-- The three branches side by side. -/
def yRef (arg0 : FVec Ideal S16384x512 .bf16) (arg1 : FVec Ideal S16384x256 .bf16) (arg2 : FVec Ideal S16384x256 .bf16) : FVec Ideal S8x2048x1024 .f32 :=
  (concatenate S8x2048x1024 2 [⟨S8x2048x512, ((shapeCast _ (extf .f32 arg0 bitsLt_bf16_f32) shapeCasts_S16384x512_S8x2048x512) : FVec Ideal S8x2048x512 .f32)⟩, ⟨S8x2048x256, (((gRef arg1)) : FVec Ideal S8x2048x256 .f32)⟩, ⟨S8x2048x256, ((shapeCast _ (extf .f32 arg2 bitsLt_bf16_f32) shapeCasts_S16384x256_S8x2048x256) : FVec Ideal S8x2048x256 .f32)⟩] concatenates_S8x2048x512_S8x2048x256_S8x2048x256_S8x2048x1024_d2 : FVec Ideal S8x2048x1024 .f32)

/-- The output projection before its norm. -/
def oRef (arg0 : FVec Ideal S16384x512 .bf16) (arg1 : FVec Ideal S16384x256 .bf16) (arg2 : FVec Ideal S16384x256 .bf16) (arg6 : FVec Ideal S1024x1024 .f32) : FVec Ideal S8x2048x1024 .f32 :=
  (Host.dotGeneral dot_S8x2048x1024_S1024x1024_S8x2048x1024_2_0_01_1_n_n none ((yRef arg0 arg1 arg2)) arg6)

/-- The stream after the gated norm of a projection `o`. -/
def finRef (arg3 : FVec Ideal S8x2048x1024 .f32) (arg4 : FVec Ideal S16x3072 .f32) (arg5 : FVec Ideal S1024 .f32) (o : FVec Ideal S8x2048x1024 .f32) : FVec Ideal S16384x1024 .f32 :=
  shapeCast _ (addf arg3 (mulf (broadcastInDim S8x2048x1024 ![0, 1, 2] bcast_S8x1x1024_S8x2048x1024_0_1_2 (broadcastInDim S8x1x1024 ![0, 2] bcast_S8x1024_S8x1x1024_0_2 (extractStridedSlice S8x1024 ![0, 2048] arg4 slices_S16x3072_S8x1024_0_2048))) (mulf (mulf o (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf o o) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 arg5))))) shapeCasts_S8x2048x1024_S16384x1024

/-- What the reference's run leaves, over the named parts. -/
theorem res_eq (m : (ℓ : Loc nD τ sig) → Buf (Elt Ideal) ℓ) (c : Dev nD) :
    Value.res_out0 m c = finRef (m ((c.tc : Thread nD τ).loc main_arg3)) (m ((c.tc : Thread nD τ).loc main_arg4)) (m ((c.tc : Thread nD τ).loc main_arg5))
      (oRef (m ((c.tc : Thread nD τ).loc main_arg0)) (m ((c.tc : Thread nD τ).loc main_arg1)) (m ((c.tc : Thread nD τ).loc main_arg2)) (m ((c.tc : Thread nD τ).loc main_arg6))) := rfl

/-- The heads of the second branch: where a column of the reference's order is read from. -/
def swpN (j : ℕ) : ℕ := if j < 64 then j else if j < 128 then j + 64 else if j < 192 then j - 64 else j

theorem swpN_lt (j : ℕ) (h : j < 256) : swpN j < 256 := by
  unfold swpN
  split_ifs <;> omega

theorem swpN_swpN (j : ℕ) (h : j < 256) : swpN (swpN j) = j := by
  unfold swpN
  split_ifs <;> omega

/-- The same on the columns themselves. -/
def swp (j : Fin 256) : Fin 256 := ⟨swpN j.val, swpN_lt _ j.isLt⟩

theorem swp_swp (j : Fin 256) : swp (swp j) = j := Fin.ext (swpN_swpN _ j.isLt)

/-- A sum over the 1024 columns, branch by branch. -/
theorem sum_split3 (f : Fin 1024 → EReal) :
    ∑ k, f k = ∑ k : Fin 512, f ⟨k.val, by omega⟩ + ∑ k : Fin 256, f ⟨512 + k.val, by omega⟩ + ∑ k : Fin 256, f ⟨768 + k.val, by omega⟩ := by
  have h1 : ∑ k, f k = _ := Fin.sum_univ_add (M := EReal) (a := 768) (b := 256) f
  have h2 : ∑ k : Fin 768, f (⟨k.val, by omega⟩ : Fin 1024) = _ := Fin.sum_univ_add (M := EReal) (a := 512) (b := 256) fun i => f (⟨i.val, by omega⟩ : Fin 1024)
  exact h1.trans (congrArg (· + _) h2)

theorem gRef_at (a1 : FVec Ideal S16384x256 .bf16) (b : Fin 8) (r : Fin 2048) (j : Fin 256) :
    gRef a1 (ix3 b r j) = a1 (ix2 (⟨b.val * 2048 + r.val, by omega⟩ : Fin 16384) (swp j)) := by
  pointwise [gRef]
  split_ifs
  all_goals (congr 2 <;> apply Fin.ext <;> show _ = swpN j.val <;> unfold swpN <;> (try dsimp only) <;> split_ifs <;> omega)

theorem oRef_at (a0 : FVec Ideal S16384x512 .bf16) (a1 : FVec Ideal S16384x256 .bf16) (a2 : FVec Ideal S16384x256 .bf16) (w : FVec Ideal S1024x1024 .f32) (b : Fin 8) (r : Fin 2048) (n : Fin 1024) :
    oRef a0 a1 a2 w (ix3 b r n)
      = ∑ k : Fin 512, a0 (ix2 (⟨b.val * 2048 + r.val, by omega⟩ : Fin 16384) k) * w (ix2 (⟨k.val, by omega⟩ : Fin 1024) n)
        + ∑ k : Fin 256, a1 (ix2 (⟨b.val * 2048 + r.val, by omega⟩ : Fin 16384) k) * w (ix2 (⟨512 + (swp k).val, by omega⟩ : Fin 1024) n)
        + ∑ k : Fin 256, a2 (ix2 (⟨b.val * 2048 + r.val, by omega⟩ : Fin 16384) k) * w (ix2 (⟨768 + k.val, by omega⟩ : Fin 1024) n) := by
  have e0 : oRef a0 a1 a2 w (ix3 b r n) = ∑ k : Fin 1024, yRef a0 a1 a2 (ix3 b r k) * w (ix2 k n) := by
    unfold oRef
    generalize yRef a0 a1 a2 = y
    pointwise
  have e1 : ∀ k : Fin 512, yRef a0 a1 a2 (ix3 b r (⟨k.val, by omega⟩ : Fin 1024)) = a0 (ix2 (⟨b.val * 2048 + r.val, by omega⟩ : Fin 16384) k) := by
    intro k
    unfold yRef
    generalize gRef a1 = g
    pointwise
  have e2 : ∀ k : Fin 256, yRef a0 a1 a2 (ix3 b r (⟨512 + k.val, by omega⟩ : Fin 1024)) = gRef a1 (ix3 b r k) := by
    intro k
    unfold yRef
    generalize gRef a1 = g
    pointwise
  have e3 : ∀ k : Fin 256, yRef a0 a1 a2 (ix3 b r (⟨768 + k.val, by omega⟩ : Fin 1024)) = a2 (ix2 (⟨b.val * 2048 + r.val, by omega⟩ : Fin 16384) k) := by
    intro k
    unfold yRef
    generalize gRef a1 = g
    pointwise
    rw [dif_neg (by omega), dif_neg (by omega)]
    congr 2
    apply Fin.ext
    dsimp only
    omega
  rw [e0, sum_split3]
  simp only [e1, e2, e3, gRef_at]
  refine congrArg (· + _) (congrArg (_ + ·) ?_)
  refine Fintype.sum_equiv (Function.Involutive.toPerm swp swp_swp) _ _ fun k => ?_
  show a1 (ix2 _ (swp k)) * w (ix2 (⟨512 + k.val, _⟩ : Fin 1024) n) = a1 (ix2 _ (swp k)) * w (ix2 (⟨512 + (swp (swp k)).val, _⟩ : Fin 1024) n)
  simp only [swp_swp]

end Cert.OutProjRefIdeal.Parts

end
-- ==== Proof.OutVal.lean ====
/-
The output projection's weight as the kernel reads it, and one point of the launch.
-/
module

public import Idealize.ShloMosaic.Lib.Pipeline.ValueKit
public import Idealize.ShloMosaic.Lib.Pointwise
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.OutRef

@[expose] public section

set_option maxRecDepth 16384

noncomputable section

open Idealize.ShloMosaic Idealize.ShloMosaic.TcCoe Idealize.SL.Sem
open Idealize.ShloMosaic.Pipeline (Dat)

open Cert.OutProjRefIdeal.Parts (oRef finRef swp swpN oRef_at)

namespace Cert.OutProjIdeal.Value2

open Cert.OutProjIdeal Cert.OutProjIdeal.Gen

/-- A value of the kernel side before the launch. -/
def h_v0 (a6 : FVec Ideal S1024x1024 .f32) : FVec Ideal S576x1024 .f32 :=
  extractStridedSlice S576x1024 ![0, 0] a6 slices_S1024x1024_S576x1024_0_0

/-- A value of the kernel side before the launch. -/
def h_v1 (a6 : FVec Ideal S1024x1024 .f32) : FVec Ideal S64x1024 .f32 :=
  extractStridedSlice S64x1024 ![640, 0] a6 slices_S1024x1024_S64x1024_640_0

/-- A value of the kernel side before the launch. -/
def h_v2 (a6 : FVec Ideal S1024x1024 .f32) : FVec Ideal S64x1024 .f32 :=
  extractStridedSlice S64x1024 ![576, 0] a6 slices_S1024x1024_S64x1024_576_0

/-- A value of the kernel side before the launch. -/
def h_v3 (a6 : FVec Ideal S1024x1024 .f32) : FVec Ideal S320x1024 .f32 :=
  extractStridedSlice S320x1024 ![704, 0] a6 slices_S1024x1024_S320x1024_704_0

/-- A value of the kernel side before the launch. -/
def h_v4 (a6 : FVec Ideal S1024x1024 .f32) : FVec Ideal S1024x1024 .f32 :=
  concatenate S1024x1024 0 [⟨S576x1024, ((h_v0 a6) : FVec Ideal S576x1024 .f32)⟩, ⟨S64x1024, ((h_v1 a6) : FVec Ideal S64x1024 .f32)⟩, ⟨S64x1024, ((h_v2 a6) : FVec Ideal S64x1024 .f32)⟩, ⟨S320x1024, ((h_v3 a6) : FVec Ideal S320x1024 .f32)⟩] concatenates_S576x1024_S64x1024_S64x1024_S320x1024_S1024x1024_d0

/-- A value of the kernel side before the launch. -/
def h_v5 (a6 : FVec Ideal S1024x1024 .f32) : FVec Ideal S1024x1024 .bf16 :=
  truncf .bf16 (h_v4 a6) bitsLt_bf16_f32

/-- A stack of rows read in one of its pieces. -/
theorem cat_rows {α : Type} {R C w : ℕ} (xs : List ((s : Shape) × (s.Idx → α)))
    (h : Shape.Concatenates (xs.map (·.1)) (⟨2, ![R, C]⟩ : Shape) 0) (r : Fin R) (j : Fin C)
    (ss : List Shape) (hss : xs.map (·.1) = ss) (k : ℕ) (hk : k < ss.length) (pre : ℕ)
    (hpre : ((ss.take k).map fun s => if h : s.rank = 2 then s.size ((0 : Fin 2).cast h.symm) else 0).sum = pre)
    (x₁ : (⟨2, ![w, C]⟩ : Shape).Idx → α) (hxk : xs[k]'(by rw [← hss] at hk; simpa using hk) = ⟨⟨2, ![w, C]⟩, x₁⟩)
    (r' : Fin w) (hj : pre + r'.val = r.val) :
    concatenate (⟨2, ![R, C]⟩ : Shape) 0 xs h (ix2 r j) = x₁ (ix2 r' j) := by
  refine concatenate_apply_piece 0 xs h (ix2 r j) k (by rw [← hss] at hk; simpa using hk) _ x₁ hxk rfl pre (by rw [List.map_take, hss]; exact hpre) (ix2 r' j) ?_ ?_
  · intro b hb
    match b, hb with
    | ⟨0, _⟩, hb => exact absurd rfl hb
    | ⟨1, _⟩, _ => rfl
  · exact hj

theorem v5_4 (a6 : FVec Ideal S1024x1024 .f32) (k : Fin 1024) (j : Fin 1024) : h_v5 a6 (ix2 k j) = h_v4 a6 (ix2 k j) := rfl

theorem row_0 (a6 : FVec Ideal S1024x1024 .f32) (k : Fin 576) (j : Fin 1024) :
    h_v5 a6 (ix2 (⟨k.val, by omega⟩ : Fin 1024) j) = a6 (ix2 (⟨k.val, by omega⟩ : Fin 1024) j) := by
  rw [v5_4]
  unfold h_v4
  refine (cat_rows _ _ _ j [S576x1024, S64x1024, S64x1024, S320x1024] rfl 0 (by decide) 0 (by decide) (h_v0 a6) rfl k (by exact Nat.zero_add _)).trans ?_
  pointwise [h_v0]

theorem row_1 (a6 : FVec Ideal S1024x1024 .f32) (k : Fin 64) (j : Fin 1024) :
    h_v5 a6 (ix2 (⟨576 + k.val, by omega⟩ : Fin 1024) j) = a6 (ix2 (⟨640 + k.val, by omega⟩ : Fin 1024) j) := by
  rw [v5_4]
  unfold h_v4
  refine (cat_rows _ _ _ j [S576x1024, S64x1024, S64x1024, S320x1024] rfl 1 (by decide) 576 (by decide) (h_v1 a6) rfl k rfl).trans ?_
  pointwise [h_v1]

theorem row_2 (a6 : FVec Ideal S1024x1024 .f32) (k : Fin 64) (j : Fin 1024) :
    h_v5 a6 (ix2 (⟨640 + k.val, by omega⟩ : Fin 1024) j) = a6 (ix2 (⟨576 + k.val, by omega⟩ : Fin 1024) j) := by
  rw [v5_4]
  unfold h_v4
  refine (cat_rows _ _ _ j [S576x1024, S64x1024, S64x1024, S320x1024] rfl 2 (by decide) 640 (by decide) (h_v2 a6) rfl k rfl).trans ?_
  pointwise [h_v2]

theorem row_3 (a6 : FVec Ideal S1024x1024 .f32) (k : Fin 320) (j : Fin 1024) :
    h_v5 a6 (ix2 (⟨704 + k.val, by omega⟩ : Fin 1024) j) = a6 (ix2 (⟨704 + k.val, by omega⟩ : Fin 1024) j) := by
  rw [v5_4]
  unfold h_v4
  refine (cat_rows _ _ _ j [S576x1024, S64x1024, S64x1024, S320x1024] rfl 3 (by decide) 704 (by decide) (h_v3 a6) rfl k rfl).trans ?_
  pointwise [h_v3]

/-- The first branch's rows of the weight. -/
theorem wA (a6 : FVec Ideal S1024x1024 .f32) (k : Fin 512) (j : Fin 1024) :
    h_v5 a6 (ix2 (⟨k.val, by omega⟩ : Fin 1024) j) = a6 (ix2 (⟨k.val, by omega⟩ : Fin 1024) j) :=
  row_0 a6 ⟨k.val, by omega⟩ j

/-- The third branch's rows of the weight. -/
theorem wC (a6 : FVec Ideal S1024x1024 .f32) (k : Fin 256) (j : Fin 1024) :
    h_v5 a6 (ix2 (⟨768 + k.val, by omega⟩ : Fin 1024) j) = a6 (ix2 (⟨768 + k.val, by omega⟩ : Fin 1024) j) := by
  have h := row_3 a6 ⟨64 + k.val, by omega⟩ j
  simpa only [← Nat.add_assoc, Nat.reduceAdd] using h

/-- The second branch's rows of the weight, its heads in the kernel's order. -/
theorem wB (a6 : FVec Ideal S1024x1024 .f32) (k : Fin 256) (j : Fin 1024) :
    h_v5 a6 (ix2 (⟨512 + k.val, by omega⟩ : Fin 1024) j) = a6 (ix2 (⟨512 + (swp k).val, by omega⟩ : Fin 1024) j) := by
  have hs : (swp k).val = swpN k.val := rfl
  by_cases h1 : k.val < 64
  · have e : swpN k.val = k.val := by unfold swpN; split_ifs; rfl
    refine (row_0 a6 ⟨512 + k.val, by omega⟩ j).trans ?_
    congr 2; apply Fin.ext; show 512 + k.val = 512 + (swp k).val; omega
  by_cases h2 : k.val < 128
  · have e : swpN k.val = k.val + 64 := by unfold swpN; split_ifs; rfl
    refine Eq.trans ?_ ((row_1 a6 ⟨k.val - 64, by omega⟩ j).trans ?_)
    · congr 2; apply Fin.ext; show 512 + k.val = 576 + (k.val - 64); omega
    · congr 2; apply Fin.ext; show 640 + (k.val - 64) = 512 + (swp k).val; omega
  by_cases h3 : k.val < 192
  · have e : swpN k.val = k.val - 64 := by unfold swpN; split_ifs; rfl
    refine Eq.trans ?_ ((row_2 a6 ⟨k.val - 128, by omega⟩ j).trans ?_)
    · congr 2; apply Fin.ext; show 512 + k.val = 640 + (k.val - 128); omega
    · congr 2; apply Fin.ext; show 576 + (k.val - 128) = 512 + (swp k).val; omega
  · have e : swpN k.val = k.val := by unfold swpN; split_ifs; rfl
    refine Eq.trans ?_ ((row_3 a6 ⟨k.val - 192, by omega⟩ j).trans ?_)
    · congr 2; apply Fin.ext; show 512 + k.val = 704 + (k.val - 192); omega
    · congr 2; apply Fin.ext; show 704 + (k.val - 192) = 512 + (swp k).val; omega

variable (m : (ℓ : Loc nD τ sig) → Buf (Elt Ideal) ℓ)

/-- Where each window's block lies at a grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val / 2, 0, 0]
    ∧ win0_5.index t = ![0, 0]
    ∧ win0_6.index t = ![0, 0]
    ∧ win0_7.index t = ![t.val, 0] :=
  (by decide +kernel : ∀ t : Fin grid0.N, _)

/-- The weight as the launch finds it. -/
theorem V5 (c : Dev nD) : V m c main_v5 = h_v5 (m ((c : Thread nD τ).loc main_arg6)) := rfl

theorem t_lt (t : Fin cfg0.N) : t.val < 16 := t.isLt

/-- The weight's block is the whole weight. -/
theorem blk6 (c : Dev nD) (t : Fin cfg0.N) (k : Fin 1024) (j : Fin 1024) :
    iblk m c 6 t (ix2 k j) = h_v5 (m ((c : Thread nD τ).loc main_arg6)) (ix2 k j) := by
  have e : ((cfg0.win 6).blk t).view.emb (ix2 k j : S1024x1024.Idx) = (ix2 k j : S1024x1024.Idx) := by
    blk_ext [idx t]
  exact (congrArg (V m c main_v5) e).trans (congrFun (V5 m c) _)

theorem blk0 (c : Dev nD) (t : Fin cfg0.N) (i : Fin 1024) (k : Fin 512) :
    iblk m c 0 t (ix2 i k) = m ((c : Thread nD τ).loc main_arg0) (ix2 (⟨t.val * 1024 + i.val, by have := t_lt t; omega⟩ : Fin 16384) k) := by
  have e : ((cfg0.win 0).blk t).view.emb (ix2 i k : S1024x512.Idx) = (ix2 (⟨t.val * 1024 + i.val, by have := t_lt t; omega⟩ : Fin 16384) k : S16384x512.Idx) := by
    blk_ext [idx t]
  exact congrArg (V m c main_arg0) e

theorem blk1 (c : Dev nD) (t : Fin cfg0.N) (i : Fin 1024) (k : Fin 256) :
    iblk m c 1 t (ix2 i k) = m ((c : Thread nD τ).loc main_arg1) (ix2 (⟨t.val * 1024 + i.val, by have := t_lt t; omega⟩ : Fin 16384) k) := by
  have e : ((cfg0.win 1).blk t).view.emb (ix2 i k : S1024x256.Idx) = (ix2 (⟨t.val * 1024 + i.val, by have := t_lt t; omega⟩ : Fin 16384) k : S16384x256.Idx) := by
    blk_ext [idx t]
  exact congrArg (V m c main_arg1) e

theorem blk2 (c : Dev nD) (t : Fin cfg0.N) (i : Fin 1024) (k : Fin 256) :
    iblk m c 2 t (ix2 i k) = m ((c : Thread nD τ).loc main_arg2) (ix2 (⟨t.val * 1024 + i.val, by have := t_lt t; omega⟩ : Fin 16384) k) := by
  have e : ((cfg0.win 2).blk t).view.emb (ix2 i k : S1024x256.Idx) = (ix2 (⟨t.val * 1024 + i.val, by have := t_lt t; omega⟩ : Fin 16384) k : S16384x256.Idx) := by
    blk_ext [idx t]
  exact congrArg (V m c main_arg2) e

theorem ldW3 (X : Vec Ideal S1024x1024 .bf16) (i : Fin 512) (x : Fin 1024) :
    View.ld X r0_3 (ix2 i x) = X (ix2 (⟨i.val, by omega⟩ : Fin 1024) x) := by
  refine View.ld_unit_apply_of X _ _ _ _ _ fun a => ?_
  match a with
  | ⟨0, _⟩ => exact (Nat.zero_add _).symm
  | ⟨1, _⟩ => exact (Nat.zero_add _).symm

theorem ldW5 (X : Vec Ideal S1024x1024 .bf16) (i : Fin 256) (x : Fin 1024) :
    View.ld X r0_5 (ix2 i x) = X (ix2 (⟨512 + i.val, by omega⟩ : Fin 1024) x) := by
  refine View.ld_unit_apply_of X _ _ _ _ _ fun a => ?_
  match a with
  | ⟨0, _⟩ => exact rfl
  | ⟨1, _⟩ => exact (Nat.zero_add _).symm

theorem ldW6 (X : Vec Ideal S1024x1024 .bf16) (i : Fin 256) (x : Fin 1024) :
    View.ld X r0_6 (ix2 i x) = X (ix2 (⟨768 + i.val, by omega⟩ : Fin 1024) x) := by
  refine View.ld_unit_apply_of X _ _ _ _ _ fun a => ?_
  match a with
  | ⟨0, _⟩ => exact rfl
  | ⟨1, _⟩ => exact (Nat.zero_add _).symm

theorem ldA2 (X : Vec Ideal S1024x512 .bf16) (i : Fin 512) (x : Fin 512) :
    View.ld X r0_2 (ix2 i x) = X (ix2 (⟨i.val, by omega⟩ : Fin 1024) x) := by
  refine View.ld_unit_apply_of X _ _ _ _ _ fun a => ?_
  match a with
  | ⟨0, _⟩ => exact (Nat.zero_add _).symm
  | ⟨1, _⟩ => exact (Nat.zero_add _).symm

theorem ldA7 (X : Vec Ideal S1024x512 .bf16) (i : Fin 512) (x : Fin 512) :
    View.ld X r0_7 (ix2 i x) = X (ix2 (⟨512 + i.val, by omega⟩ : Fin 1024) x) := by
  refine View.ld_unit_apply_of X _ _ _ _ _ fun a => ?_
  match a with
  | ⟨0, _⟩ => exact rfl
  | ⟨1, _⟩ => exact (Nat.zero_add _).symm

theorem ldB4 (X : Vec Ideal S1024x256 .bf16) (i : Fin 512) (x : Fin 256) :
    View.ld X r0_4 (ix2 i x) = X (ix2 (⟨i.val, by omega⟩ : Fin 1024) x) := by
  refine View.ld_unit_apply_of X _ _ _ _ _ fun a => ?_
  match a with
  | ⟨0, _⟩ => exact (Nat.zero_add _).symm
  | ⟨1, _⟩ => exact (Nat.zero_add _).symm

theorem ldB8 (X : Vec Ideal S1024x256 .bf16) (i : Fin 512) (x : Fin 256) :
    View.ld X r0_8 (ix2 i x) = X (ix2 (⟨512 + i.val, by omega⟩ : Fin 1024) x) := by
  refine View.ld_unit_apply_of X _ _ _ _ _ fun a => ?_
  match a with
  | ⟨0, _⟩ => exact rfl
  | ⟨1, _⟩ => exact (Nat.zero_add _).symm

theorem pay3_at (A : Vec Ideal S512x512 .bf16) (WA : Vec Ideal S512x1024 .bf16) (B : Vec Ideal S512x256 .bf16) (WB : Vec Ideal S256x1024 .bf16) (C : Vec Ideal S512x256 .bf16) (WC : Vec Ideal S256x1024 .bf16) (i : Fin 512) (n : Fin 1024) :
    k0_pay3 A WA B WB C WC (ix2 i n) = ∑ k : Fin 512, A (ix2 i k) * WA (ix2 k n) + ∑ k : Fin 256, B (ix2 i k) * WB (ix2 k n) + ∑ k : Fin 256, C (ix2 i k) * WC (ix2 k n) := by
  pointwise [k0_pay3]

/-- The second half's projection, its last product added in the store's own value. -/
def lateAdd (v26 : FVec Ideal S512x1024 .f32) (v27 : FVec Ideal S512x256 .bf16) (v28 : FVec Ideal S256x1024 .bf16) : FVec Ideal S512x1024 .f32 :=
  addf v26 (matmul (φ₁ := .bf16) (φ₂ := .bf16) dot_S512x256_S256x1024_S512x1024_1_0_0_1_n_n none v27 (shapeCast S256x1024 v28 shapeCasts_S256x1024_S256x1024) (constant S512x1024 .f32 0x00000000#32))

theorem lateAdd_at (A : Vec Ideal S512x512 .bf16) (WA : Vec Ideal S512x1024 .bf16) (B : Vec Ideal S512x256 .bf16) (WB : Vec Ideal S256x1024 .bf16) (C : Vec Ideal S512x256 .bf16) (WC : Vec Ideal S256x1024 .bf16) (i : Fin 512) (n : Fin 1024) :
    lateAdd (k0_pay4 A WA B WB) C WC (ix2 i n) = ∑ k : Fin 512, A (ix2 i k) * WA (ix2 k n) + ∑ k : Fin 256, B (ix2 i k) * WB (ix2 k n) + ∑ k : Fin 256, C (ix2 i k) * WC (ix2 k n) := by
  pointwise [lateAdd, k0_pay4]

theorem pay6_eq (v1 v3 : FVec Ideal S1x1024 .f32) (v26 : FVec Ideal S512x1024 .f32) (v27 : Vec Ideal S512x256 .bf16) (v28 : Vec Ideal S256x1024 .bf16) (v62 : Vec Ideal S512x1024 .f32) :
    k0_pay6 v1 v3 v26 v27 v28 v62 = k0_pay5 v1 v3 (lateAdd v26 v27 v28) v62 := rfl

end Cert.OutProjIdeal.Value2

end
-- ==== Proof.OutPoint.lean ====
/-
The output projection: one point of the launch, and the whole result.
-/
module

public import Idealize.ShloMosaic.Lib.Pipeline.ValueKit
public import Idealize.ShloMosaic.Lib.Pointwise
public import proofs.«01_k».proof.Proof.OutVal

@[expose] public section

set_option maxRecDepth 16384

noncomputable section

open Idealize.ShloMosaic Idealize.ShloMosaic.TcCoe Idealize.SL.Sem
open Idealize.ShloMosaic.Pipeline (Dat)

open Cert.OutProjRefIdeal.Parts (oRef finRef swp oRef_at)

namespace Cert.OutProjIdeal.Value2

open Cert.OutProjIdeal Cert.OutProjIdeal.Gen

variable (m : (ℓ : Loc nD τ sig) → Buf (Elt Ideal) ℓ)

set_option maxHeartbeats 1600000 in
/-- The gated norm of a projection's rows, and the stream added to it. -/
theorem lower (c : Dev nD) (t : Fin cfg0.N) (v : FVec Ideal S512x1024 .f32) (o : FVec Ideal Cert.OutProjRefIdeal.S8x2048x1024 .f32)
    (i : Fin 512) (hO : ∀ n : Fin 1024, v (ix2 i n) = o (ix3 (⟨(t.val * 1024 + i.val) / 2048, by have := t_lt t; omega⟩ : Fin 8) (⟨(t.val * 1024 + i.val) % 2048, by omega⟩ : Fin 2048) n)) (n : Fin 1024) :
    k0_pay5 (k0_pay7 (iblk m c 0 t) (iblk m c 1 t) (iblk m c 2 t) (iblk m c 3 t) (iblk m c 4 t) (iblk m c 5 t) (iblk m c 6 t)) (k0_pay8 (iblk m c 0 t) (iblk m c 1 t) (iblk m c 2 t) (iblk m c 3 t) (iblk m c 4 t) (iblk m c 5 t) (iblk m c 6 t)) v (View.ld (iblk m c 3 t) r0_3) (ix2 i n)
      = finRef (m ((c : Thread nD τ).loc main_arg3)) (m ((c : Thread nD τ).loc main_arg4)) (m ((c : Thread nD τ).loc main_arg5)) o (ix2 (⟨t.val * 1024 + i.val, by have := t_lt t; omega⟩ : Fin 16384) n) := by
  pointwise [k0_pay5, k0_pay7, k0_pay8, finRef]
  simp only [hO]
  blk_point [iblk, V, idx t]

/-- The projection of a row, its three products against the weight's own rows. -/
theorem lower_sum (c : Dev nD) (t : Fin cfg0.N) (i : Fin 512) (n : Fin 1024) (X0 : Vec Ideal S1024x512 .bf16) (X1 X2 : Vec Ideal S1024x256 .bf16) (X6 : Vec Ideal S1024x1024 .bf16)
    (h0 : X0 = iblk m c 0 t) (h1 : X1 = iblk m c 1 t) (h2 : X2 = iblk m c 2 t) (h6 : X6 = iblk m c 6 t) :
    (∑ k : Fin 512, View.ld X0 r0_2 (ix2 i k) * View.ld X6 r0_3 (ix2 k n) + ∑ k : Fin 256, View.ld X1 r0_4 (ix2 i k) * View.ld X6 r0_5 (ix2 k n) + ∑ k : Fin 256, View.ld X2 r0_4 (ix2 i k) * View.ld X6 r0_6 (ix2 k n))
      = oRef (m ((c : Thread nD τ).loc main_arg0)) (m ((c : Thread nD τ).loc main_arg1)) (m ((c : Thread nD τ).loc main_arg2)) (m ((c : Thread nD τ).loc main_arg6)) (ix3 (⟨(t.val * 1024 + i.val) / 2048, by have := t_lt t; omega⟩ : Fin 8) (⟨(t.val * 1024 + i.val) % 2048, by omega⟩ : Fin 2048) n) := by
  subst h0 h1 h2 h6
  have ht := t_lt t
  rw [oRef_at]
  refine congrArg₂ (· + ·) (congrArg₂ (· + ·) ?_ ?_) ?_
  · refine Finset.sum_congr rfl fun k _ => congrArg₂ (· * ·) ?_ ?_
    · exact (ldA2 _ i k).trans ((blk0 m c t _ k).trans (congrArg (fun r => (m ((c : Thread nD τ).loc main_arg0)) (ix2 r k)) (Fin.ext (by dsimp only; omega))))
    · exact (ldW3 _ k n).trans ((blk6 m c t _ n).trans (wA _ k n))
  · refine Finset.sum_congr rfl fun k _ => congrArg₂ (· * ·) ?_ ?_
    · exact (ldB4 _ i k).trans ((blk1 m c t _ k).trans (congrArg (fun r => (m ((c : Thread nD τ).loc main_arg1)) (ix2 r k)) (Fin.ext (by dsimp only; omega))))
    · exact (ldW5 _ k n).trans ((blk6 m c t _ n).trans (wB _ k n))
  · refine Finset.sum_congr rfl fun k _ => congrArg₂ (· * ·) ?_ ?_
    · exact (ldB4 _ i k).trans ((blk2 m c t _ k).trans (congrArg (fun r => (m ((c : Thread nD τ).loc main_arg2)) (ix2 r k)) (Fin.ext (by dsimp only; omega))))
    · exact (ldW6 _ k n).trans ((blk6 m c t _ n).trans (wC _ k n))

set_option maxHeartbeats 1600000 in
/-- The gated norm of a projection's rows, and the stream added to it. -/
theorem upper (c : Dev nD) (t : Fin cfg0.N) (v : FVec Ideal S512x1024 .f32) (o : FVec Ideal Cert.OutProjRefIdeal.S8x2048x1024 .f32)
    (i : Fin 512) (hO : ∀ n : Fin 1024, v (ix2 i n) = o (ix3 (⟨(t.val * 1024 + (512 + i.val)) / 2048, by have := t_lt t; omega⟩ : Fin 8) (⟨(t.val * 1024 + (512 + i.val)) % 2048, by omega⟩ : Fin 2048) n)) (n : Fin 1024) :
    k0_pay5 (k0_pay7 (iblk m c 0 t) (iblk m c 1 t) (iblk m c 2 t) (iblk m c 3 t) (iblk m c 4 t) (iblk m c 5 t) (iblk m c 6 t)) (k0_pay8 (iblk m c 0 t) (iblk m c 1 t) (iblk m c 2 t) (iblk m c 3 t) (iblk m c 4 t) (iblk m c 5 t) (iblk m c 6 t)) v (View.ld (iblk m c 3 t) r0_9) (ix2 i n)
      = finRef (m ((c : Thread nD τ).loc main_arg3)) (m ((c : Thread nD τ).loc main_arg4)) (m ((c : Thread nD τ).loc main_arg5)) o (ix2 (⟨t.val * 1024 + (512 + i.val), by have := t_lt t; omega⟩ : Fin 16384) n) := by
  pointwise [k0_pay5, k0_pay7, k0_pay8, finRef]
  simp only [hO]
  blk_point [iblk, V, idx t]

/-- The projection of a row, its three products against the weight's own rows. -/
theorem upper_sum (c : Dev nD) (t : Fin cfg0.N) (i : Fin 512) (n : Fin 1024) (X0 : Vec Ideal S1024x512 .bf16) (X1 X2 : Vec Ideal S1024x256 .bf16) (X6 : Vec Ideal S1024x1024 .bf16)
    (h0 : X0 = iblk m c 0 t) (h1 : X1 = iblk m c 1 t) (h2 : X2 = iblk m c 2 t) (h6 : X6 = iblk m c 6 t) :
    (∑ k : Fin 512, View.ld X0 r0_7 (ix2 i k) * View.ld X6 r0_3 (ix2 k n) + ∑ k : Fin 256, View.ld X1 r0_8 (ix2 i k) * View.ld X6 r0_5 (ix2 k n) + ∑ k : Fin 256, View.ld X2 r0_8 (ix2 i k) * View.ld X6 r0_6 (ix2 k n))
      = oRef (m ((c : Thread nD τ).loc main_arg0)) (m ((c : Thread nD τ).loc main_arg1)) (m ((c : Thread nD τ).loc main_arg2)) (m ((c : Thread nD τ).loc main_arg6)) (ix3 (⟨(t.val * 1024 + (512 + i.val)) / 2048, by have := t_lt t; omega⟩ : Fin 8) (⟨(t.val * 1024 + (512 + i.val)) % 2048, by omega⟩ : Fin 2048) n) := by
  subst h0 h1 h2 h6
  have ht := t_lt t
  rw [oRef_at]
  refine congrArg₂ (· + ·) (congrArg₂ (· + ·) ?_ ?_) ?_
  · refine Finset.sum_congr rfl fun k _ => congrArg₂ (· * ·) ?_ ?_
    · exact (ldA7 _ i k).trans ((blk0 m c t _ k).trans (congrArg (fun r => (m ((c : Thread nD τ).loc main_arg0)) (ix2 r k)) (Fin.ext (by dsimp only; omega))))
    · exact (ldW3 _ k n).trans ((blk6 m c t _ n).trans (wA _ k n))
  · refine Finset.sum_congr rfl fun k _ => congrArg₂ (· * ·) ?_ ?_
    · exact (ldB8 _ i k).trans ((blk1 m c t _ k).trans (congrArg (fun r => (m ((c : Thread nD τ).loc main_arg1)) (ix2 r k)) (Fin.ext (by dsimp only; omega))))
    · exact (ldW5 _ k n).trans ((blk6 m c t _ n).trans (wB _ k n))
  · refine Finset.sum_congr rfl fun k _ => congrArg₂ (· * ·) ?_ ?_
    · exact (ldB8 _ i k).trans ((blk2 m c t _ k).trans (congrArg (fun r => (m ((c : Thread nD τ).loc main_arg2)) (ix2 r k)) (Fin.ext (by dsimp only; omega))))
    · exact (ldW6 _ k n).trans ((blk6 m c t _ n).trans (wC _ k n))

set_option maxHeartbeats 1600000 in
/-- One point's block of the output. -/
theorem point (c : Dev nD) (t : Fin cfg0.N) (y) :
    out0_7 (iblk m c 0 t) (iblk m c 1 t) (iblk m c 2 t) (iblk m c 3 t) (iblk m c 4 t) (iblk m c 5 t) (iblk m c 6 t) y
      = finRef (m ((c : Thread nD τ).loc main_arg3)) (m ((c : Thread nD τ).loc main_arg4)) (m ((c : Thread nD τ).loc main_arg5)) (oRef (m ((c : Thread nD τ).loc main_arg0)) (m ((c : Thread nD τ).loc main_arg1)) (m ((c : Thread nD τ).loc main_arg2)) (m ((c : Thread nD τ).loc main_arg6))) (((cfg0.win 7).blk t).view.emb y) := by
  have ht := t_lt t
  obtain ⟨y0, y1, rfl⟩ : ∃ (y0 : Fin 1024) (y1 : Fin 1024), y = ix2 y0 y1 := ⟨y 0, y 1, eq_ix2 y⟩
  have he : ((cfg0.win 7).blk t).view.emb (ix2 y0 y1 : S1024x1024.Idx) = (ix2 (⟨t.val * 1024 + y0.val, by omega⟩ : Fin 16384) y1 : S16384x1024.Idx) := by
    blk_ext [idx t]
  rw [he]
  canon_tiles x h
  · obtain ⟨x0, x1, rfl⟩ : ∃ (x0 : Fin 512) (x1 : Fin 1024), x = ix2 x0 x1 := ⟨x 0, x 1, eq_ix2 x⟩
    obtain rfl : y0 = (⟨512 + x0.val, by have h := x0.isLt; clear * - h; omega⟩ : Fin 1024) := Fin.ext h0
    obtain rfl : y1 = x1 := Fin.ext h1
    rw [pay6_eq]
    exact upper m c t _ _ x0 (fun n => (lateAdd_at _ _ _ _ _ _ x0 n).trans (upper_sum m c t x0 n _ _ _ _ rfl rfl rfl rfl)) _
  · obtain ⟨x0, x1, rfl⟩ : ∃ (x0 : Fin 512) (x1 : Fin 1024), x = ix2 x0 x1 := ⟨x 0, x 1, eq_ix2 x⟩
    obtain rfl : y0 = (⟨x0.val, by have h := x0.isLt; clear * - h; omega⟩ : Fin 1024) := Fin.ext h0
    obtain rfl : y1 = x1 := Fin.ext h1
    exact lower m c t _ _ x0 (fun n => (pay3_at _ _ _ _ _ _ x0 n).trans (lower_sum m c t x0 n _ _ _ _ rfl rfl rfl rfl)) _

/-- What the launch leaves in its output array. -/
theorem final (c : Dev nD) : (dats m 0 c).arrAt 7 (cfgs 0).N = finRef (m ((c : Thread nD τ).loc main_arg3)) (m ((c : Thread nD τ).loc main_arg4)) (m ((c : Thread nD τ).loc main_arg5)) (oRef (m ((c : Thread nD τ).loc main_arg0)) (m ((c : Thread nD τ).loc main_arg1)) (m ((c : Thread nD τ).loc main_arg2)) (m ((c : Thread nD τ).loc main_arg6))) := by
  refine (dats m 0 c).arrAt_eq_of_covers 7 _ (by decide +kernel) fun t hf y => ?_
  blk_simp; rw [after0_7]
  exact point m c t y

end Cert.OutProjIdeal.Value2

end
-- ==== Proof.Claims.lean ====
/-
The claims of the certificate, from the runs of the programs and the values proved of them.
-/
module

public import proofs.«01_k».proof.Defs
public import proofs.«01_k».proof.Proof.Gen.Gqa.Frame
public import proofs.«01_k».proof.Proof.Gen.GqaIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.Diff.Frame
public import proofs.«01_k».proof.Proof.Gen.DiffIdeal.Frame
public import proofs.«01_k».proof.Proof.Gen.Mod.Frame
public import proofs.«01_k».proof.Proof.Gen.ModIdeal.Frame
public import proofs.«01_k».proof.Proof.Gen.GqaIdeal.Value
public import proofs.«01_k».proof.Proof.Gen.ModIdeal.Value
public import proofs.«01_k».proof.Proof.Gen.InProjIdeal.Value
public import proofs.«01_k».proof.Proof.Gen.OutProjIdeal.Value
public import proofs.«01_k».proof.Proof.Gen.GqaRefIdeal.Run
public import proofs.«01_k».proof.Proof.Gen.InProjRefIdeal.Run
public import proofs.«01_k».proof.Proof.Gen.OutProjRefIdeal.Run
public import proofs.«01_k».proof.Proof.Gen.DiffRefIdeal.Run
public import proofs.«01_k».proof.Proof.Gen.ModRefIdeal.Run
public import proofs.«01_k».proof.Proof.GqaPre
public import proofs.«01_k».proof.Proof.GqaPoint
public import proofs.«01_k».proof.Proof.ModVal
public import proofs.«01_k».proof.Proof.InPoint
public import proofs.«01_k».proof.Proof.OutPoint
public import Idealize.ShloMosaic.Lib.Quiescent

@[expose] public section

set_option maxRecDepth 16384

noncomputable section

open Idealize.ShloMosaic Idealize.ShloMosaic.TcCoe Idealize.SL.Sem

namespace Cert.Proof.Layer

theorem keeps_Gqa : Cert.quiescent_Gqa := fun m ρ _ => Cert.Gqa.Gen.frame m ρ

theorem keeps_GqaIdeal : Cert.quiescent_GqaIdeal := fun m ρ _ => Cert.GqaIdeal.Gen.frame m ρ

theorem keeps_InProj : Cert.quiescent_InProj := fun m ρ _ => Cert.InProj.Gen.frame m ρ

theorem keeps_InProjIdeal : Cert.quiescent_InProjIdeal := fun m ρ _ => Cert.InProjIdeal.Gen.frame m ρ

theorem keeps_OutProj : Cert.quiescent_OutProj := fun m ρ _ => Cert.OutProj.Gen.frame m ρ

theorem keeps_OutProjIdeal : Cert.quiescent_OutProjIdeal := fun m ρ _ => Cert.OutProjIdeal.Gen.frame m ρ

theorem keeps_Diff : Cert.quiescent_Diff := fun m ρ _ => Cert.Diff.Gen.frame m ρ

theorem keeps_DiffIdeal : Cert.quiescent_DiffIdeal := fun m ρ _ => Cert.DiffIdeal.Gen.frame m ρ

theorem keeps_Mod : Cert.quiescent_Mod := fun m ρ _ => Cert.Mod.Gen.frame m ρ

theorem keeps_ModIdeal : Cert.quiescent_ModIdeal := fun m ρ _ => Cert.ModIdeal.Gen.frame m ρ

theorem keeps_GqaRefIdeal : Cert.quiescent_GqaRefIdeal := fun m ρ _ =>
  (θ_run Cert.GqaRefIdeal.defs _ _).mono (fun r h => ⟨fun c => (h c).2, Idealize.ShloMosaic.sem_eq_zero_of_no_sems (by decide) r.2⟩)
    (Cert.GqaRefIdeal.Value.run m ρ)

theorem keeps_InProjRefIdeal : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run m ρ)

theorem keeps_OutProjRefIdeal : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run m ρ)

theorem keeps_DiffRefIdeal : Cert.quiescent_DiffRefIdeal := fun m ρ _ =>
  (θ_run Cert.DiffRefIdeal.defs _ _).mono (fun r h => ⟨fun c => (h c).2, Idealize.ShloMosaic.sem_eq_zero_of_no_sems (by decide) r.2⟩)
    (Cert.DiffRefIdeal.Value.run m ρ)

theorem keeps_ModRefIdeal : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run m ρ)

theorem keeps_GqaIdeal_pre : Cert.quiescent_GqaIdeal_pre_norms_finite := fun m ρ _ => keeps_GqaIdeal m ρ trivial

theorem keeps_GqaRefIdeal_pre : Cert.quiescent_GqaRefIdeal_pre_norms_finite := fun m ρ _ => keeps_GqaRefIdeal m ρ trivial

/-- The grouped attention: the kernel and the reference leave the same array, where the queries, the keys and the gains
    of their norms are finite. -/
theorem same_gqa : Cert.algebraic_GqaIdeal_GqaRefIdeal_pre_norms_finite := by
  intro m ρ m' ρ' hpre hagree
  refine ⟨_, Cert.GqaIdeal.Value.run_blocks (F := Ideal) m ρ, ?_⟩
  refine (θ_run Cert.GqaRefIdeal.defs _ _).mono (fun _ h c => ⟨(h c).1.trans ?_, (h c).2⟩)
    (Cert.GqaRefIdeal.Parts.run_out m' ρ')
  obtain ⟨h0, h1, h2, h3⟩ := hagree c
  rw [h0, h1, h2, h3]
  exact (Cert.GqaIdeal.Point.final (Cert.Pre_norms_finite.ok _ _ _ _ (hpre c))).symm

/-- The named scale of the grouped attention. -/
theorem preserves_gqa : Cert.preserves_Gqa_GqaIdeal :=
  IdealRules.named_const.statement Cert.GqaIdeal.κ "scale_log2e" .f32 0x3E38AA3B#32 ((8⁻¹ * (Real.log 2)⁻¹ : ℝ) : EReal) rfl

/-- The named scale of the differential attention. -/
theorem preserves_diff : Cert.preserves_Diff_DiffIdeal :=
  IdealRules.named_const.statement Cert.DiffIdeal.κ "scale_log2e" .f32 0x3E8293EE#32 (((Real.sqrt 32)⁻¹ * (Real.log 2)⁻¹ : ℝ) : EReal) rfl

/-- The input projection: the kernel and the reference leave the same array. -/
theorem same_in : Cert.algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun _ h c => ⟨(h c).1.trans ?_, (h c).2⟩)
    (Cert.InProjRefIdeal.Value.run (F := Ideal) m' ρ')
  obtain ⟨h0, h1, h2, h3⟩ := hagree c
  refine (Cert.InProjRefIdeal.Parts.res_eq m' c).trans ?_
  rw [h0, h1, h2, h3]
  exact (Cert.InProjIdeal.Value2.final m c).symm

/-- The modulation: the kernel and the reference leave the same array. -/
theorem same_mod : Cert.algebraic_ModIdeal_ModRefIdeal := by
  intro m ρ m' ρ' _ hagree
  refine ⟨_, Cert.ModIdeal.Value.run_blocks (F := Ideal) m ρ, ?_⟩
  refine (θ_run Cert.ModRefIdeal.defs _ _).mono (fun _ h c => ⟨(h c).1.trans ?_, (h c).2⟩)
    (Cert.ModRefIdeal.Value.run (F := Ideal) m' ρ')
  obtain ⟨h0, h1, h2, h3⟩ := hagree c
  refine (Cert.ModRefIdeal.Parts.res_eq m' c).trans ?_
  rw [h0, h1, h2, h3]
  exact (Cert.ModIdeal.Value2.final m c).symm

/-- The output projection: the kernel and the reference leave the same array. -/
theorem same_out : Cert.algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun _ h c => ⟨(h c).1.trans ?_, (h c).2⟩)
    (Cert.OutProjRefIdeal.Value.run (F := Ideal) m' ρ')
  obtain ⟨h0, h1, h2, h3, h4, h5, h6⟩ := hagree c
  refine (Cert.OutProjRefIdeal.Parts.res_eq m' c).trans ?_
  rw [h0, h1, h2, h3, h4, h5, h6]
  exact (Cert.OutProjIdeal.Value2.final m c).symm

end Cert.Proof.Layer

end
-- ==== Proof.lean ====
/- The proof of the claims about five launches of one layer: what each leaves unchanged, the named scales, and the
   values of the two projections, of the modulation and of the grouped attention (Proof/Claims.lean). -/
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModIdeal.Value
public import proofs.«01_k».proof.Proof.Gen.ModRefIdeal.Run
public import proofs.«01_k».proof.Proof.Gen.Pre_norms_finite
public import proofs.«01_k».proof.Proof.Gen.GqaIdeal.Value
public import proofs.«01_k».proof.Proof.Gen.InProjIdeal.Value
public import proofs.«01_k».proof.Proof.Gen.OutProjIdeal.Value
public import proofs.«01_k».proof.Proof.Gen.DiffIdeal.Value
public import proofs.«01_k».proof.Proof.Gen.GqaRefIdeal.Run
public import proofs.«01_k».proof.Proof.Gen.InProjRefIdeal.Run
public import proofs.«01_k».proof.Proof.Gen.OutProjRefIdeal.Run
public import proofs.«01_k».proof.Proof.Gen.DiffRefIdeal.Run
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim := ⟨Cert.Gqa.Gen.facts, Cert.GqaIdeal.Gen.facts, Cert.GqaRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Diff.Gen.facts, Cert.DiffIdeal.Gen.facts, Cert.DiffRefIdeal.Gen.facts, Cert.Mod.Gen.facts, Cert.ModIdeal.Gen.facts, Cert.ModRefIdeal.Gen.facts, Cert.Pre_norms_finite.Gen.facts,
  Layer.keeps_Gqa, Layer.keeps_GqaIdeal, Layer.keeps_GqaIdeal_pre, Layer.keeps_GqaRefIdeal, Layer.keeps_GqaRefIdeal_pre,
  Layer.keeps_InProj, Layer.keeps_InProjIdeal, Layer.keeps_InProjRefIdeal,
  Layer.keeps_OutProj, Layer.keeps_OutProjIdeal, Layer.keeps_OutProjRefIdeal,
  Layer.keeps_Diff, Layer.keeps_DiffIdeal, Layer.keeps_DiffRefIdeal,
  Layer.keeps_Mod, Layer.keeps_ModIdeal, Layer.keeps_ModRefIdeal,
  Layer.preserves_gqa, Layer.same_gqa, trivial, Layer.same_in, trivial, Layer.same_out, Layer.preserves_diff, trivial, Layer.same_mod⟩

end Cert.Proof

end
